-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg0) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)) (v2 : (c : Dev Cert.Kernel14Ideal.nD) → Buf (Elt Ideal) ((c.tc : Thread Cert.Kernel14Ideal.nD Cert.Kernel14Ideal.τ).loc Cert.Kernel14Ideal.main_v5_2)) (v3 : (c : Dev Cert.Kernel14Ideal.nD) → Buf (Elt Ideal) ((c.tc : Thread Cert.Kernel14Ideal.nD Cert.Kernel14Ideal.τ).loc Cert.Kernel14Ideal.main_v5_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_v5_2) = v2 c
          ∧ r.2.mem ((c.tc : Thread Cert.Kernel14Ideal.nD Cert.Kernel14Ideal.τ).loc Cert.Kernel14Ideal.main_v5_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)) (v2 : (c : Dev Cert.Kernel15Ideal.nD) → Buf (Elt Ideal) ((c.tc : Thread Cert.Kernel15Ideal.nD Cert.Kernel15Ideal.τ).loc Cert.Kernel15Ideal.main_v5_2)) (v3 : (c : Dev Cert.Kernel15Ideal.nD) → Buf (Elt Ideal) ((c.tc : Thread Cert.Kernel15Ideal.nD Cert.Kernel15Ideal.τ).loc Cert.Kernel15Ideal.main_v5_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_v5_2) = v2 c
          ∧ r.2.mem ((c.tc : Thread Cert.Kernel15Ideal.nD Cert.Kernel15Ideal.τ).loc Cert.Kernel15Ideal.main_v5_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)) (v2 : (c : Dev Cert.Kernel16Ideal.nD) → Buf (Elt Ideal) ((c.tc : Thread Cert.Kernel16Ideal.nD Cert.Kernel16Ideal.τ).loc Cert.Kernel16Ideal.main_v6_2)) (v3 : (c : Dev Cert.Kernel16Ideal.nD) → Buf (Elt Ideal) ((c.tc : Thread Cert.Kernel16Ideal.nD Cert.Kernel16Ideal.τ).loc Cert.Kernel16Ideal.main_v6_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_v6_2) = v2 c
          ∧ r.2.mem ((c.tc : Thread Cert.Kernel16Ideal.nD Cert.Kernel16Ideal.τ).loc Cert.Kernel16Ideal.main_v6_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)) (v2 : (c : Dev Cert.Kernel17Ideal.nD) → Buf (Elt Ideal) ((c.tc : Thread Cert.Kernel17Ideal.nD Cert.Kernel17Ideal.τ).loc Cert.Kernel17Ideal.main_v5_2)) (v3 : (c : Dev Cert.Kernel17Ideal.nD) → Buf (Elt Ideal) ((c.tc : Thread Cert.Kernel17Ideal.nD Cert.Kernel17Ideal.τ).loc Cert.Kernel17Ideal.main_v5_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_v5_2) = v2 c
          ∧ r.2.mem ((c.tc : Thread Cert.Kernel17Ideal.nD Cert.Kernel17Ideal.τ).loc Cert.Kernel17Ideal.main_v5_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)) (v2 : (c : Dev Cert.Kernel18Ideal.nD) → Buf (Elt Ideal) ((c.tc : Thread Cert.Kernel18Ideal.nD Cert.Kernel18Ideal.τ).loc Cert.Kernel18Ideal.main_v5_2)) (v3 : (c : Dev Cert.Kernel18Ideal.nD) → Buf (Elt Ideal) ((c.tc : Thread Cert.Kernel18Ideal.nD Cert.Kernel18Ideal.τ).loc Cert.Kernel18Ideal.main_v5_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_v5_2) = v2 c
          ∧ r.2.mem ((c.tc : Thread Cert.Kernel18Ideal.nD Cert.Kernel18Ideal.τ).loc Cert.Kernel18Ideal.main_v5_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)) (v3 : (c : Dev Cert.Kernel19Ideal.nD) → Buf (Elt Ideal) ((c.tc : Thread Cert.Kernel19Ideal.nD Cert.Kernel19Ideal.τ).loc Cert.Kernel19Ideal.main_v5_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5_0) = v0 c
          ∧ r.2.mem ((c.tc : Thread Cert.Kernel19Ideal.nD Cert.Kernel19Ideal.τ).loc Cert.Kernel19Ideal.main_v5_1) = v1 c
          ∧ r.2.mem ((c.tc : Thread Cert.Kernel19Ideal.nD Cert.Kernel19Ideal.τ).loc Cert.Kernel19Ideal.main_v5_2) = v2 c
          ∧ r.2.mem ((c.tc : Thread Cert.Kernel19Ideal.nD Cert.Kernel19Ideal.τ).loc Cert.Kernel19Ideal.main_v5_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)) (v2 : (c : Dev Cert.Kernel20Ideal.nD) → Buf (Elt Ideal) ((c.tc : Thread Cert.Kernel20Ideal.nD Cert.Kernel20Ideal.τ).loc Cert.Kernel20Ideal.main_v5_2)) (v3 : (c : Dev Cert.Kernel20Ideal.nD) → Buf (Elt Ideal) ((c.tc : Thread Cert.Kernel20Ideal.nD Cert.Kernel20Ideal.τ).loc Cert.Kernel20Ideal.main_v5_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_v5_2) = v2 c
          ∧ r.2.mem ((c.tc : Thread Cert.Kernel20Ideal.nD Cert.Kernel20Ideal.τ).loc Cert.Kernel20Ideal.main_v5_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v48) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_v23) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel11_Kernel11Ideal
    ∧ algebraic_Kernel11Ideal_Reference11Ideal (hKernel11Ideal := hKernel11Ideal) (hReference11Ideal := hReference11Ideal)
-- ==== Pre_finite.lean ====
abbrev S1x4096x16x64 : Shape := ⟨4, ![1, 4096, 16, 64]⟩
abbrev S1x4096x2x64 : Shape := ⟨4, ![1, 4096, 2, 64]⟩
abbrev S16 : Shape := ⟨1, ![16]⟩
abbrev S1x4096x1024 : Shape := ⟨3, ![1, 4096, 1024]⟩
abbrev S_ : Shape := ⟨0, ![]⟩

class Facts : Prop where
  bcast_S_S1x4096x16x64 : S_.BroadcastsInDim S1x4096x16x64 (![] : Fin 0 → Fin S1x4096x16x64.rank)
  bcast_S_S1x4096x2x64 : S_.BroadcastsInDim S1x4096x2x64 (![] : Fin 0 → Fin S1x4096x2x64.rank)
  bcast_S_S16 : S_.BroadcastsInDim S16 (![] : Fin 0 → Fin S16.rank)
  bcast_S_S1x4096x1024 : S_.BroadcastsInDim S1x4096x1024 (![] : Fin 0 → Fin S1x4096x1024.rank)

variable [Facts]

def fn {F : FTy → Type} [FloatOps F] (main_arg0 : FVec F S1x4096x16x64 .f32) (main_arg1 : FVec F S1x4096x2x64 .f32) (main_arg2 : FVec F S1x4096x2x64 .f32) (main_arg3 : FVec F S16 .f32) (main_arg4 : FVec F S1x4096x1024 .f32) : IVec S1x4096x16x64 1 × IVec S1x4096x2x64 1 × IVec S1x4096x2x64 1 × IVec S16 1 × IVec S1x4096x1024 1 :=
  let main_v0 : FVec F S1x4096x16x64 .f32 := Host.absf main_arg0
  let main_cst : FVec F S_ .f32 := constant S_ .f32 0x7F800000#32
  let main_v1 : FVec F S1x4096x16x64 .f32 := broadcastInDim S1x4096x16x64 ![] bcast_S_S1x4096x16x64 main_cst
  let main_v2 : IVec S1x4096x16x64 1 := cmpf .olt main_v0 main_v1
  let main_v3 : FVec F S1x4096x2x64 .f32 := Host.absf main_arg1
  let main_cst_0 : FVec F S_ .f32 := constant S_ .f32 0x7F800000#32
  let main_v4 : FVec F S1x4096x2x64 .f32 := broadcastInDim S1x4096x2x64 ![] bcast_S_S1x4096x2x64 main_cst_0
  let main_v5 : IVec S1x4096x2x64 1 := cmpf .olt main_v3 main_v4
  let main_v6 : FVec F S1x4096x2x64 .f32 := Host.absf main_arg2
  let main_cst_1 : FVec F S_ .f32 := constant S_ .f32 0x7F800000#32
  let main_v7 : FVec F S1x4096x2x64 .f32 := broadcastInDim S1x4096x2x64 ![] bcast_S_S1x4096x2x64 main_cst_1
  let main_v8 : IVec S1x4096x2x64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Kernel.lean ====
abbrev S1x4096x16x64 : Shape := ⟨4, ![1, 4096, 16, 64]⟩
abbrev S1x4096x2x64 : Shape := ⟨4, ![1, 4096, 2, 64]⟩
abbrev S16 : Shape := ⟨1, ![16]⟩
abbrev S1x4096x1024 : Shape := ⟨3, ![1, 4096, 1024]⟩
abbrev S4096x16x64 : Shape := ⟨3, ![4096, 16, 64]⟩
abbrev S16x4096x64 : Shape := ⟨3, ![16, 4096, 64]⟩
abbrev S4096x2x64 : Shape := ⟨3, ![4096, 2, 64]⟩
abbrev S2x4096x64 : Shape := ⟨3, ![2, 4096, 64]⟩
abbrev S2x8 : Shape := ⟨2, ![2, 8]⟩
abbrev S2x8x128 : Shape := ⟨3, ![2, 8, 128]⟩
abbrev S2x1024 : Shape := ⟨2, ![2, 1024]⟩
abbrev S2x1024x1 : Shape := ⟨3, ![2, 1024, 1]⟩
abbrev S2x32x256x64 : Shape := ⟨4, ![2, 32, 256, 64]⟩
abbrev S16x1x128 : Shape := ⟨3, ![16, 1, 128]⟩
abbrev S8x128x64 : Shape := ⟨3, ![8, 128, 64]⟩
abbrev S1x128x64 : Shape := ⟨3, ![1, 128, 64]⟩
abbrev S1x1024x1 : Shape := ⟨3, ![1, 1024, 1]⟩
abbrev S1x1x256x64 : Shape := ⟨4, ![1, 1, 256, 64]⟩
abbrev S8x1x128 : Shape := ⟨3, ![8, 1, 128]⟩
abbrev S1024x256 : Shape := ⟨2, ![1024, 256]⟩
abbrev S128x64 : Shape := ⟨2, ![128, 64]⟩
abbrev S256x64 : Shape := ⟨2, ![256, 64]⟩
abbrev S1024x64 : Shape := ⟨2, ![1024, 64]⟩
abbrev S1024x1 : Shape := ⟨2, ![1024, 1]⟩
abbrev S1024 : Shape := ⟨1, ![1024]⟩
abbrev S128x1 : Shape := ⟨2, ![128, 1]⟩
abbrev S1 : Shape := ⟨1, ![1]⟩
abbrev S1x1 : Shape := ⟨2, ![1, 1]⟩
abbrev S1x128 : Shape := ⟨2, ![1, 128]⟩
abbrev S1x1x128 : Shape := ⟨3, ![1, 1, 128]⟩

abbrev nBuf : Space → Nat
  | .hbm => 22
  | .vmem => 22
  | .smem => 0
  | _ => 0

abbrev bufTy : (tb : Table) → Fin (tcTables nBuf tb) → BufTy
  | .hbm, ⟨0, _⟩ => ⟨S1x4096x16x64, .f32⟩
  | .hbm, ⟨1, _⟩ => ⟨S1x4096x2x64, .f32⟩
  | .hbm, ⟨2, _⟩ => ⟨S1x4096x2x64, .f32⟩
  | .hbm, ⟨3, _⟩ => ⟨S16, .f32⟩
  | .hbm, ⟨4, _⟩ => ⟨S1x4096x1024, .f32⟩
  | .hbm, ⟨5, _⟩ => ⟨S4096x16x64, .f32⟩
  | .hbm, ⟨6, _⟩ => ⟨S16x4096x64, .f32⟩
  | .hbm, ⟨7, _⟩ => ⟨S4096x2x64, .f32⟩
  | .hbm, ⟨8, _⟩ => ⟨S2x4096x64, .f32⟩
  | .hbm, ⟨9, _⟩ => ⟨S4096x2x64, .f32⟩
  | .hbm, ⟨10, _⟩ => ⟨S2x4096x64, .f32⟩
  | .hbm, ⟨11, _⟩ => ⟨S2x8, .f32⟩
  | .hbm, ⟨12, _⟩ => ⟨S2x8x128, .f32⟩
  | .hbm, ⟨13, _⟩ => ⟨S2x1024, .f32⟩
  | .hbm, ⟨14, _⟩ => ⟨S2x1024x1, .f32⟩
  | .hbm, ⟨15, _⟩ => ⟨S1x4096x1024, .bf16⟩
  | .hbm, ⟨16, _⟩ => ⟨S4096x16x64, .bf16⟩
  | .hbm, ⟨17, _⟩ => ⟨S16x4096x64, .bf16⟩
  | .hbm, ⟨18, _⟩ => ⟨S16x4096x64, .bf16⟩
  | .hbm, ⟨19, _⟩ => ⟨S2x32x256x64, .f32⟩
  | .hbm, ⟨20, _⟩ => ⟨S2x32x256x64, .f32⟩
  | .hbm, ⟨21, _⟩ => ⟨S16x1x128, .f32⟩
  | .local _ .vmem, ⟨0, _⟩ => ⟨S8x128x64, .f32⟩
  | .local _ .vmem, ⟨1, _⟩ => ⟨S8x128x64, .f32⟩
  | .local _ .vmem, ⟨2, _⟩ => ⟨S8x128x64, .bf16⟩
  | .local _ .vmem, ⟨3, _⟩ => ⟨S8x128x64, .bf16⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x64, .f32⟩
  | .local _ .vmem, ⟨12, _⟩ => ⟨S1x1024x1, .f32⟩
  | .local _ .vmem, ⟨13, _⟩ => ⟨S1x1024x1, .f32⟩
  | .local _ .vmem, ⟨14, _⟩ => ⟨S8x128x64, .bf16⟩
  | .local _ .vmem, ⟨15, _⟩ => ⟨S8x128x64, .bf16⟩
  | .local _ .vmem, ⟨16, _⟩ => ⟨S1x1x256x64, .f32⟩
  | .local _ .vmem, ⟨17, _⟩ => ⟨S1x1x256x64, .f32⟩
  | .local _ .vmem, ⟨18, _⟩ => ⟨S1x1x256x64, .f32⟩
  | .local _ .vmem, ⟨19, _⟩ => ⟨S1x1x256x64, .f32⟩
  | .local _ .vmem, ⟨20, _⟩ => ⟨S8x1x128, .f32⟩
  | .local _ .vmem, ⟨21, _⟩ => ⟨S8x1x128, .f32⟩
  | _, _ => ⟨S1x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32_48 : BitVec 32 := 0#32
  let v94 : BitVec 1 := Scalar.cmpi .eq arg1 c0_i32_48
  let v95 : BitVec 32 := Scalar.extui v94
  let c0_i32_49 : BitVec 32 := 0#32
  let v96 : BitVec 1 := Scalar.cmpi .ne v95 c0_i32_49
  v96

def k0_cond2 (i : grid0.Coords) : BitVec 1 :=
  let arg1 : BitVec 32 := BitVec.ofNat 32 (i 1).val
  let c0_i32_50 : BitVec 32 := 0#32
  let v97 : BitVec 1 := Scalar.cmpi .sgt arg1 c0_i32_50
  let v98 : BitVec 32 := Scalar.extui v97
  let c0_i32_51 : BitVec 32 := 0#32
  let v99 : BitVec 1 := Scalar.cmpi .ne v98 c0_i32_51
  v99

def k0_cond3 (i : grid0.Coords) : BitVec 1 :=
  let arg1 : BitVec 32 := BitVec.ofNat 32 (i 1).val
  let c0_i32_54 : BitVec 32 := 0#32
  let v107 : BitVec 1 := Scalar.cmpi .eq arg1 c0_i32_54
  let v108 : BitVec 32 := Scalar.extui v107
  let c0_i32_55 : BitVec 32 := 0#32
  let v109 : BitVec 1 := Scalar.cmpi .ne v108 c0_i32_55
  v109

def k0_cond4 (i : grid0.Coords) : BitVec 1 :=
  let arg1 : BitVec 32 := BitVec.ofNat 32 (i 1).val
  let c0_i32_56 : BitVec 32 := 0#32
  let v110 : BitVec 1 := Scalar.cmpi .sgt arg1 c0_i32_56
  let v111 : BitVec 32 := Scalar.extui v110
  let c0_i32_57 : BitVec 32 := 0#32
  let v112 : BitVec 1 := Scalar.cmpi .ne v111 c0_i32_57
  v112

def k0_cond5 (i : grid0.Coords) : BitVec 1 :=
  let arg1 : BitVec 32 := BitVec.ofNat 32 (i 1).val
  let c0_i32_60 : BitVec 32 := 0#32
  let v120 : BitVec 1 := Scalar.cmpi .eq arg1 c0_i32_60
  let v121 : BitVec 32 := Scalar.extui v120
  let c0_i32_61 : BitVec 32 := 0#32
  let v122 : BitVec 1 := Scalar.cmpi .ne v121 c0_i32_61
  v122

def k0_cond6 (i : grid0.Coords) : BitVec 1 :=
  let arg1 : BitVec 32 := BitVec.ofNat 32 (i 1).val
  let c0_i32_62 : BitVec 32 := 0#32
  let v123 : BitVec 1 := Scalar.cmpi .sgt arg1 c0_i32_62
  let v124 : BitVec 32 := Scalar.extui v123
  let c0_i32_63 : BitVec 32 := 0#32
  let v125 : BitVec 1 := Scalar.cmpi .ne v124 c0_i32_63
  v125

def k0_cond7 (i : grid0.Coords) : BitVec 1 :=
  let arg1 : BitVec 32 := BitVec.ofNat 32 (i 1).val
  let c0_i32_66 : BitVec 32 := 0#32
  let v133 : BitVec 1 := Scalar.cmpi .eq arg1 c0_i32_66
  let v134 : BitVec 32 := Scalar.extui v133
  let c0_i32_67 : BitVec 32 := 0#32
  let v135 : BitVec 1 := Scalar.cmpi .ne v134 c0_i32_67
  v135

def k0_cond8 (i : grid0.Coords) : BitVec 1 :=
  let arg1 : BitVec 32 := BitVec.ofNat 32 (i 1).val
  let c0_i32_68 : BitVec 32 := 0#32
  let v136 : BitVec 1 := Scalar.cmpi .sgt arg1 c0_i32_68
  let v137 : BitVec 32 := Scalar.extui v136
  let c0_i32_69 : BitVec 32 := 0#32
  let v138 : BitVec 1 := Scalar.cmpi .ne v137 c0_i32_69
  v138

def k0_cond9 (i : grid0.Coords) : BitVec 1 :=
  let arg1 : BitVec 32 := BitVec.ofNat 32 (i 1).val
  let c0_i32_72 : BitVec 32 := 0#32
  let v146 : BitVec 1 := Scalar.cmpi .eq arg1 c0_i32_72
  let v147 : BitVec 32 := Scalar.extui v146
  let c0_i32_73 : BitVec 32 := 0#32
  let v148 : BitVec 1 := Scalar.cmpi .ne v147 c0_i32_73
  v148

def k0_cond10 (i : grid0.Coords) : BitVec 1 :=
  let arg1 : BitVec 32 := BitVec.ofNat 32 (i 1).val
  let c0_i32_74 : BitVec 32 := 0#32
  let v149 : BitVec 1 := Scalar.cmpi .sgt arg1 c0_i32_74
  let v150 : BitVec 32 := Scalar.extui v149
  let c0_i32_75 : BitVec 32 := 0#32
  let v151 : BitVec 1 := Scalar.cmpi .ne v150 c0_i32_75
  v151

def k0_cond11 (i : grid0.Coords) : BitVec 1 :=
  let arg1 : BitVec 32 := BitVec.ofNat 32 (i 1).val
  let c0_i32_78 : BitVec 32 := 0#32
  let v159 : BitVec 1 := Scalar.cmpi .eq arg1 c0_i32_78
  let v160 : BitVec 32 := Scalar.extui v159
  let c0_i32_79 : BitVec 32 := 0#32
  let v161 : BitVec 1 := Scalar.cmpi .ne v160 c0_i32_79
  v161

def k0_cond12 (i : grid0.Coords) : BitVec 1 :=
  let arg1 : BitVec 32 := BitVec.ofNat 32 (i 1).val
  let c0_i32_80 : BitVec 32 := 0#32
  let v162 : BitVec 1 := Scalar.cmpi .sgt arg1 c0_i32_80
  let v163 : BitVec 32 := Scalar.extui v162
  let c0_i32_81 : BitVec 32 := 0#32
  let v164 : BitVec 1 := Scalar.cmpi .ne v163 c0_i32_81
  v164

def k0_cond13 (i : grid0.Coords) : BitVec 1 :=
  let arg1 : BitVec 32 := BitVec.ofNat 32 (i 1).val
  let c0_i32_84 : BitVec 32 := 0#32
  let v172 : BitVec 1 := Scalar.cmpi .eq arg1 c0_i32_84
  let v173 : BitVec 32 := Scalar.extui v172
  let c0_i32_85 : BitVec 32 := 0#32
  let v174 : BitVec 1 := Scalar.cmpi .ne v173 c0_i32_85
  v174

def k0_cond14 (i : grid0.Coords) : BitVec 1 :=
  let arg1 : BitVec 32 := BitVec.ofNat 32 (i 1).val
  let c0_i32_86 : BitVec 32 := 0#32
  let v175 : BitVec 1 := Scalar.cmpi .sgt arg1 c0_i32_86
  let v176 : BitVec 32 := Scalar.extui v175
  let c0_i32_87 : BitVec 32 := 0#32
  let v177 : BitVec 1 := Scalar.cmpi .ne v176 c0_i32_87
  v177

def k0_cond15 (i : grid0.Coords) : BitVec 1 :=
  let arg1 : BitVec 32 := BitVec.ofNat 32 (i 1).val
  let c0_i32_90 : BitVec 32 := 0#32
  let v185 : BitVec 1 := Scalar.cmpi .eq arg1 c0_i32_90
  let v186 : BitVec 32 := Scalar.extui v185
  let c0_i32_91 : BitVec 32 := 0#32
  let v187 : BitVec 1 := Scalar.cmpi .ne v186 c0_i32_91
  v187

def k0_cond16 (i : grid0.Coords) : BitVec 1 :=
  let arg1 : BitVec 32 := BitVec.ofNat 32 (i 1).val
  let c0_i32_92 : BitVec 32 := 0#32
  let v188 : BitVec 1 := Scalar.cmpi .sgt arg1 c0_i32_92
  let v189 : BitVec 32 := Scalar.extui v188
  let c0_i32_93 : BitVec 32 := 0#32
  let v190 : BitVec 1 := Scalar.cmpi .ne v189 c0_i32_93
  v190

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S1x4096x16x64 : Shape := ⟨4, ![1, 4096, 16, 64]⟩
abbrev S1x4096x2x64 : Shape := ⟨4, ![1, 4096, 2, 64]⟩
abbrev S16 : Shape := ⟨1, ![16]⟩
abbrev S1x4096x1024 : Shape := ⟨3, ![1, 4096, 1024]⟩
abbrev S_ : Shape := ⟨0, ![]⟩
abbrev S1x128x2x64 : Shape := ⟨4, ![1, 128, 2, 64]⟩
abbrev S1x4224x2x64 : Shape := ⟨4, ![1, 4224, 2, 64]⟩
abbrev S1x33x128x2x64 : Shape := ⟨5, ![1, 33, 128, 2, 64]⟩
abbrev S1x32x128x2x64 : Shape := ⟨5, ![1, 32, 128, 2, 64]⟩
abbrev S1x32x256x2x64 : Shape := ⟨5, ![1, 32, 256, 2, 64]⟩
abbrev S1x32x128x2x8x64 : Shape := ⟨6, ![1, 32, 128, 2, 8, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S1x32x2x8x128 : Shape := ⟨5, ![1, 32, 2, 8, 128]⟩
abbrev S1x32x2x8x128x1 : Shape := ⟨6, ![1, 32, 2, 8, 128, 1]⟩
abbrev S1x32x2x64x8x128 : Shape := ⟨6, ![1, 32, 2, 64, 8, 128]⟩
abbrev S1x32x2x64x256 : Shape := ⟨5, ![1, 32, 2, 64, 256]⟩
abbrev S1x2x8x1 : Shape := ⟨4, ![1, 2, 8, 1]⟩
abbrev S32x2x8x128 : Shape := ⟨4, ![32, 2, 8, 128]⟩
abbrev S1x32x2x128x8x64 : Shape := ⟨6, ![1, 32, 2, 128, 8, 64]⟩
abbrev S1x32x2x256x64 : Shape := ⟨5, ![1, 32, 2, 256, 64]⟩
abbrev S4096x16x64 : Shape := ⟨3, ![4096, 16, 64]⟩
abbrev S16x4096x64 : Shape := ⟨3, ![16, 4096, 64]⟩
abbrev S32x256x2x64 : Shape := ⟨4, ![32, 256, 2, 64]⟩
abbrev S2x32x256x64 : Shape := ⟨4, ![2, 32, 256, 64]⟩
abbrev S16x1x1 : Shape := ⟨3, ![16, 1, 1]⟩
abbrev S16x1x128 : Shape := ⟨3, ![16, 1, 128]⟩

abbrev nBuf : Space → Nat
  | .hbm => 192
  | .vmem => 0
  | .smem => 0
  | _ => 0

abbrev hbmTy0_0 (i : Nat) : BufTy := match i % 128 with
  | 0 => ⟨S1x4096x16x64, .f32⟩
  | 1 => ⟨S1x4096x2x64, .f32⟩
  | 2 => ⟨S1x4096x2x64, .f32⟩
  | 3 => ⟨S16, .f32⟩
  | 4 => ⟨S1x4096x1024, .f32⟩
  | 5 => ⟨S_, .f32⟩
  | 6 => ⟨S1x128x2x64, .f32⟩
  | 7 => ⟨S1x4224x2x64, .f32⟩
  | 8 => ⟨S1x33x128x2x64, .f32⟩
  | 9 => ⟨S1x32x128x2x64, .f32⟩
  | 10 => ⟨S1x32x128x2x64, .f32⟩
  | 11 => ⟨S1x32x256x2x64, .f32⟩
  | 12 => ⟨S_, .f32⟩
  | 13 => ⟨S1x128x2x64, .f32⟩
  | 14 => ⟨S1x4224x2x64, .f32⟩
  | 15 => ⟨S1x33x128x2x64, .f32⟩
  | 16 => ⟨S1x32x128x2x64, .f32⟩
  | 17 => ⟨S1x32x128x2x64, .f32⟩
  | 18 => ⟨S1x32x256x2x64, .f32⟩
  | 19 => ⟨S1x32x128x2x8x64, .f32⟩
  | 20 => ⟨S1x32x2x256x128x8, .f32⟩
  | 21 => ⟨S1x32x2x8x128x256, .f32⟩
  | 22 => ⟨S_, .f32⟩
  | 23 => ⟨S1x32x2x8x128x256, .f32⟩
  | 24 => ⟨S1x32x2x8x128x256, .f32⟩
  | 25 => ⟨S128, .i32⟩
  | 26 => ⟨S128x1, .i32⟩
  | 27 => ⟨S256, .i32⟩
  | 28 => ⟨S1x256, .i32⟩
  | 29 => ⟨S_, .i32⟩
  | 30 => ⟨S128x1, .i32⟩
  | 31 => ⟨S128x1, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S32, .i32⟩
  | 43 => ⟨S32x1x1, .i32⟩
  | 44 => ⟨S_, .i32⟩
  | 45 => ⟨S32x1x1, .i32⟩
  | 46 => ⟨S32x1x1, .i32⟩
  | 47 => ⟨S_, .i32⟩
  | 48 => ⟨S32x1x1, .i32⟩
  | 49 => ⟨S32x1x1, .i32⟩
  | 50 => ⟨S1x1x256, .i32⟩
  | 51 => ⟨S32x1x256, .i32⟩
  | 52 => ⟨S32x1x256, .i32⟩
  | 53 => ⟨S32x1x256, .i32⟩
  | 54 => ⟨S1x128x256, .i1⟩
  | 55 => ⟨S_, .i32⟩
  | 56 => ⟨S32x1x256, .i32⟩
  | 57 => ⟨S32x1x256, .i1⟩
  | 58 => ⟨S32x128x256, .i1⟩
  | 59 => ⟨S32x128x256, .i1⟩
  | 60 => ⟨S32x128x256, .i1⟩
  | 61 => ⟨S1x32x1x1x128x256, .i1⟩
  | 62 => ⟨S_, .f32⟩
  | 63 => ⟨S_, .f32⟩
  | 64 => ⟨S1x32x2x8x128x256, .i1⟩
  | 65 => ⟨S1x32x2x8x128x256, .f32⟩
  | 66 => ⟨S1x32x2x8x128x256, .f32⟩
  | 67 => ⟨S_, .f32⟩
  | 68 => ⟨S1x32x2x8x128x256, .f32⟩
  | 69 => ⟨S2x8, .f32⟩
  | 70 => ⟨S1x1x2x8x1x1, .f32⟩
  | 71 => ⟨S_, .f32⟩
  | 72 => ⟨S1x32x2x8x128, .f32⟩
  | 73 => ⟨S1x32x2x8x128x1, .f32⟩
  | 74 => ⟨S1x32x2x8x128x256, .f32⟩
  | 75 => ⟨S1x32x2x8x128x256, .i1⟩
  | 76 => ⟨S1x32x2x8x128x256, .f32⟩
  | 77 => ⟨S_, .f32⟩
  | 78 => ⟨S1x32x2x8x128, .f32⟩
  | 79 => ⟨S1x32x2x8x128x1, .f32⟩
  | 80 => ⟨S1x32x2x8x128x1, .f32⟩
  | 81 => ⟨S1x32x2x8x128x1, .f32⟩
  | 82 => ⟨S1x32x2x8x128x1, .f32⟩
  | 83 => ⟨S1x32x2x8x128x1, .i1⟩
  | 84 => ⟨S1x32x2x8x128x1, .f32⟩
  | 85 => ⟨S1x32x2x8x128x1, .i1⟩
  | 86 => ⟨S_, .f32⟩
  | 87 => ⟨S1x32x2x8x128x1, .f32⟩
  | 88 => ⟨S_, .f32⟩
  | 89 => ⟨S1x32x2x8x128x1, .f32⟩
  | 90 => ⟨S_, .f32⟩
  | 91 => ⟨S1x32x2x8x128x1, .f32⟩
  | 92 => ⟨S1x32x2x8x128x1, .f32⟩
  | 93 => ⟨S1x32x2x8x128x1, .f32⟩
  | 94 => ⟨S1x32x2x8x128x1, .f32⟩
  | 95 => ⟨S1x32x2x8x128x1, .i1⟩
  | 96 => ⟨S1x32x2x8x128x1, .f32⟩
  | 97 => ⟨S1x32x2x8x128x1, .i1⟩
  | 98 => ⟨S_, .f32⟩
  | 99 => ⟨S1x32x2x8x128x1, .f32⟩
  | 100 => ⟨S_, .f32⟩
  | 101 => ⟨S1x32x2x8x128x1, .f32⟩
  | 102 => ⟨S_, .f32⟩
  | 103 => ⟨S1x32x2x8x128x1, .f32⟩
  | 104 => ⟨S1x32x2x8x128x1, .f32⟩
  | 105 => ⟨S1x32x2x8x128x1, .f32⟩
  | 106 => ⟨S1x32x2x8x128x256, .f32⟩
  | 107 => ⟨S1x32x2x8x128x256, .f32⟩
  | 108 => ⟨S1x32x2x8x128x256, .f32⟩
  | 109 => ⟨S_, .f32⟩
  | 110 => ⟨S1x32x2x8x128, .f32⟩
  | 111 => ⟨S1x32x2x8x128x1, .f32⟩
  | 112 => ⟨S1x32x2x8x128x1, .f32⟩
  | 113 => ⟨S1x32x2x8x128x1, .f32⟩
  | 114 => ⟨S1x32x2x8x128x1, .f32⟩
  | 115 => ⟨S1x32x2x8x128x1, .f32⟩
  | 116 => ⟨S1x32x2x8x128x256, .f32⟩
  | 117 => ⟨S1x32x2x8x128x256, .f32⟩
  | 118 => ⟨S1x32x2x8x128x1, .f32⟩
  | 119 => ⟨S_, .f32⟩
  | 120 => ⟨S1x32x2x8x128x1, .f32⟩
  | 121 => ⟨S1x32x2x8x128x1, .f32⟩
  | 122 => ⟨S1x32x2x64x8x128, .f32⟩
  | 123 => ⟨S1x32x128x2x8x64, .f32⟩
  | 124 => ⟨S1x4096x1024, .f32⟩
  | 125 => ⟨S1x32x128x2x8x64, .f32⟩
  | 126 => ⟨S1x32x2x64x8x128, .f32⟩
  | 127 => ⟨S1x32x2x8x128x256, .f32⟩
  | _ => ⟨S1x4096x16x64, .f32⟩

abbrev hbmTy0_1 (i : Nat) : BufTy := match i % 128 with
  | 0 => ⟨S1x32x2x64x256, .f32⟩
  | 1 => ⟨S1x32x256x2x64, .f32⟩
  | 2 => ⟨S1x32x2x8x128x256, .f32⟩
  | 3 => ⟨S1x32x2x8x128x256, .f32⟩
  | 4 => ⟨S1x32x2x8x128x256, .f32⟩
  | 5 => ⟨S_, .f32⟩
  | 6 => ⟨S1x32x2x8x128, .f32⟩
  | 7 => ⟨S1x32x2x8x128x1, .f32⟩
  | 8 => ⟨S1x32x2x8x128x1, .f32⟩
  | 9 => ⟨S1x32x2x8x128x256, .f32⟩
  | 10 => ⟨S1x32x2x8x128x256, .f32⟩
  | 11 => ⟨S1x32x2x8x128x1, .f32⟩
  | 12 => ⟨S_, .f32⟩
  | 13 => ⟨S1x2x8x1, .f32⟩
  | 14 => ⟨S1x1x2x8x1x1, .f32⟩
  | 15 => ⟨S1x32x2x8x128x1, .f32⟩
  | 16 => ⟨S_, .f32⟩
  | 17 => ⟨S32x2x8x128, .f32⟩
  | 18 => ⟨S1x32x2x8x128, .f32⟩
  | 19 => ⟨S1x32x2x8x128x256, .f32⟩
  | 20 => ⟨S1x32x2x8x128x256, .f32⟩
  | 21 => ⟨S1x32x2x8x128x256, .f32⟩
  | 22 => ⟨S1x32x2x8x128x256, .f32⟩
  | 23 => ⟨S_, .f32⟩
  | 24 => ⟨S1x32x2x8x128, .f32⟩
  | 25 => ⟨S1x32x2x8x128x1, .f32⟩
  | 26 => ⟨S1x32x2x8x128x1, .f32⟩
  | 27 => ⟨S1x32x2x8x128x1, .f32⟩
  | 28 => ⟨S_, .f32⟩
  | 29 => ⟨S1x2x8x1, .f32⟩
  | 30 => ⟨S1x1x2x8x1x1, .f32⟩
  | 31 => ⟨S1x1x2x8x1x1, .f32⟩
  | 32 => ⟨S1x32x2x8x128x1, .f32⟩
  | 33 => ⟨S_, .f32⟩
  | 34 => ⟨S32x2x8x128, .f32⟩
  | 35 => ⟨S1x32x2x8x128, .f32⟩
  | 36 => ⟨S1x32x2x8x128, .f32⟩
  | 37 => ⟨S1x32x2x8x128x256, .f32⟩
  | 38 => ⟨S1x32x2x8x128x256, .f32⟩
  | 39 => ⟨S1x32x2x8x128x256, .f32⟩
  | 40 => ⟨S_, .f32⟩
  | 41 => ⟨S2x8, .f32⟩
  | 42 => ⟨S16, .f32⟩
  | 43 => ⟨S_, .f32⟩
  | 44 => ⟨S1x32x2x8x128x256, .f32⟩
  | 45 => ⟨S1x32x2x8x128x256, .f32⟩
  | 46 => ⟨S_, .f32⟩
  | 47 => ⟨S1x32x2x8x128x256, .f32⟩
  | 48 => ⟨S1x32x2x8x128x256, .f32⟩
  | 49 => ⟨S1x32x2x256x128x8, .f32⟩
  | 50 => ⟨S1x32x2x128x8x64, .f32⟩
  | 51 => ⟨S1x32x128x2x8x64, .f32⟩
  | 52 => ⟨S1x32x2x256x64, .f32⟩
  | 53 => ⟨S1x32x256x2x64, .f32⟩
  | 54 => ⟨S1x4096x16x64, .f32⟩
  | 55 => ⟨S4096x16x64, .f32⟩
  | 56 => ⟨S16x4096x64, .f32⟩
  | 57 => ⟨S16x4096x64, .bf16⟩
  | 58 => ⟨S32x256x2x64, .f32⟩
  | 59 => ⟨S2x32x256x64, .f32⟩
  | 60 => ⟨S32x256x2x64, .f32⟩
  | 61 => ⟨S2x32x256x64, .f32⟩
  | 62 => ⟨S16x1x1, .f32⟩
  | 63 => ⟨S16x1x128, .f32⟩
  | _ => ⟨S1x4096x16x64, .f32⟩

abbrev hbmTy (i : Nat) : BufTy := match i / 128 with
  | 0 => hbmTy0_0 i
  | 1 => hbmTy0_1 i
  | _ => ⟨S1x4096x16x64, .f32⟩

abbrev bufTy : (tb : Table) → Fin (tcTables nBuf tb) → BufTy
  | .hbm, ⟨i, _⟩ => hbmTy i
  | _, _ => ⟨S1x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_call0_v0 : Ref sig .tc := ⟨.hbm, 63, rfl⟩
abbrev main_v48_1 : Ref sig .tc := ⟨.hbm, 64, rfl⟩
abbrev main_call0_v2 : Ref sig .tc := ⟨.hbm, 65, rfl⟩
abbrev main_v48_0 : Ref sig .tc := ⟨.hbm, 66, rfl⟩
abbrev main_call0_cst : Ref sig .tc := ⟨.hbm, 67, rfl⟩
abbrev main_v48_2 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_18 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_19 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_20 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_21 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_22 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_23 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_24 : Ref sig .tc := ⟨.hbm, 168, rfl⟩
abbrev main_v132 : Ref sig .tc := ⟨.hbm, 169, rfl⟩
abbrev main_v133 : Ref sig .tc := ⟨.hbm, 170, rfl⟩
abbrev main_call1_cst : Ref sig .tc := ⟨.hbm, 171, rfl⟩
abbrev main_call1_v0 : Ref sig .tc := ⟨.hbm, 172, rfl⟩
abbrev main_v134 : Ref sig .tc := ⟨.hbm, 173, rfl⟩
abbrev main_cst_25 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩

abbrev nD : Nat := 1
abbrev τ : Topo := Topo.v7x

variable {F : FTy → Type} [FloatOps F]

def κ : String → Option EReal := fun
  | "mask" => some ⊥
  | _ => none
-- ==== Kernel2.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x2048, .bf16⟩
  | .hbm, ⟨6, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli c1_i32_5 arg2
  let c0_i32_6 : BitVec 32 := 0#32
  let v18 : BitVec 32 := Scalar.addi v17 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi arg1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v16.toNat, v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x11264, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S4096x2048 : Shape := ⟨2, ![4096, 2048]⟩
abbrev S4096x11264 : Shape := ⟨2, ![4096, 11264]⟩
abbrev S4096x2x5632 : Shape := ⟨3, ![4096, 2, 5632]⟩
abbrev S2x4096x5632 : Shape := ⟨3, ![2, 4096, 5632]⟩
abbrev S2048x4096 : Shape := ⟨2, ![2048, 4096]⟩
abbrev S8x2048x1408 : Shape := ⟨3, ![8, 2048, 1408]⟩
abbrev S512x4096 : Shape := ⟨2, ![512, 4096]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S4096x11264, .bf16⟩
  | .hbm, ⟨3, _⟩ => ⟨S4096x2x5632, .bf16⟩
  | .hbm, ⟨4, _⟩ => ⟨S2x4096x5632, .bf16⟩
  | .hbm, ⟨5, _⟩ => ⟨S4096x2048, .bf16⟩
  | .hbm, ⟨6, _⟩ => ⟨S2048x4096, .bf16⟩
  | .hbm, ⟨7, _⟩ => ⟨S8x2048x1408, .f32⟩
  | .hbm, ⟨8, _⟩ => ⟨S8x2048x1408, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x1408, .bf16⟩
  | .local _ .vmem, ⟨7, _⟩ => ⟨S1x512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli c1_i32_4 arg2
  let c0_i32_5 : BitVec 32 := 0#32
  let v18 : BitVec 32 := Scalar.addi v17 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v16.toNat, v18.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S11264x2048, .f32⟩
  | .hbm, ⟨6, _⟩ => ⟨S2048x11264, .f32⟩
  | .hbm, ⟨7, _⟩ => ⟨S2048x8x1408, .f32⟩
  | .hbm, ⟨8, _⟩ => ⟨S8x2048x1408, .f32⟩
  | .hbm, ⟨9, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x11264 : Shape := ⟨2, ![2048, 11264]⟩
abbrev S4096x11264 : Shape := ⟨2, ![4096, 11264]⟩
abbrev S2048x8x1408 : Shape := ⟨3, ![2048, 8, 1408]⟩
abbrev S8x2048x1408 : Shape := ⟨3, ![8, 2048, 1408]⟩
abbrev S4096x2x5632 : Shape := ⟨3, ![4096, 2, 5632]⟩
abbrev S2x4096x5632 : Shape := ⟨3, ![2, 4096, 5632]⟩
abbrev S4096x2048 : Shape := ⟨2, ![4096, 2048]⟩
abbrev S1x512x1408 : Shape := ⟨3, ![1, 512, 1408]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 9
  | .vmem => 19
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x11264, .bf16⟩
  | .hbm, ⟨6, _⟩ => ⟨S4096x2x5632, .bf16⟩
  | .hbm, ⟨7, _⟩ => ⟨S2x4096x5632, .bf16⟩
  | .hbm, ⟨8, _⟩ => ⟨S4096x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_29 : BitVec 32 := 0#32
  let v31 : BitVec 1 := Scalar.cmpi .ne v30 c0_i32_29
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c0_i32 : BitVec 32 := 0#32
  let v1 : BitVec 32 := Scalar.addi v0 c0_i32
  let c4_i32_0 : BitVec 32 := 4#32
  let v2 : BitVec 32 := Scalar.divsi v1 c4_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_0 c0_i32_3
  let v9 : BitVec 32 := Scalar.extui v8
  let c0_i32_4 : BitVec 32 := 0#32
  let v10 : BitVec 1 := Scalar.cmpi .slt c4_i32_0 c0_i32_4
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c4_i32_6 : BitVec 32 := 4#32
  let v19 : BitVec 32 := Scalar.muli c4_i32_6 arg2
  let c0_i32_7 : BitVec 32 := 0#32
  let v20 : BitVec 32 := Scalar.addi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi v0 c1_i32
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.muli c4_i32_6 arg2
  let c1_i32_7 : BitVec 32 := 1#32
  let v20 : BitVec 32 := Scalar.addi v19 c1_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c2_i32 : BitVec 32 := 2#32
  let v1 : BitVec 32 := Scalar.addi v0 c2_i32
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli c4_i32_5 arg2
  let c2_i32_6 : BitVec 32 := 2#32
  let v20 : BitVec 32 := Scalar.addi v19 c2_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg0.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c3_i32 : BitVec 32 := 3#32
  let v1 : BitVec 32 := Scalar.addi v0 c3_i32
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli c4_i32_5 arg2
  let c3_i32_6 : BitVec 32 := 3#32
  let v20 : BitVec 32 := Scalar.addi v19 c3_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg0.toNat, v30.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c0_i32 : BitVec 32 := 0#32
  let v1 : BitVec 32 := Scalar.addi v0 c0_i32
  let c1_i32 : BitVec 32 := 1#32
  let v2 : BitVec 32 := Scalar.divsi v1 c1_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.muli c4_i32_6 arg2
  let c0_i32_7 : BitVec 32 := 0#32
  let v20 : BitVec 32 := Scalar.addi v19 c0_i32_7
  let c1_i32_8 : BitVec 32 := 1#32
  let c0_i32_9 : BitVec 32 := 0#32
  let v21 : BitVec 1 := Scalar.cmpi .eq c1_i32_8 c0_i32_9
  let c1_i32_10 : BitVec 32 := 1#32
  let v22 : BitVec 32 := Scalar.select v21 c1_i32_10 c1_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg1.toNat, v30.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi v0 c1_i32
  let c1_i32_0 : BitVec 32 := 1#32
  let v2 : BitVec 32 := Scalar.divsi v1 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.muli c4_i32_6 arg2
  let c1_i32_7 : BitVec 32 := 1#32
  let v20 : BitVec 32 := Scalar.addi v19 c1_i32_7
  let c1_i32_8 : BitVec 32 := 1#32
  let c0_i32_9 : BitVec 32 := 0#32
  let v21 : BitVec 1 := Scalar.cmpi .eq c1_i32_8 c0_i32_9
  let c1_i32_10 : BitVec 32 := 1#32
  let v22 : BitVec 32 := Scalar.select v21 c1_i32_10 c1_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg1.toNat, v30.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c2_i32 : BitVec 32 := 2#32
  let v1 : BitVec 32 := Scalar.addi v0 c2_i32
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli c4_i32_5 arg2
  let c2_i32_6 : BitVec 32 := 2#32
  let v20 : BitVec 32 := Scalar.addi v19 c2_i32_6
  let c1_i32_7 : BitVec 32 := 1#32
  let c0_i32_8 : BitVec 32 := 0#32
  let v21 : BitVec 1 := Scalar.cmpi .eq c1_i32_7 c0_i32_8
  let c1_i32_9 : BitVec 32 := 1#32
  let v22 : BitVec 32 := Scalar.select v21 c1_i32_9 c1_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c3_i32 : BitVec 32 := 3#32
  let v1 : BitVec 32 := Scalar.addi v0 c3_i32
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli c4_i32_5 arg2
  let c3_i32_6 : BitVec 32 := 3#32
  let v20 : BitVec 32 := Scalar.addi v19 c3_i32_6
  let c1_i32_7 : BitVec 32 := 1#32
  let c0_i32_8 : BitVec 32 := 0#32
  let v21 : BitVec 1 := Scalar.cmpi .eq c1_i32_7 c0_i32_8
  let c1_i32_9 : BitVec 32 := 1#32
  let v22 : BitVec 32 := Scalar.select v21 c1_i32_9 c1_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference4Ideal.lean ====
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S5632x2048, .bf16⟩
  | .hbm, ⟨4, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S4096x5632 : Shape := ⟨2, ![4096, 5632]⟩
abbrev S4096x2048 : Shape := ⟨2, ![4096, 2048]⟩
abbrev S5632x4096 : Shape := ⟨2, ![5632, 4096]⟩
abbrev S5632x2048 : Shape := ⟨2, ![5632, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S5632x4096, .bf16⟩
  | .hbm, ⟨4, _⟩ => ⟨S4096x2048, .bf16⟩
  | .hbm, ⟨5, _⟩ => ⟨S5632x2048, .f32⟩
  | .hbm, ⟨6, _⟩ => ⟨S5632x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S5632x2048 : Shape := ⟨2, ![5632, 2048]⟩
abbrev S4096x2048 : Shape := ⟨2, ![4096, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S4096x2048, .bf16⟩
  | .hbm, ⟨3, _⟩ => ⟨S5632x2048, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | .hbm, ⟨6, _⟩ => ⟨S4096x5632, .bf16⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x6400 : Shape := ⟨2, ![2048, 6400]⟩
abbrev S4096x6400 : Shape := ⟨2, ![4096, 6400]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6400, .f32⟩
  | .hbm, ⟨2, _⟩ => ⟨S4096x2048, .bf16⟩
  | .hbm, ⟨3, _⟩ => ⟨S2048x6400, .bf16⟩
  | .hbm, ⟨4, _⟩ => ⟨S4096x6400, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x6400 : Shape := ⟨2, ![2048, 6400]⟩
abbrev S4096x6400 : Shape := ⟨2, ![4096, 6400]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6400, .f32⟩
  | .hbm, ⟨2, _⟩ => ⟨S4096x6400, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x2048 : Shape := ⟨2, ![4096, 2048]⟩
abbrev S4096x6400 : Shape := ⟨2, ![4096, 6400]⟩
abbrev S2048x4096 : Shape := ⟨2, ![2048, 4096]⟩
abbrev S2048x6400 : Shape := ⟨2, ![2048, 6400]⟩
abbrev S512x4096 : Shape := ⟨2, ![512, 4096]⟩
abbrev S4096x1280 : Shape := ⟨2, ![4096, 1280]⟩
abbrev S512x1280 : Shape := ⟨2, ![512, 1280]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x6400, .f32⟩
  | .hbm, ⟨2, _⟩ => ⟨S4096x2048, .bf16⟩
  | .hbm, ⟨3, _⟩ => ⟨S2048x4096, .bf16⟩
  | .hbm, ⟨4, _⟩ => ⟨S4096x6400, .bf16⟩
  | .hbm, ⟨5, _⟩ => ⟨S2048x6400, .f32⟩
  | .hbm, ⟨6, _⟩ => ⟨S2048x6400, .bf16⟩
  | .local _ .vmem, ⟨0, _⟩ => ⟨S512x4096, .bf16⟩
  | .local _ .vmem, ⟨1, _⟩ => ⟨S512x4096, .bf16⟩
  | .local _ .vmem, ⟨2, _⟩ => ⟨S4096x1280, .bf16⟩
  | .local _ .vmem, ⟨3, _⟩ => ⟨S4096x1280, .bf16⟩
  | .local _ .vmem, ⟨4, _⟩ => ⟨S512x1280, .f32⟩
  | .local _ .vmem, ⟨5, _⟩ => ⟨S512x1280, .f32⟩
  | .local _ .vmem, ⟨6, _⟩ => ⟨S512x1280, .bf16⟩
  | .local _ .vmem, ⟨7, _⟩ => ⟨S512x1280, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2048 : Shape := ⟨2, ![4096, 2048]⟩
abbrev S4096x6400 : Shape := ⟨2, ![4096, 6400]⟩
abbrev S_ : Shape := ⟨0, ![]⟩
abbrev S2048x6400 : Shape := ⟨2, ![2048, 6400]⟩
abbrev S6400x2048 : Shape := ⟨2, ![6400, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6400, .f32⟩
  | .hbm, ⟨2, _⟩ => ⟨S_, .f32⟩
  | .hbm, ⟨3, _⟩ => ⟨S2048x6400, .f32⟩
  | .hbm, ⟨4, _⟩ => ⟨S4096x6400, .f32⟩
  | .hbm, ⟨5, _⟩ => ⟨S6400x2048, .f32⟩
  | .hbm, ⟨6, _⟩ => ⟨S2048x6400, .f32⟩
  | .hbm, ⟨7, _⟩ => ⟨S2048x6400, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x6400 : Shape := ⟨2, ![2048, 6400]⟩
abbrev S4096x6400 : Shape := ⟨2, ![4096, 6400]⟩
abbrev S4096x2048 : Shape := ⟨2, ![4096, 2048]⟩
abbrev S512x6400 : Shape := ⟨2, ![512, 6400]⟩
abbrev S1024x6400 : Shape := ⟨2, ![1024, 6400]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x6400, .f32⟩
  | .hbm, ⟨1, _⟩ => ⟨S4096x6400, .f32⟩
  | .hbm, ⟨2, _⟩ => ⟨S4096x6400, .bf16⟩
  | .hbm, ⟨3, _⟩ => ⟨S2048x6400, .bf16⟩
  | .hbm, ⟨4, _⟩ => ⟨S4096x2048, .f32⟩
  | .local _ .vmem, ⟨0, _⟩ => ⟨S512x6400, .bf16⟩
  | .local _ .vmem, ⟨1, _⟩ => ⟨S512x6400, .bf16⟩
  | .local _ .vmem, ⟨2, _⟩ => ⟨S1024x6400, .bf16⟩
  | .local _ .vmem, ⟨3, _⟩ => ⟨S1024x6400, .bf16⟩
  | .local _ .vmem, ⟨4, _⟩ => ⟨S512x1024, .f32⟩
  | .local _ .vmem, ⟨5, _⟩ => ⟨S512x1024, .f32⟩
  | _, _ => ⟨S2048x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x6400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x6400 : Shape := ⟨2, ![2048, 6400]⟩
abbrev S4096x6400 : Shape := ⟨2, ![4096, 6400]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x6400, .f32⟩
  | .hbm, ⟨1, _⟩ => ⟨S4096x6400, .f32⟩
  | .hbm, ⟨2, _⟩ => ⟨S_, .f32⟩
  | .hbm, ⟨3, _⟩ => ⟨S4096x2048, .f32⟩
  | .hbm, ⟨4, _⟩ => ⟨S4096x6400, .f32⟩
  | .hbm, ⟨5, _⟩ => ⟨S4096x2048, .f32⟩
  | _, _ => ⟨S2048x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8x2312x128 : Shape := ⟨3, ![8, 2312, 128]⟩
abbrev S2312x128 : Shape := ⟨2, ![2312, 128]⟩
abbrev S8x136x128 : Shape := ⟨3, ![8, 136, 128]⟩
abbrev S136x128 : Shape := ⟨2, ![136, 128]⟩
abbrev S1x136x128 : Shape := ⟨3, ![1, 136, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2312x128, .f32⟩
  | .hbm, ⟨1, _⟩ => ⟨S2312x128, .f32⟩
  | .hbm, ⟨2, _⟩ => ⟨S2312x128, .f32⟩
  | .hbm, ⟨3, _⟩ => ⟨S2312x128, .f32⟩
  | .hbm, ⟨4, _⟩ => ⟨S2312x128, .f32⟩
  | .hbm, ⟨5, _⟩ => ⟨S2312x128, .f32⟩
  | .hbm, ⟨6, _⟩ => ⟨S2312x128, .f32⟩
  | .hbm, ⟨7, _⟩ => ⟨S2312x128, .f32⟩
  | .local _ .vmem, ⟨0, _⟩ => ⟨S8x136x128, .f32⟩
  | .local _ .vmem, ⟨1, _⟩ => ⟨S8x136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | .local _ .vmem, ⟨7, _⟩ => ⟨S136x128, .f32⟩
  | .local _ .vmem, ⟨8, _⟩ => ⟨S136x128, .f32⟩
  | .local _ .vmem, ⟨9, _⟩ => ⟨S136x128, .f32⟩
  | .local _ .vmem, ⟨10, _⟩ => ⟨S136x128, .f32⟩
  | .local _ .vmem, ⟨11, _⟩ => ⟨S136x128, .f32⟩
  | .local _ .vmem, ⟨12, _⟩ => ⟨S136x128, .f32⟩
  | .local _ .vmem, ⟨13, _⟩ => ⟨S136x128, .f32⟩
  | .local _ .vmem, ⟨14, _⟩ => ⟨S136x128, .f32⟩
  | .local _ .vmem, ⟨15, _⟩ => ⟨S136x128, .f32⟩
  | _, _ => ⟨S8x2312x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x136x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S136x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S136x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S136x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S136x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x2312x128 : Shape := ⟨3, ![8, 2312, 128]⟩
abbrev S2312x128 : Shape := ⟨2, ![2312, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2312x128, .f32⟩
  | .hbm, ⟨1, _⟩ => ⟨S2312x128, .f32⟩
  | .hbm, ⟨2, _⟩ => ⟨S2312x128, .f32⟩
  | .hbm, ⟨3, _⟩ => ⟨S2312x128, .f32⟩
  | .hbm, ⟨4, _⟩ => ⟨S_, .f32⟩
  | .hbm, ⟨5, _⟩ => ⟨S2312x128, .f32⟩
  | .hbm, ⟨6, _⟩ => ⟨S_, .f32⟩
  | .hbm, ⟨7, _⟩ => ⟨S2312x128, .f32⟩
  | .hbm, ⟨8, _⟩ => ⟨S2312x128, .f32⟩
  | .hbm, ⟨9, _⟩ => ⟨S_, .f32⟩
  | .hbm, ⟨10, _⟩ => ⟨S2312x128, .f32⟩
  | .hbm, ⟨11, _⟩ => ⟨S2312x128, .f32⟩
  | .hbm, ⟨12, _⟩ => ⟨S2312x128, .f32⟩
  | .hbm, ⟨13, _⟩ => ⟨S_, .f32⟩
  | .hbm, ⟨14, _⟩ => ⟨S2312x128, .f32⟩
  | .hbm, ⟨15, _⟩ => ⟨S2312x128, .f32⟩
  | .hbm, ⟨16, _⟩ => ⟨S2312x128, .f32⟩
  | .hbm, ⟨17, _⟩ => ⟨S_, .f32⟩
  | .hbm, ⟨18, _⟩ => ⟨S2312x128, .f32⟩
  | .hbm, ⟨19, _⟩ => ⟨S2312x128, .f32⟩
  | .hbm, ⟨20, _⟩ => ⟨S2312x128, .f32⟩
  | .hbm, ⟨21, _⟩ => ⟨S_, .f32⟩
  | .hbm, ⟨22, _⟩ => ⟨S2312x128, .f32⟩
  | .hbm, ⟨23, _⟩ => ⟨S2312x128, .f32⟩
  | .hbm, ⟨24, _⟩ => ⟨S_, .f32⟩
  | .hbm, ⟨25, _⟩ => ⟨S2312x128, .f32⟩
  | .hbm, ⟨26, _⟩ => ⟨S2312x128, .f32⟩
  | .hbm, ⟨27, _⟩ => ⟨S2312x128, .f32⟩
  | .hbm, ⟨28, _⟩ => ⟨S_, .f32⟩
  | .hbm, ⟨29, _⟩ => ⟨S2312x128, .f32⟩
  | .hbm, ⟨30, _⟩ => ⟨S2312x128, .f32⟩
  | .hbm, ⟨31, _⟩ => ⟨S2312x128, .f32⟩
  | .hbm, ⟨32, _⟩ => ⟨S_, .f32⟩
  | .hbm, ⟨33, _⟩ => ⟨S2312x128, .f32⟩
  | .hbm, ⟨34, _⟩ => ⟨S2312x128, .f32⟩
  | .hbm, ⟨35, _⟩ => ⟨S2312x128, .f32⟩
  | .hbm, ⟨36, _⟩ => ⟨S_, .f32⟩
  | .hbm, ⟨37, _⟩ => ⟨S2312x128, .f32⟩
  | .hbm, ⟨38, _⟩ => ⟨S2312x128, .f32⟩
  | _, _ => ⟨S8x2312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S2048x1536 : Shape := ⟨2, ![2048, 1536]⟩
abbrev S1x2048x1536 : Shape := ⟨3, ![1, 2048, 1536]⟩
abbrev S1x128x1536 : Shape := ⟨3, ![1, 128, 1536]⟩
abbrev S128x1536 : Shape := ⟨2, ![128, 1536]⟩

abbrev nBuf : Space → Nat
  | .hbm => 9
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S1x2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S1x128x1536, .f32⟩
  | .local _ .vmem, ⟨1, _⟩ => ⟨S1x128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8x2048x1408 : Shape := ⟨3, ![8, 2048, 1408]⟩
abbrev S2048x1408 : Shape := ⟨2, ![2048, 1408]⟩
abbrev S_ : Shape := ⟨0, ![]⟩
abbrev S1 : Shape := ⟨1, ![1]⟩
abbrev S2 : Shape := ⟨1, ![2]⟩
abbrev S8x64x1408 : Shape := ⟨3, ![8, 64, 1408]⟩
abbrev S1x64x1408 : Shape := ⟨3, ![1, 64, 1408]⟩
abbrev S64x1408 : Shape := ⟨2, ![64, 1408]⟩

abbrev nBuf : Space → Nat
  | .hbm => 14
  | .vmem => 18
  | .smem => 1
  | _ => 0

abbrev bufTy : (tb : Table) → Fin (tcTables nBuf tb) → BufTy
  | .hbm, ⟨0, _⟩ => ⟨S8x2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x2048x1408, .bf16⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S2048x1408, .f32⟩
  | .local _ .vmem, ⟨0, _⟩ => ⟨S8x64x1408, .bf16⟩
  | .local _ .vmem, ⟨1, _⟩ => ⟨S8x64x1408, .bf16⟩
  | .local _ .vmem, ⟨2, _⟩ => ⟨S1x64x1408, .f32⟩
  | .local _ .vmem, ⟨3, _⟩ => ⟨S1x64x1408, .f32⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S64x1408, .f32⟩
  | .local _ .vmem, ⟨9, _⟩ => ⟨S64x1408, .f32⟩
  | .local _ .vmem, ⟨10, _⟩ => ⟨S64x1408, .f32⟩
  | .local _ .vmem, ⟨11, _⟩ => ⟨S64x1408, .f32⟩
  | .local _ .vmem, ⟨12, _⟩ => ⟨S64x1408, .f32⟩
  | .local _ .vmem, ⟨13, _⟩ => ⟨S64x1408, .f32⟩
  | .local _ .vmem, ⟨14, _⟩ => ⟨S64x1408, .f32⟩
  | .local _ .vmem, ⟨15, _⟩ => ⟨S64x1408, .f32⟩
  | .local _ .vmem, ⟨16, _⟩ => ⟨S64x1408, .f32⟩
  | .local _ .vmem, ⟨17, _⟩ => ⟨S64x1408, .f32⟩
  | .local _ .smem, ⟨0, _⟩ => ⟨S2, .i32⟩
  | _, _ => ⟨S8x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8x2048x1408 : Shape := ⟨3, ![8, 2048, 1408]⟩
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S8x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S8x704x2048 : Shape := ⟨3, ![8, 704, 2048]⟩
abbrev S704x2048 : Shape := ⟨2, ![704, 2048]⟩
abbrev S_ : Shape := ⟨0, ![]⟩
abbrev S1 : Shape := ⟨1, ![1]⟩
abbrev S2 : Shape := ⟨1, ![2]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 14
  | .vmem => 18
  | .smem => 1
  | _ => 0

abbrev bufTy : (tb : Table) → Fin (tcTables nBuf tb) → BufTy
  | .hbm, ⟨0, _⟩ => ⟨S8x704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .bf16⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S704x2048, .f32⟩
  | .hbm, ⟨11, _⟩ => ⟨S704x2048, .f32⟩
  | .hbm, ⟨12, _⟩ => ⟨S704x2048, .f32⟩
  | .hbm, ⟨13, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .smem, ⟨0, _⟩ => ⟨S2, .i32⟩
  | _, _ => ⟨S8x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S_, .f32⟩
  | .hbm, ⟨5, _⟩ => ⟨S704x2048, .f32⟩
  | .hbm, ⟨6, _⟩ => ⟨S_, .f32⟩
  | .hbm, ⟨7, _⟩ => ⟨S704x2048, .f32⟩
  | .hbm, ⟨8, _⟩ => ⟨S704x2048, .f32⟩
  | .hbm, ⟨9, _⟩ => ⟨S_, .f32⟩
  | .hbm, ⟨10, _⟩ => ⟨S704x2048, .f32⟩
  | .hbm, ⟨11, _⟩ => ⟨S704x2048, .f32⟩
  | .hbm, ⟨12, _⟩ => ⟨S704x2048, .f32⟩
  | .hbm, ⟨13, _⟩ => ⟨S_, .f32⟩
  | .hbm, ⟨14, _⟩ => ⟨S704x2048, .f32⟩
  | .hbm, ⟨15, _⟩ => ⟨S704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S_, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S704x2048, .f32⟩
  | .hbm, ⟨36, _⟩ => ⟨S_, .f32⟩
  | .hbm, ⟨37, _⟩ => ⟨S704x2048, .f32⟩
  | .hbm, ⟨38, _⟩ => ⟨S704x2048, .f32⟩
  | _, _ => ⟨S8x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S8x2048x800 : Shape := ⟨3, ![8, 2048, 800]⟩
abbrev S2048x800 : Shape := ⟨2, ![2048, 800]⟩
abbrev S1x2048x800 : Shape := ⟨3, ![1, 2048, 800]⟩
abbrev S_ : Shape := ⟨0, ![]⟩
abbrev S1 : Shape := ⟨1, ![1]⟩
abbrev S2 : Shape := ⟨1, ![2]⟩
abbrev S8x128x800 : Shape := ⟨3, ![8, 128, 800]⟩
abbrev S1x128x800 : Shape := ⟨3, ![1, 128, 800]⟩
abbrev S128x800 : Shape := ⟨2, ![128, 800]⟩

abbrev nBuf : Space → Nat
  | .hbm => 15
  | .vmem => 18
  | .smem => 1
  | _ => 0

abbrev bufTy : (tb : Table) → Fin (tcTables nBuf tb) → BufTy
  | .hbm, ⟨0, _⟩ => ⟨S8x2048x800, .f32⟩
  | .hbm, ⟨1, _⟩ => ⟨S2048x800, .f32⟩
  | .hbm, ⟨2, _⟩ => ⟨S2048x800, .f32⟩
  | .hbm, ⟨3, _⟩ => ⟨S2048x800, .f32⟩
  | .hbm, ⟨4, _⟩ => ⟨S1x2048x800, .f32⟩
  | .hbm, ⟨5, _⟩ => ⟨S8x2048x800, .bf16⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S2048x800, .f32⟩
  | .hbm, ⟨12, _⟩ => ⟨S2048x800, .f32⟩
  | .hbm, ⟨13, _⟩ => ⟨S2048x800, .f32⟩
  | .hbm, ⟨14, _⟩ => ⟨S2048x800, .f32⟩
  | .local _ .vmem, ⟨0, _⟩ => ⟨S8x128x800, .bf16⟩
  | .local _ .vmem, ⟨1, _⟩ => ⟨S8x128x800, .bf16⟩
  | .local _ .vmem, ⟨2, _⟩ => ⟨S1x128x800, .f32⟩
  | .local _ .vmem, ⟨3, _⟩ => ⟨S1x128x800, .f32⟩
  | .local _ .vmem, ⟨4, _⟩ => ⟨S128x800, .f32⟩
  | .local _ .vmem, ⟨5, _⟩ => ⟨S128x800, .f32⟩
  | .local _ .vmem, ⟨6, _⟩ => ⟨S128x800, .f32⟩
  | .local _ .vmem, ⟨7, _⟩ => ⟨S128x800, .f32⟩
  | .local _ .vmem, ⟨8, _⟩ => ⟨S128x800, .f32⟩
  | .local _ .vmem, ⟨9, _⟩ => ⟨S128x800, .f32⟩
  | .local _ .vmem, ⟨10, _⟩ => ⟨S128x800, .f32⟩
  | .local _ .vmem, ⟨11, _⟩ => ⟨S128x800, .f32⟩
  | .local _ .vmem, ⟨12, _⟩ => ⟨S128x800, .f32⟩
  | .local _ .vmem, ⟨13, _⟩ => ⟨S128x800, .f32⟩
  | .local _ .vmem, ⟨14, _⟩ => ⟨S128x800, .f32⟩
  | .local _ .vmem, ⟨15, _⟩ => ⟨S128x800, .f32⟩
  | .local _ .vmem, ⟨16, _⟩ => ⟨S128x800, .f32⟩
  | .local _ .vmem, ⟨17, _⟩ => ⟨S128x800, .f32⟩
  | .local _ .smem, ⟨0, _⟩ => ⟨S2, .i32⟩
  | _, _ => ⟨S8x2048x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x800 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x800 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S8x2048x800 : Shape := ⟨3, ![8, 2048, 800]⟩
abbrev S2048x800 : Shape := ⟨2, ![2048, 800]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x800, .f32⟩
  | .hbm, ⟨1, _⟩ => ⟨S2048x800, .f32⟩
  | .hbm, ⟨2, _⟩ => ⟨S2048x800, .f32⟩
  | .hbm, ⟨3, _⟩ => ⟨S2048x800, .f32⟩
  | .hbm, ⟨4, _⟩ => ⟨S_, .f32⟩
  | .hbm, ⟨5, _⟩ => ⟨S2048x800, .f32⟩
  | .hbm, ⟨6, _⟩ => ⟨S_, .f32⟩
  | .hbm, ⟨7, _⟩ => ⟨S2048x800, .f32⟩
  | .hbm, ⟨8, _⟩ => ⟨S2048x800, .f32⟩
  | .hbm, ⟨9, _⟩ => ⟨S_, .f32⟩
  | .hbm, ⟨10, _⟩ => ⟨S2048x800, .f32⟩
  | .hbm, ⟨11, _⟩ => ⟨S2048x800, .f32⟩
  | .hbm, ⟨12, _⟩ => ⟨S2048x800, .f32⟩
  | .hbm, ⟨13, _⟩ => ⟨S_, .f32⟩
  | .hbm, ⟨14, _⟩ => ⟨S2048x800, .f32⟩
  | .hbm, ⟨15, _⟩ => ⟨S2048x800, .f32⟩
  | .hbm, ⟨16, _⟩ => ⟨S2048x800, .f32⟩
  | .hbm, ⟨17, _⟩ => ⟨S_, .f32⟩
  | .hbm, ⟨18, _⟩ => ⟨S2048x800, .f32⟩
  | .hbm, ⟨19, _⟩ => ⟨S2048x800, .f32⟩
  | .hbm, ⟨20, _⟩ => ⟨S2048x800, .f32⟩
  | .hbm, ⟨21, _⟩ => ⟨S_, .f32⟩
  | .hbm, ⟨22, _⟩ => ⟨S2048x800, .f32⟩
  | .hbm, ⟨23, _⟩ => ⟨S2048x800, .f32⟩
  | .hbm, ⟨24, _⟩ => ⟨S_, .f32⟩
  | .hbm, ⟨25, _⟩ => ⟨S2048x800, .f32⟩
  | .hbm, ⟨26, _⟩ => ⟨S2048x800, .f32⟩
  | .hbm, ⟨27, _⟩ => ⟨S2048x800, .f32⟩
  | .hbm, ⟨28, _⟩ => ⟨S_, .f32⟩
  | .hbm, ⟨29, _⟩ => ⟨S2048x800, .f32⟩
  | .hbm, ⟨30, _⟩ => ⟨S2048x800, .f32⟩
  | .hbm, ⟨31, _⟩ => ⟨S2048x800, .f32⟩
  | .hbm, ⟨32, _⟩ => ⟨S_, .f32⟩
  | .hbm, ⟨33, _⟩ => ⟨S2048x800, .f32⟩
  | .hbm, ⟨34, _⟩ => ⟨S2048x800, .f32⟩
  | .hbm, ⟨35, _⟩ => ⟨S2048x800, .f32⟩
  | .hbm, ⟨36, _⟩ => ⟨S_, .f32⟩
  | .hbm, ⟨37, _⟩ => ⟨S2048x800, .f32⟩
  | .hbm, ⟨38, _⟩ => ⟨S2048x800, .f32⟩
  | _, _ => ⟨S8x2048x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S8x256x2048 : Shape := ⟨3, ![8, 256, 2048]⟩
abbrev S256x2048 : Shape := ⟨2, ![256, 2048]⟩
abbrev S_ : Shape := ⟨0, ![]⟩
abbrev S1 : Shape := ⟨1, ![1]⟩
abbrev S2 : Shape := ⟨1, ![2]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 14
  | .vmem => 18
  | .smem => 1
  | _ => 0

abbrev bufTy : (tb : Table) → Fin (tcTables nBuf tb) → BufTy
  | .hbm, ⟨0, _⟩ => ⟨S8x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .bf16⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .smem, ⟨0, _⟩ => ⟨S2, .i32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S8x1024x512 : Shape := ⟨3, ![8, 1024, 512]⟩
abbrev S1024x512 : Shape := ⟨2, ![1024, 512]⟩
abbrev S_ : Shape := ⟨0, ![]⟩
abbrev S1 : Shape := ⟨1, ![1]⟩
abbrev S2 : Shape := ⟨1, ![2]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 14
  | .vmem => 18
  | .smem => 1
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .bf16⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S2, .i32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S8x1024x256 : Shape := ⟨3, ![8, 1024, 256]⟩
abbrev S1024x256 : Shape := ⟨2, ![1024, 256]⟩
abbrev S_ : Shape := ⟨0, ![]⟩
abbrev S1 : Shape := ⟨1, ![1]⟩
abbrev S2 : Shape := ⟨1, ![2]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 14
  | .vmem => 18
  | .smem => 1
  | _ => 0

abbrev bufTy : (tb : Table) → Fin (tcTables nBuf tb) → BufTy
  | .hbm, ⟨0, _⟩ => ⟨S8x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .bf16⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .local _ .vmem, ⟨0, _⟩ => ⟨S8x512x256, .bf16⟩
  | .local _ .vmem, ⟨1, _⟩ => ⟨S8x512x256, .bf16⟩
  | .local _ .vmem, ⟨2, _⟩ => ⟨S1x512x256, .f32⟩
  | .local _ .vmem, ⟨3, _⟩ => ⟨S1x512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .smem, ⟨0, _⟩ => ⟨S2, .i32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S8x3x704 : Shape := ⟨3, ![8, 3, 704]⟩
abbrev S3x704 : Shape := ⟨2, ![3, 704]⟩
abbrev S_ : Shape := ⟨0, ![]⟩
abbrev S1 : Shape := ⟨1, ![1]⟩
abbrev S2 : Shape := ⟨1, ![2]⟩
abbrev S1x3x704 : Shape := ⟨3, ![1, 3, 704]⟩

abbrev nBuf : Space → Nat
  | .hbm => 14
  | .vmem => 9
  | .smem => 1
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S8x3x704, .bf16⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S3x704, .f32⟩
  | .local _ .vmem, ⟨0, _⟩ => ⟨S8x3x704, .bf16⟩
  | .local _ .vmem, ⟨1, _⟩ => ⟨S1x3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | .local _ .vmem, ⟨8, _⟩ => ⟨S3x704, .f32⟩
  | .local _ .smem, ⟨0, _⟩ => ⟨S2, .i32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S3x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference20Ideal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x2048 : Shape := ⟨2, ![8, 2048]⟩
abbrev S8x1536 : Shape := ⟨2, ![8, 1536]⟩
abbrev S2048x8 : Shape := ⟨2, ![2048, 8]⟩
abbrev S_ : Shape := ⟨0, ![]⟩
abbrev S2048x128 : Shape := ⟨2, ![2048, 128]⟩
abbrev S128x1536 : Shape := ⟨2, ![128, 1536]⟩
abbrev S2048x1536 : Shape := ⟨2, ![2048, 1536]⟩
abbrev S1024x128 : Shape := ⟨2, ![1024, 128]⟩
abbrev S128x768 : Shape := ⟨2, ![128, 768]⟩
abbrev S1024x768 : Shape := ⟨2, ![1024, 768]⟩

abbrev nBuf : Space → Nat
  | .hbm => 10
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S_, .i32⟩
  | .hbm, ⟨7, _⟩ => ⟨S_, .f32⟩
  | .hbm, ⟨8, _⟩ => ⟨S128x1536, .f32⟩
  | .hbm, ⟨9, _⟩ => ⟨S2048x1536, .f32⟩
  | .local _ .vmem, ⟨0, _⟩ => ⟨S1024x128, .f32⟩
  | .local _ .vmem, ⟨1, _⟩ => ⟨S1024x128, .f32⟩
  | .local _ .vmem, ⟨2, _⟩ => ⟨S128x768, .f32⟩
  | .local _ .vmem, ⟨3, _⟩ => ⟨S128x768, .f32⟩
  | .local _ .vmem, ⟨4, _⟩ => ⟨S1024x768, .f32⟩
  | .local _ .vmem, ⟨5, _⟩ => ⟨S1024x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8x2048 : Shape := ⟨2, ![8, 2048]⟩
abbrev S8x1536 : Shape := ⟨2, ![8, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S_, .f32⟩
  | .hbm, ⟨3, _⟩ => ⟨S2048x1536, .f32⟩
  | .hbm, ⟨4, _⟩ => ⟨S8x1536, .f32⟩
  | .hbm, ⟨5, _⟩ => ⟨S1536x2048, .f32⟩
  | .hbm, ⟨6, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v54 : BitVec 1 := Scalar.cmpi .eq arg1 c0_i32
  let v55 : BitVec 32 := Scalar.extui v54
  let c0_i32_21 : BitVec 32 := 0#32
  let v56 : BitVec 1 := Scalar.cmpi .ne v55 c0_i32_21
  v56

def k0_cond2 (i : grid0.Coords) : BitVec 1 :=
  let arg1 : BitVec 32 := BitVec.ofNat 32 (i 1).val
  let c0_i32 : BitVec 32 := 0#32
  let v54 : BitVec 1 := Scalar.cmpi .eq arg1 c0_i32
  let v_true : BitVec 1 := 1#1
  let v57 : BitVec 1 := Scalar.xori v54 v_true
  let v58 : BitVec 32 := Scalar.extui v57
  let c0_i32_22 : BitVec 32 := 0#32
  let v59 : BitVec 1 := Scalar.cmpi .ne v58 c0_i32_22
  v59

def k0_cond3 (i : grid0.Coords) : BitVec 1 :=
  let arg1 : BitVec 32 := BitVec.ofNat 32 (i 1).val
  let c0_i32_23 : BitVec 32 := 0#32
  let v60 : BitVec 1 := Scalar.cmpi .eq arg1 c0_i32_23
  let v61 : BitVec 32 := Scalar.extui v60
  let c0_i32_24 : BitVec 32 := 0#32
  let v62 : BitVec 1 := Scalar.cmpi .ne v61 c0_i32_24
  v62

def k0_cond4 (i : grid0.Coords) : BitVec 1 :=
  let arg1 : BitVec 32 := BitVec.ofNat 32 (i 1).val
  let c0_i32_23 : BitVec 32 := 0#32
  let v60 : BitVec 1 := Scalar.cmpi .eq arg1 c0_i32_23
  let true_25 : BitVec 1 := 1#1
  let v63 : BitVec 1 := Scalar.xori v60 true_25
  let v64 : BitVec 32 := Scalar.extui v63
  let c0_i32_26 : BitVec 32 := 0#32
  let v65 : BitVec 1 := Scalar.cmpi .ne v64 c0_i32_26
  v65

def k0_cond5 (i : grid0.Coords) : BitVec 1 :=
  let arg1 : BitVec 32 := BitVec.ofNat 32 (i 1).val
  let c0_i32_27 : BitVec 32 := 0#32
  let v66 : BitVec 1 := Scalar.cmpi .eq arg1 c0_i32_27
  let v67 : BitVec 32 := Scalar.extui v66
  let c0_i32_28 : BitVec 32 := 0#32
  let v68 : BitVec 1 := Scalar.cmpi .ne v67 c0_i32_28
  v68

def k0_cond6 (i : grid0.Coords) : BitVec 1 :=
  let arg1 : BitVec 32 := BitVec.ofNat 32 (i 1).val
  let c0_i32_27 : BitVec 32 := 0#32
  let v66 : BitVec 1 := Scalar.cmpi .eq arg1 c0_i32_27
  let true_29 : BitVec 1 := 1#1
  let v69 : BitVec 1 := Scalar.xori v66 true_29
  let v70 : BitVec 32 := Scalar.extui v69
  let c0_i32_30 : BitVec 32 := 0#32
  let v71 : BitVec 1 := Scalar.cmpi .ne v70 c0_i32_30
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference11Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Spec.lean ====
module

public import Idealize.ShloMosaic.PureOps.Ideal.Laws
public import Idealize.ShloMosaic.Lib.ValueIdx

/-! The gradient of one query row of windowed attention with a sink, over the real numbers: no program
appears here.  A row has one query, one incoming gradient, the keys and values of its window, the sink's
score, and the set of positions it may see. -/

@[expose] public section

noncomputable section

namespace Attn

open Idealize.ShloMosaic

/-- One query row of the attention: query, incoming gradient, keys and values of the window, the sink, and
which window positions are visible. -/
structure Row where
  q : Fin 64 → ℝ
  ct : Fin 64 → ℝ
  K : Fin 256 → Fin 64 → ℝ
  V : Fin 256 → Fin 64 → ℝ
  sink : ℝ
  on : Fin 256 → Bool

namespace Row

variable (r : Row)

/-- The scaled score of position `j`. -/
def sc (j : Fin 256) : ℝ := (∑ d, r.q d * r.K j d) * (1 / 8)

/-- The masked score: minus infinity where the position is not visible. -/
def se (j : Fin 256) : EReal := if r.on j then ((r.sc j : ℝ) : EReal) else ⊥

/-- The row's maximum over the visible scores and the sink, as an extended real. -/
def mx : EReal := max (Finset.univ.fold max ⊥ r.se) (r.sink : EReal)

/-- The row's maximum as a real. -/
def M : ℝ := r.mx.toReal

/-- The exponential of a shifted score, zero where the position is not visible. -/
def e (j : Fin 256) : ℝ := if r.on j then Real.exp (r.sc j - r.M) else 0

/-- The sink's exponential. -/
def es : ℝ := Real.exp (r.sink - r.M)

/-- The softmax's denominator. -/
def den : ℝ := ∑ j, r.e j + r.es

/-- The probability of a position. -/
def p (j : Fin 256) : ℝ := r.e j * (1 / r.den)

/-- The probability of the sink. -/
def ps : ℝ := r.es * (1 / r.den)

/-- The attention's output. -/
def o (d : Fin 64) : ℝ := ∑ j, r.p j * r.V j d

/-- The gradient's inner product with the output. -/
def delta : ℝ := ∑ d, r.ct d * r.o d

/-- The gradient of the probability of a position. -/
def dp (j : Fin 256) : ℝ := ∑ d, r.ct d * r.V j d

/-- The gradient of an unscaled score. -/
def ds (j : Fin 256) : ℝ := r.p j * (r.dp j - r.delta) * (1 / 8)

/-- The gradient of the query. -/
def dq (d : Fin 64) : ℝ := ∑ j, r.ds j * r.K j d

/-- The gradient of the sink that this row contributes, with its sign turned. -/
def dsk : ℝ := r.ps * r.delta

/-- A fold of maxima of numbers that are all below plus infinity is below plus infinity. -/
theorem fold_ne_top {ι : Type} (s : Finset ι) (f : ι → EReal) (h : ∀ i, f i ≠ ⊤) :
    s.fold max ⊥ f ≠ ⊤ := by
  classical
  induction s using Finset.induction_on with
  | empty => simp
  | insert a s ha ih =>
    rw [Finset.fold_insert ha]
    rcases max_choice (f a) (s.fold max ⊥ f) with h' | h' <;> rw [h']
    · exact h a
    · exact ih

/-- A masked score is never plus infinity. -/
theorem se_ne_top (j : Fin 256) : r.se j ≠ ⊤ := by
  unfold se; split <;> simp

/-- The row's maximum is a real number. -/
theorem coe_M : ((r.M : ℝ) : EReal) = r.mx := by
  refine EReal.coe_toReal ?_ ?_
  · unfold mx
    rcases max_choice (Finset.univ.fold max ⊥ r.se) ((r.sink : ℝ) : EReal) with h' | h' <;> rw [h']
    · exact fold_ne_top _ _ r.se_ne_top
    · exact EReal.coe_ne_top _
  · exact ne_of_gt (lt_of_lt_of_le (EReal.bot_lt_coe _) (le_max_right _ _))

theorem e_nonneg (j : Fin 256) : 0 ≤ r.e j := by
  unfold e; split
  · exact (Real.exp_pos _).le
  · exact le_rfl

theorem es_pos : 0 < r.es := Real.exp_pos _

/-- The denominator is positive: the sink's exponential is. -/
theorem den_pos : 0 < r.den :=
  add_pos_of_nonneg_of_pos (Finset.sum_nonneg fun j _ => r.e_nonneg j) r.es_pos

theorem den_ne : r.den ≠ 0 := r.den_pos.ne'

/-- The exponential of the shifted masked score, as the programs compute it. -/
theorem exp_se (j : Fin 256) : Ideal.exp (r.se j - ((r.M : ℝ) : EReal)) = ((r.e j : ℝ) : EReal) := by
  unfold se e
  split
  · rw [← EReal.coe_sub, Ideal.exp_coe]
  · rw [show (⊥ : EReal) - ((r.M : ℝ) : EReal) = ⊥ from rfl, Ideal.exp_bot]; rfl

/-- The inner product with the output is the mean of the probabilities' gradients. -/
theorem delta_eq : r.delta = ∑ j, r.p j * r.dp j := by
  unfold delta o dp
  simp only [Finset.mul_sum]
  rw [Finset.sum_comm]
  refine Finset.sum_congr rfl fun j _ => Finset.sum_congr rfl fun d _ => ?_
  ring

/-- The sum the reference takes for the denominator's gradient. -/
theorem sum_dp_e : ∑ j, r.dp j * (1 / (r.den * r.den)) * r.e j = r.delta * (1 / r.den) := by
  rw [delta_eq, Finset.sum_mul]
  refine Finset.sum_congr rfl fun j _ => ?_
  unfold p
  have := r.den_ne
  field_simp

/-- The reference's gradient of a shifted score is the kernel's. -/
theorem ref_ds (j : Fin 256) :
    (r.dp j * (1 / r.den) + -(r.delta * (1 / r.den))) * r.e j * (1 / 8) = r.ds j := by
  unfold ds p
  ring

/-- The gradient through the row's maximum is zero: the shift does not change the softmax. -/
theorem ref_zero :
    -(-(r.delta * (1 / r.den)) * r.es)
      + ∑ j, -((r.dp j * (1 / r.den) + -(r.delta * (1 / r.den))) * r.e j) = 0 := by
  have h1 : ∑ j, -((r.dp j * (1 / r.den) + -(r.delta * (1 / r.den))) * r.e j)
      = -(∑ j, r.p j * r.dp j) + r.delta * (1 / r.den) * ∑ j, r.e j := by
    rw [Finset.mul_sum, ← Finset.sum_neg_distrib, ← Finset.sum_add_distrib]
    refine Finset.sum_congr rfl fun j _ => ?_
    unfold p; ring
  have h2 : ∑ j, r.e j = r.den - r.es := by unfold den; ring
  rw [h1, h2, ← delta_eq]
  have := r.den_ne
  field_simp
  ring

/-- The reference's contribution to the sink's gradient. -/
theorem ref_dsk : -(r.delta * (1 / r.den)) * r.es = -r.dsk := by
  unfold dsk ps; ring

/-- Two rows that differ only in keys and values of positions they do not see. -/
structure Same (r s : Row) : Prop where
  q : r.q = s.q
  ct : r.ct = s.ct
  sink : r.sink = s.sink
  on : r.on = s.on
  K : ∀ j, r.on j = true → r.K j = s.K j
  V : ∀ j, r.on j = true → r.V j = s.V j

variable {r} {s : Row} (h : Same r s)
include h

theorem Same.sc (j : Fin 256) (hj : r.on j = true) : r.sc j = s.sc j := by
  unfold Row.sc; rw [h.q, h.K j hj]

theorem Same.se : r.se = s.se := by
  funext j
  unfold Row.se; rw [← h.on]
  split
  · next hj => rw [h.sc j hj]
  · rfl

theorem Same.M : r.M = s.M := by unfold Row.M Row.mx; rw [h.se, h.sink]

theorem Same.e : r.e = s.e := by
  funext j
  unfold Row.e; rw [← h.on, h.M]
  split
  · next hj => rw [h.sc j hj]
  · rfl

theorem Same.es : r.es = s.es := by unfold Row.es; rw [h.M, h.sink]

theorem Same.den : r.den = s.den := by unfold Row.den; rw [h.e, h.es]

theorem Same.p : r.p = s.p := by funext j; unfold Row.p; rw [h.e, h.den]

theorem Same.ps : r.ps = s.ps := by unfold Row.ps; rw [h.es, h.den]

omit h in
/-- A position that is not visible has probability zero. -/
theorem p_off (r : Row) (j : Fin 256) (hj : ¬ r.on j = true) : r.p j = 0 := by
  unfold Row.p Row.e; rw [if_neg hj, zero_mul]

omit h in
theorem ds_off (r : Row) (j : Fin 256) (hj : ¬ r.on j = true) : r.ds j = 0 := by
  unfold Row.ds; rw [p_off r j hj]; ring

theorem Same.o : r.o = s.o := by
  funext d
  refine Finset.sum_congr rfl fun j _ => ?_
  by_cases hj : r.on j = true
  · rw [h.p, h.V j hj]
  · rw [p_off r j hj, ← h.p, p_off r j hj, zero_mul, zero_mul]

theorem Same.delta : r.delta = s.delta := by unfold Row.delta; rw [h.ct, h.o]

theorem Same.dsk : r.dsk = s.dsk := by unfold Row.dsk; rw [h.ps, h.delta]

theorem Same.ds : r.ds = s.ds := by
  funext j
  by_cases hj : r.on j = true
  · unfold Row.ds Row.dp; rw [h.p, h.ct, h.delta, h.V j hj]
  · rw [ds_off r j hj, ds_off s j (by rwa [← h.on])]

theorem Same.dq : r.dq = s.dq := by
  funext d
  refine Finset.sum_congr rfl fun j _ => ?_
  by_cases hj : r.on j = true
  · rw [h.ds, h.K j hj]
  · rw [ds_off r j hj, ← h.ds, ds_off r j hj, zero_mul, zero_mul]

end Row

/-! ### The rows of the whole call -/

/-- The call's arguments as real numbers: queries, keys, values, sinks and the incoming gradient. -/
structure Args where
  Q : Fin 4096 → Fin 16 → Fin 64 → ℝ
  K : Fin 4096 → Fin 2 → Fin 64 → ℝ
  V : Fin 4096 → Fin 2 → Fin 64 → ℝ
  S : Fin 16 → ℝ
  C : Fin 4096 → Fin 1024 → ℝ

namespace Args

variable (a : Args)

/-- Query position `i` of window `n`. -/
def pos (n : Fin 32) (i : Fin 128) : Fin 4096 := ⟨128 * n.val + i.val, by omega⟩

/-- Query head `g` of group `h`. -/
def head (h : Fin 2) (g : Fin 8) : Fin 16 := ⟨8 * h.val + g.val, by omega⟩

/-- Column `d` of the head's share of the model dimension. -/
def col (h : Fin 2) (g : Fin 8) (d : Fin 64) : Fin 1024 := ⟨64 * (8 * h.val + g.val) + d.val, by omega⟩

/-- Whether query `i` of window `n` sees position `j` of the window. -/
def vis (n : Fin 32) (i : Fin 128) (j : Fin 256) : Bool :=
  decide (j.val ≤ i.val + 128 ∧ i.val < j.val ∧ (128 ≤ j.val ∨ 0 < n.val))

/-- Window `n` of an array of keys or values, zeros before the first. -/
def winR (X : Fin 4096 → Fin 2 → Fin 64 → ℝ) (n : Fin 32) (h : Fin 2) (j : Fin 256) (d : Fin 64) : ℝ :=
  if hj : 128 ≤ 128 * n.val + j.val then X ⟨128 * n.val + j.val - 128, by omega⟩ h d else 0

/-- Window `n` of an array of keys or values, the first block repeated before the first. -/
def winK (X : Fin 4096 → Fin 2 → Fin 64 → ℝ) (n : Fin 32) (h : Fin 2) (j : Fin 256) (d : Fin 64) : ℝ :=
  if j.val < 128 then X ⟨128 * (n.val - 1) + j.val % 128, by omega⟩ h d
  else X ⟨128 * n.val + j.val % 128, by omega⟩ h d

/-- The row of query `i`, head `g` of group `h`, window `n`, with the window padded by zeros. -/
def rowR (n : Fin 32) (h : Fin 2) (g : Fin 8) (i : Fin 128) : Row where
  q d := a.Q (pos n i) (head h g) d
  ct d := a.C (pos n i) (col h g d)
  K := winR a.K n h
  V := winR a.V n h
  sink := a.S (head h g)
  on := vis n i

/-- The same row with the first block repeated. -/
def rowK (n : Fin 32) (h : Fin 2) (g : Fin 8) (i : Fin 128) : Row where
  q d := a.Q (pos n i) (head h g) d
  ct d := a.C (pos n i) (col h g d)
  K := winK a.K n h
  V := winK a.V n h
  sink := a.S (head h g)
  on := vis n i

/-- The two windows agree at a visible position. -/
theorem win_eq (X : Fin 4096 → Fin 2 → Fin 64 → ℝ) (n : Fin 32) (h : Fin 2) (i : Fin 128) (j : Fin 256)
    (hj : vis n i j = true) : winK X n h j = winR X n h j := by
  funext d
  have hv := of_decide_eq_true hj
  unfold winK winR
  by_cases hlt : j.val < 128
  · rw [if_pos hlt, dif_pos (by omega)]
    congr 1; ext; show 128 * (n.val - 1) + j.val % 128 = 128 * n.val + j.val - 128
    omega
  · rw [if_neg hlt, dif_pos (by omega)]
    congr 1; ext; show 128 * n.val + j.val % 128 = 128 * n.val + j.val - 128
    omega

/-- The kernel's row and the reference's differ only where the query does not look. -/
theorem same (n : Fin 32) (h : Fin 2) (g : Fin 8) (i : Fin 128) : Row.Same (a.rowK n h g i) (a.rowR n h g i) where
  q := rfl
  ct := rfl
  sink := rfl
  on := rfl
  K j hj := win_eq a.K n h i j hj
  V j hj := win_eq a.V n h i j hj

end Args

end Attn

end

end
-- ==== Proof.Arith.lean ====
module

public import Idealize.ShloMosaic.PureOps.Ideal.Laws
public import Idealize.ShloMosaic.Lib.ValueIdx
public import Idealize.ShloMosaic.Lib.ValueIdxCoords
public import Idealize.ShloMosaic.Lib.MatmulPlain
public import Idealize.ShloMosaic.Lib.Pipeline.Value

/-! Reading lemmas shared by the proofs: finite sums of reals as extended reals, row reductions and products
at an index, for any extents. -/

@[expose] public section

noncomputable section

namespace Attn

open Idealize.ShloMosaic Idealize.ShloMosaic.ValueIdx
open scoped BigOperators

/-- A finite sum of reals, taken in the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of extended reals that are reals. -/
theorem sum_coe {ι : Type} [Fintype ι] (F : ι → EReal) (f : ι → ℝ) (h : ∀ i, F i = ((f i : ℝ) : EReal)) :
    ∑ i, F i = ((∑ i, f i : ℝ) : EReal) := by
  rw [Finset.sum_congr rfl fun i _ => h i, coe_sum]

/-- A sum of products of reals. -/
theorem sum_mul_coe {ι : Type} [Fintype ι] (F G : ι → EReal) (f g : ι → ℝ) (hf : ∀ i, F i = ((f i : ℝ) : EReal))
    (hg : ∀ i, G i = ((g i : ℝ) : EReal)) : ∑ i, F i * G i = ((∑ i, f i * g i : ℝ) : EReal) :=
  sum_coe _ _ fun i => by rw [hf, hg, EReal.coe_mul]

/-- The sum of a matrix's row. -/
theorem rowSum_apply {n k : Nat} {φ : FTy} (x : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (r : Fin n) :
    multiReduction .add [1] ⟨1, ![n]⟩ x acc h hφ hacc (ix1 r) = ∑ j, x (ix2 r j) := by
  refine (Ideal.multiReduction_add_single x acc h hφ hacc (ix1 r)).trans (Finset.sum_congr rfl fun j _ => congrArg x ?_)
  funext a
  match a with
  | ⟨0, _⟩ => rfl
  | ⟨1, _⟩ => rfl

/-- The sum of a one-column matrix's column. -/
theorem colSum_apply {n : Nat} {φ : FTy} (x : FVec Ideal ⟨2, ![n, 1]⟩ φ) (acc : BitVec φ.bits)
    (h : (⟨2, ![n, 1]⟩ : Shape).Reduces [0] ⟨1, ![1]⟩) (hφ : FKind.Formats φ) (hacc : acc = FKind.add.neutral φ hφ) (z : Fin 1) :
    multiReduction .add [0] ⟨1, ![1]⟩ x acc h hφ hacc (ix1 z) = ∑ j, x (ix2 j 0) := by
  refine (Ideal.multiReduction_add_single x acc h hφ hacc (ix1 z)).trans (Finset.sum_congr rfl fun j _ => congrArg x ?_)
  funext a
  match a with
  | ⟨0, _⟩ => rfl
  | ⟨1, _⟩ => exact Fin.ext (by have := z.isLt; simp; omega)

/-- The maximum of a matrix's row. -/
theorem rowMax_apply {n k : Nat} (x : FVec Ideal ⟨2, ![n, k]⟩ .f32)
    (h : (⟨2, ![n, k]⟩ : Shape).Reduces [1] ⟨1, ![n]⟩) (hφ : FKind.Formats .f32) (hacc : 0xFF800000#32 = FKind.maximumf.neutral .f32 hφ) (r : Fin n) :
    multiReduction .maximumf [1] ⟨1, ![n]⟩ x 0xFF800000#32 h hφ hacc (ix1 r) = Finset.univ.fold max ⊥ (fun j => x (ix2 r j)) := by
  refine (Ideal.multiReduction_maximumf_single x _ h hφ hacc (ix1 r)).trans ?_
  have hb : FloatOps.ofBits (F := Ideal) .f32 0xFF800000#32 = (⊥ : EReal) := by
    show Ideal.ofBits .f32 0xFF800000#32 = _
    simp [Ideal.ofBits, Ideal.ieee]
  rw [hb]
  have hf : (x ∘ h.lift (ix1 r)) = (fun j => x (ix2 r j)) := by
    funext j
    refine congrArg x ?_
    funext a
    match a with
    | ⟨0, _⟩ => rfl
    | ⟨1, _⟩ => rfl
  rw [hf]
  rfl

/-- `[K,M]ᵀ × [K,N]`: the product that contracts both operands' rows. -/
theorem transposedLhs_apply {M K N : ℕ} {φ₁ φ₂ : FTy}
    (wf : DotDims.WF ⟨2, ![K, M]⟩ ⟨2, ![K, N]⟩ ⟨2, ![M, N]⟩ [0] [0] [1] [1] [] [])
    (D : DotDims ⟨2, ![K, M]⟩ ⟨2, ![K, N]⟩ ⟨2, ![M, N]⟩) (hD : D = ⟨[0], [0], [1], [1], [], [], wf⟩)
    (prec : Option ContractPrecision)
    (lhs : FVec Ideal ⟨2, ![K, M]⟩ φ₁) (rhs : FVec Ideal ⟨2, ![K, N]⟩ φ₂) (r : Fin M) (c : Fin N) :
    matmul D prec lhs rhs (constant ⟨2, ![M, N]⟩ .f32 0x00000000#32) (ix2 r c) = ∑ k : Fin K, lhs (ix2 k r) * rhs (ix2 k c) := by
  subst hD
  unfold matmul
  rw [Ideal.matmul_constant_zero_apply]
  rw [← Equiv.sum_comp (contrEquiv1 (⟨[0], [0], [1], [1], [], [], wf⟩ : DotDims _ _ _) K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  refine congrArg₂ (· * ·) (congrArg lhs ?_) (congrArg rhs ?_)
  · funext a; apply Fin.ext
    match a with
    | ⟨0, _⟩ => exact hk
    | ⟨1, _⟩ => rfl
  · funext a; apply Fin.ext
    match a with
    | ⟨0, _⟩ => exact hk
    | ⟨1, _⟩ => rfl

/-- A plain product onto zero. -/
theorem plain_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (r : Fin M) (c : Fin N) :
    matmul D prec lhs rhs (constant ⟨2, ![M, N]⟩ .f32 0x00000000#32) (ix2 r c) = ∑ k : Fin K, lhs (ix2 r k) * rhs (ix2 k c) := by
  subst hD
  unfold matmul
  rw [Ideal.matmul_plain_apply, constant_apply, Ideal.ofBits_zero_f32, zero_add]

/-- A product with the transposed right operand onto zero. -/
theorem transposedRhs_apply {M K N : ℕ} {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (r : Fin M) (c : Fin N) :
    matmul D prec lhs rhs (constant ⟨2, ![M, N]⟩ .f32 0x00000000#32) (ix2 r c) = ∑ k : Fin K, lhs (ix2 r k) * rhs (ix2 c k) := by
  subst hD
  unfold matmul
  rw [Ideal.matmul_transposedRhs_apply, constant_apply, Ideal.ofBits_zero_f32, zero_add]

end Attn

end

end
-- ==== Proof.Block.lean ====
module

public import proofs.«01_k».proof.Proof.Spec
public import proofs.«01_k».proof.Proof.Arith
public import proofs.«01_k».proof.Proof.Gen.KernelIdeal.Skeleton

/-! What one grid point of the kernel computes, entry by entry, from blocks whose entries are real numbers. -/

@[expose] public section

noncomputable section

namespace Attn

open Idealize.ShloMosaic Idealize.ShloMosaic.ValueIdx
open Cert.KernelIdeal Cert.KernelIdeal.Gen
open scoped BigOperators

/-- One grid point's blocks, read as the 1024 rows it works on. -/
structure Blk (row : Fin 1024 → Row) (mask : IVec S1024x256 1) (q : Vec Ideal S8x128x64 .f32) (ct : Vec Ideal S8x128x64 .bf16)
    (k0 k1 v0 v1 : Vec Ideal S1x128x64 .f32) (sk : Vec Ideal S1x1024x1 .f32) : Prop where
  hm : ∀ R j, mask (ix2 R j) = if (row R).on j then 1#1 else 0#1
  hq : ∀ (R : Fin 1024) d, q (ix3 (⟨R.val / 128, by omega⟩ : Fin 8) (⟨R.val % 128, by omega⟩ : Fin 128) d) = (((row R).q d : ℝ) : EReal)
  hc : ∀ (R : Fin 1024) d, ct (ix3 (⟨R.val / 128, by omega⟩ : Fin 8) (⟨R.val % 128, by omega⟩ : Fin 128) d) = (((row R).ct d : ℝ) : EReal)
  hk0 : ∀ R (j : Fin 128) d, k0 (ix3 0 j d) = (((row R).K ⟨j.val, by omega⟩ d : ℝ) : EReal)
  hk1 : ∀ R (j : Fin 128) d, k1 (ix3 0 j d) = (((row R).K ⟨128 + j.val, by omega⟩ d : ℝ) : EReal)
  hv0 : ∀ R (j : Fin 128) d, v0 (ix3 0 j d) = (((row R).V ⟨j.val, by omega⟩ d : ℝ) : EReal)
  hv1 : ∀ R (j : Fin 128) d, v1 (ix3 0 j d) = (((row R).V ⟨128 + j.val, by omega⟩ d : ℝ) : EReal)
  hs : ∀ R, sk (ix3 0 R 0) = (((row R).sink : ℝ) : EReal)

variable {row : Fin 1024 → Row} {mask : IVec S1024x256 1} {q : Vec Ideal S8x128x64 .f32} {ct : Vec Ideal S8x128x64 .bf16}
    {k0 k1 v0 v1 : Vec Ideal S1x128x64 .f32} {sk : Vec Ideal S1x1024x1 .f32}

/-- Two blocks of 128 rows one after the other. -/
theorem two_apply (x y : Vec Ideal S1x128x64 .f32) (f : Fin 256 → Fin 64 → ℝ)
    (hx : ∀ (j : Fin 128) d, x (ix3 0 j d) = ((f ⟨j.val, by omega⟩ d : ℝ) : EReal))
    (hy : ∀ (j : Fin 128) d, y (ix3 0 j d) = ((f ⟨128 + j.val, by omega⟩ d : ℝ) : EReal)) (j : Fin 256) (d : Fin 64) :
    k0_pay4 x y (ix2 j d) = ((f j d : ℝ) : EReal) := by
  unfold k0_pay4
  try dsimp only
  rw [truncf_apply]
  by_cases hj : j.val < 128
  · rw [concatenate_pair_apply_left (s₁ := S128x64) (s₂ := S128x64) 0 _ _ _ (ix2 j d) rfl (ix2 (⟨j.val, hj⟩ : Fin 128) d)
      (fun b => by match b with | ⟨0, _⟩ => rfl | ⟨1, _⟩ => rfl)]
    rw [shapeCast_apply _ _ _ (ix3 0 (⟨j.val, hj⟩ : Fin 128) d)
      (by rw [Shape.rowMajor_val_three, Shape.rowMajor_val_two]; simp [S1x128x64, S128x64]), hx]
  · rw [concatenate_pair_apply_right (s₁ := S128x64) (s₂ := S128x64) 0 _ _ _ (ix2 j d) rfl rfl (ix2 (⟨j.val - 128, by omega⟩ : Fin 128) d)
      (fun b hb => by match b with | ⟨0, _⟩ => exact absurd rfl hb | ⟨1, _⟩ => rfl) (by show j.val - 128 + 128 = j.val; omega)]
    rw [shapeCast_apply _ _ _ (ix3 0 (⟨j.val - 128, by omega⟩ : Fin 128) d)
      (by rw [Shape.rowMajor_val_three, Shape.rowMajor_val_two]; simp [S1x128x64, S128x64]), hy]
    rw [show (⟨128 + (j.val - 128), by omega⟩ : Fin 256) = j from Fin.ext (by show 128 + (j.val - 128) = j.val; omega)]

namespace Blk

variable (B : Blk row mask q ct k0 k1 v0 v1 sk)
include B

/-- The window's keys. -/
theorem k_apply (R : Fin 1024) (j : Fin 256) (d : Fin 64) : k0_pay4 k0 k1 (ix2 j d) = (((row R).K j d : ℝ) : EReal) :=
  two_apply k0 k1 (row R).K (B.hk0 R) (B.hk1 R) j d

/-- The window's values. -/
theorem v_apply (R : Fin 1024) (j : Fin 256) (d : Fin 64) : k0_pay5 v0 v1 (ix2 j d) = (((row R).V j d : ℝ) : EReal) :=
  two_apply v0 v1 (row R).V (B.hv0 R) (B.hv1 R) j d

omit B in
/-- Eight heads' blocks of 128 rows, one after the other. -/
theorem rows_apply {φ : FTy} (x : FVec Ideal S8x128x64 φ) (h1 : S8x128x64.ShapeCasts S8x128x64) (h2 : S8x128x64.ShapeCasts S1024x64)
    (R : Fin 1024) (d : Fin 64) :
    (shapeCast S1024x64 (shapeCast S8x128x64 x h1) h2 : FVec Ideal S1024x64 φ) (ix2 R d)
      = x (ix3 (⟨R.val / 128, by omega⟩ : Fin 8) (⟨R.val % 128, by omega⟩ : Fin 128) d) := by
  rw [shapeCast_apply _ h2 (ix2 R d) (ix3 (⟨R.val / 128, by omega⟩ : Fin 8) (⟨R.val % 128, by omega⟩ : Fin 128) d)
      (by rw [Shape.rowMajor_val_three, Shape.rowMajor_val_two]; simp [S8x128x64, S1024x64]; omega)]
  exact shapeCast_apply _ h1 _ _ rfl

/-- The query. -/
theorem q_apply (R : Fin 1024) (d : Fin 64) : k0_pay6 q (ix2 R d) = (((row R).q d : ℝ) : EReal) :=
  (rows_apply q _ _ R d).trans (B.hq R d)

/-- The incoming gradient. -/
theorem ct_apply (R : Fin 1024) (d : Fin 64) : k0_pay7 ct (ix2 R d) = (((row R).ct d : ℝ) : EReal) :=
  (rows_apply (φ := .bf16) ct _ _ R d).trans (B.hc R d)

/-- The sink. -/
theorem sink_apply (R : Fin 1024) : k0_pay9 sk (ix2 R 0) = (((row R).sink : ℝ) : EReal) := by
  unfold k0_pay9
  try dsimp only
  rw [shapeCast_apply _ _ _ (ix3 0 R 0) (by rw [Shape.rowMajor_val_three, Shape.rowMajor_val_two]; simp [S1x1024x1, S1024x1]), B.hs]

omit B in
theorem eighth : FloatOps.ofBits (F := Ideal) .f32 0x3E000000#32 = (((1 / 8 : ℝ)) : EReal) := by
  show Ideal.ofBits .f32 0x3E000000#32 = _
  simp [Ideal.ofBits, Ideal.ieee, -EReal.coe_mul]; norm_num

omit B in
theorem one_bits : FloatOps.ofBits (F := Ideal) .f32 0x3F800000#32 = ((1 : ℝ) : EReal) := by
  show Ideal.ofBits .f32 0x3F800000#32 = _
  simp [Ideal.ofBits, Ideal.ieee, -EReal.coe_mul]; norm_num

omit B in
theorem masked : (Named.named (F := Ideal) Cert.KernelIdeal.κ "mask" 0xF149F2CA#32 : Ideal .f32) = (⊥ : EReal) :=
  IdealRules.named_const.ideal_named_scalar _ _ _ _ rfl

/-- The masked score. -/
theorem se_apply (R : Fin 1024) (j : Fin 256) : k0_pay10 mask (k0_pay4 k0 k1) (k0_pay6 q) (ix2 R j) = (row R).se j := by
  unfold k0_pay10
  try dsimp only
  rw [select_apply, mulf_apply, broadcast_apply, broadcast_apply, B.hm, transposedRhs_apply dot_S1024x64_S256x64_S1024x256_1_1_0_0_n_n rfl,
    sum_mul_coe _ _ _ _ (fun d => B.q_apply R d) (fun d => B.k_apply R j d)]
  unfold Row.se Row.sc
  split
  · rw [select_one, eighth, EReal.coe_mul]
  · rw [select_zero]; exact masked

omit B in
/-- A column of one entry per row, made a one-column matrix. -/
theorem _root_.Attn.column_apply (x : FVec Ideal S1024 .f32) (h : S1024.ShapeCasts S1024x1) (R : Fin 1024) :
    (shapeCast S1024x1 x h : FVec Ideal S1024x1 .f32) (ix2 R 0) = x (ix1 R) :=
  shapeCast_apply _ h _ _ (by rw [Shape.rowMajor_val_one, Shape.rowMajor_val_two]; simp [S1024x1, S1024])

omit B in
/-- A one-column matrix repeated along its rows. -/
theorem _root_.Attn.spread_apply (x : FVec Ideal S1024x1 .f32) (h : S1024x1.Broadcasts S1024x256) (R : Fin 1024) (j : Fin 256) :
    broadcastTo S1024x256 x h (ix2 R j) = x (ix2 R 0) :=
  broadcastTo_apply _ h _ _ fun a => by match a with | ⟨0, _⟩ => rfl | ⟨1, _⟩ => rfl

/-- The row's maximum. -/
theorem M_apply (R : Fin 1024) : k0_pay11 mask (k0_pay4 k0 k1) (k0_pay6 q) sk (ix2 R 0) = (((row R).M : ℝ) : EReal) := by
  unfold k0_pay11
  try dsimp only
  rw [maximumf_apply, column_apply, B.sink_apply, Row.coe_M]
  refine Eq.trans (b := max (Finset.univ.fold max ⊥ fun j => k0_pay10 mask (k0_pay4 k0 k1) (k0_pay6 q) (ix2 R j)) (((row R).sink : ℝ) : EReal))
    (congrArg₂ max (rowMax_apply (k0_pay10 mask (k0_pay4 k0 k1) (k0_pay6 q)) reduces_S1024x256_S1024 (.inl rfl) rfl R) rfl) ?_
  unfold Row.mx
  rw [show (fun j => k0_pay10 mask (k0_pay4 k0 k1) (k0_pay6 q) (ix2 R j)) = (row R).se from funext fun j => B.se_apply R j]

/-- The exponentials. -/
theorem e_apply (R : Fin 1024) (j : Fin 256) : k0_pay12 mask (k0_pay4 k0 k1) (k0_pay6 q) sk (ix2 R j) = (((row R).e j : ℝ) : EReal) := by
  unfold k0_pay12
  try dsimp only
  show Ideal.exp (_ - broadcastTo S1024x256 _ _ (ix2 R j)) = _
  rw [spread_apply, B.se_apply, B.M_apply, Row.exp_se]

/-- The sink's exponential. -/
theorem es_apply (R : Fin 1024) : k0_pay13 mask (k0_pay4 k0 k1) (k0_pay6 q) sk (ix2 R 0) = (((row R).es : ℝ) : EReal) := by
  unfold k0_pay13
  try dsimp only
  show Ideal.exp (k0_pay9 sk (ix2 R 0) - _) = _
  rw [B.sink_apply, B.M_apply, ← EReal.coe_sub, Ideal.exp_coe]; rfl

/-- The reciprocal of the denominator. -/
theorem inv_apply (R : Fin 1024) : k0_pay14 mask (k0_pay4 k0 k1) (k0_pay6 q) sk (ix2 R 0) = ((1 / (row R).den : ℝ) : EReal) := by
  unfold k0_pay14
  try dsimp only
  rw [divf_apply, broadcast_apply, addf_apply, column_apply, B.es_apply]
  refine (congrArg (fun z => Ideal.div _ (z + _)) ((rowSum_apply _ _ _ _ _ R).trans (sum_coe _ _ (fun j => B.e_apply R j)))).trans ?_
  rw [← EReal.coe_add]
  show Ideal.div (FloatOps.ofBits (F := Ideal) .f32 0x3F800000#32) (((row R).den : ℝ) : EReal) = _
  rw [one_bits, Ideal.div_coe (row R).den_ne, ← EReal.coe_mul, one_mul]

/-- The probabilities. -/
theorem p_apply (R : Fin 1024) (j : Fin 256) : k0_pay15 mask (k0_pay4 k0 k1) (k0_pay6 q) sk (ix2 R j) = (((row R).p j : ℝ) : EReal) := by
  unfold k0_pay15
  try dsimp only
  rw [mulf_apply, spread_apply, B.e_apply, B.inv_apply, ← EReal.coe_mul]; rfl

/-- The sink's probability. -/
theorem ps_apply (R : Fin 1024) : k0_pay16 mask (k0_pay4 k0 k1) (k0_pay6 q) sk (ix2 R 0) = (((row R).ps : ℝ) : EReal) := by
  unfold k0_pay16
  try dsimp only
  rw [mulf_apply, B.es_apply, B.inv_apply, ← EReal.coe_mul]; rfl

/-- The inner product of gradient and output. -/
theorem delta_apply (R : Fin 1024) :
    k0_pay18 mask (k0_pay4 k0 k1) (k0_pay5 v0 v1) (k0_pay6 q) ct sk (ix2 R 0) = (((row R).delta : ℝ) : EReal) := by
  unfold k0_pay18
  try dsimp only
  rw [column_apply]
  refine (rowSum_apply _ _ _ _ _ R).trans ?_
  refine sum_mul_coe _ _ _ _ (fun d => B.ct_apply R d) fun d => ?_
  rw [plain_apply dot_S1024x256_S256x64_S1024x64_1_0_0_1_n_n rfl]
  exact sum_mul_coe _ _ _ _ (fun j => B.p_apply R j) fun j => B.v_apply R j d

/-- The gradient of the scores. -/
theorem ds_apply (R : Fin 1024) (j : Fin 256) :
    k0_pay19 mask (k0_pay4 k0 k1) (k0_pay5 v0 v1) (k0_pay6 q) ct sk (ix2 R j) = (((row R).ds j : ℝ) : EReal) := by
  unfold k0_pay19
  try dsimp only
  rw [truncf_apply, mulf_apply, mulf_apply, broadcast_apply, subf_apply, spread_apply, B.p_apply, B.delta_apply, transposedRhs_apply dot_S1024x64_S256x64_S1024x256_1_1_0_0_n_n rfl,
    sum_mul_coe _ _ _ _ (fun d => show k0_pay8 ct (ix2 R d) = _ from B.ct_apply R d) (fun d => B.v_apply R j d), eighth,
    ← EReal.coe_sub, ← EReal.coe_mul, ← EReal.coe_mul]
  rfl

/-- The gradient of the queries, as stored. -/
theorem dq_apply (R : Fin 1024) (d : Fin 64) :
    k0_pay20 mask (k0_pay4 k0 k1) (k0_pay5 v0 v1) (k0_pay6 q) ct sk (ix3 (⟨R.val / 128, by omega⟩ : Fin 8) (⟨R.val % 128, by omega⟩ : Fin 128) d)
      = (((row R).dq d : ℝ) : EReal) := by
  unfold k0_pay20
  try dsimp only
  rw [truncf_apply, shapeCast_apply _ _ _ (ix2 R d) (by rw [Shape.rowMajor_val_three, Shape.rowMajor_val_two]; simp [S8x128x64, S1024x64]; omega),
    plain_apply dot_S1024x256_S256x64_S1024x64_1_0_0_1_n_n rfl]
  exact sum_mul_coe _ _ _ _ (fun j => B.ds_apply R j) fun j => B.k_apply R j d

/-- The window's gradient of the keys, as stored. -/
theorem dk_apply (j : Fin 256) (d : Fin 64) :
    k0_pay21 (k0_pay6 q) (k0_pay19 mask (k0_pay4 k0 k1) (k0_pay5 v0 v1) (k0_pay6 q) ct sk) (ix4 0 0 j d)
      = ((∑ R, (row R).ds j * (row R).q d : ℝ) : EReal) := by
  unfold k0_pay21
  try dsimp only
  rw [shapeCast_apply _ _ _ (ix2 j d) (by rw [Shape.rowMajor_val_four, Shape.rowMajor_val_two]; simp [S1x1x256x64, S256x64]),
    transposedLhs_apply dot_S1024x256_S1024x64_S256x64_0_0_1_1_n_n_wf dot_S1024x256_S1024x64_S256x64_0_0_1_1_n_n rfl]
  exact sum_mul_coe _ _ _ _ (fun R => B.ds_apply R j) fun R => B.q_apply R d

/-- The window's gradient of the values, as stored. -/
theorem dv_apply (j : Fin 256) (d : Fin 64) :
    k0_pay22 (k0_pay8 ct) (k0_pay17 mask (k0_pay4 k0 k1) (k0_pay6 q) sk) (ix4 0 0 j d)
      = ((∑ R, (row R).p j * (row R).ct d : ℝ) : EReal) := by
  unfold k0_pay22
  try dsimp only
  rw [shapeCast_apply _ _ _ (ix2 j d) (by rw [Shape.rowMajor_val_four, Shape.rowMajor_val_two]; simp [S1x1x256x64, S256x64]),
    transposedLhs_apply dot_S1024x256_S1024x64_S256x64_0_0_1_1_n_n_wf dot_S1024x256_S1024x64_S256x64_0_0_1_1_n_n rfl]
  exact sum_mul_coe _ _ _ _ (fun R => B.p_apply R j) fun R => B.ct_apply R d

/-- The row's contribution to the sink's gradient, before the sign. -/
theorem dsk_apply (R : Fin 1024) :
    k0_pay23 (k0_pay16 mask (k0_pay4 k0 k1) (k0_pay6 q) sk) (k0_pay18 mask (k0_pay4 k0 k1) (k0_pay5 v0 v1) (k0_pay6 q) ct sk) (ix2 R 0)
      = (((row R).dsk : ℝ) : EReal) := by
  unfold k0_pay23
  try dsimp only
  rw [mulf_apply, B.ps_apply, B.delta_apply, ← EReal.coe_mul]; rfl

end Blk

end Attn

end

end
-- ==== Proof.Points.lean ====
module

public import proofs.«01_k».proof.Proof.Gen.KernelIdeal.Value
public import proofs.«01_k».proof.Proof.Block
public import Idealize.ShloMosaic.Lib.Pipeline.ValueKit.Tiles

/-! What each grid point leaves in the kernel's four output blocks, as the kernel's own terms. -/

@[expose] public section

set_option maxRecDepth 16384

noncomputable section

namespace Attn

open Idealize.ShloMosaic Idealize.ShloMosaic.TcCoe Idealize.ShloMosaic.Tactic Idealize.ShloMosaic.ValueIdx
open Cert.KernelIdeal Cert.KernelIdeal.Gen
open scoped BigOperators

variable (m : (ℓ : Loc nD τ sig) → Buf (Elt Ideal) ℓ) (c : Dev nD) (t : Fin cfg0.N)

/-- The point's mask. -/
abbrev bmask : IVec S1024x256 1 := k0_pay3 (grid0.coords t)
/-- The point's keys. -/
abbrev bk : FVec Ideal S256x64 .bf16 := k0_pay4 (iblk m c 2 t) (iblk m c 3 t)
/-- The point's values. -/
abbrev bv : FVec Ideal S256x64 .bf16 := k0_pay5 (iblk m c 4 t) (iblk m c 5 t)
/-- The point's queries. -/
abbrev bq : FVec Ideal S1024x64 .bf16 := k0_pay6 (iblk m c 0 t)

/-- The block of the queries' gradient is the same expression at every point. -/
theorem out_dq : (outsAt0 m c t.val t.isLt).1
    = k0_pay20 (bmask t) (bk m c t) (bv m c t) (bq m c t) (iblk m c 1 t) (iblk m c 6 t) := by
  by_cases h : t.val % 32 = 0
  · have h' : ¬1 ≤ t.val % 32 := by omega
    rw [outsAt0_A m c t h h' h h' h h' h h' h h' h h' h h' h h']
    frame_out
  · have h' : 1 ≤ t.val % 32 := by omega
    rw [outsAt0_B m c t h h' h h' h h' h h' h h' h h' h h' h h']
    frame_out

/-- The block of the keys' gradient is the same expression at every point. -/
theorem out_dk : (outsAt0 m c t.val t.isLt).2.1
    = k0_pay21 (bq m c t) (k0_pay19 (bmask t) (bk m c t) (bv m c t) (bq m c t) (iblk m c 1 t) (iblk m c 6 t)) := by
  by_cases h : t.val % 32 = 0
  · have h' : ¬1 ≤ t.val % 32 := by omega
    rw [outsAt0_A m c t h h' h h' h h' h h' h h' h h' h h' h h']
    frame_out
  · have h' : 1 ≤ t.val % 32 := by omega
    rw [outsAt0_B m c t h h' h h' h h' h h' h h' h h' h h' h h']
    frame_out

/-- The block of the values' gradient is the same expression at every point. -/
theorem out_dv : (outsAt0 m c t.val t.isLt).2.2.1
    = k0_pay22 (k0_pay8 (iblk m c 1 t)) (k0_pay17 (bmask t) (bk m c t) (bq m c t) (iblk m c 6 t)) := by
  by_cases h : t.val % 32 = 0
  · have h' : ¬1 ≤ t.val % 32 := by omega
    rw [outsAt0_A m c t h h' h h' h h' h h' h h' h h' h h' h h']
    frame_out
  · have h' : 1 ≤ t.val % 32 := by omega
    rw [outsAt0_B m c t h h' h h' h h' h h' h h' h h' h h' h h']
    frame_out

/-- One head's part of a column, summed, its sign turned, and repeated over the lanes. -/
theorem negsum_apply (x : FVec Ideal S1024x1 .f32) (o : Nat) (ho : o + 128 ≤ 1024) (hs : S1024x1.Slices ![o, 0] S128x1)
    (hr : S128x1.Reduces [0] S1) (h2 : S1.ShapeCasts S1x1) (h3 : S1x1.ShapeCasts S1x1) (h4 : S1x1.Broadcasts S1x128) (l : Fin 128) :
    broadcastTo S1x128 (shapeCast S1x1 (subf (broadcast S1x1 (Scalar.ofBits (F := Ideal) .f32 0x00000000#32))
      (shapeCast S1x1 (multiReduction .add [0] S1 (extractStridedSlice S128x1 ![o, 0] x hs) 0x00000000#32 hr (.inl rfl) rfl) h2)) h3) h4
        (ix2 0 l) = 0 - ∑ i : Fin 128, x (ix2 (⟨o + i.val, by omega⟩ : Fin 1024) 0) := by
  rw [broadcastTo_apply _ h4 _ (ix2 0 0) (fun a => by match a with | ⟨0, _⟩ => rfl | ⟨1, _⟩ => rfl),
    shapeCast_apply _ h3 _ (ix2 0 0) rfl, subf_apply, broadcast_apply,
    shapeCast_apply _ h2 _ (ix1 0) (by rw [Shape.rowMajor_val_one, Shape.rowMajor_val_two]; rfl)]
  refine congrArg₂ (· - ·) (show Ideal.ofBits .f32 0x00000000#32 = _ from Ideal.ofBits_zero_f32) ?_
  refine (colSum_apply _ _ _ _ _ 0).trans (Finset.sum_congr rfl fun i _ => ?_)
  exact extractStridedSlice_apply _ _ _ _ _ fun a => by match a with | ⟨0, _⟩ => rfl | ⟨1, _⟩ => rfl

/-- The point's column of the sink's contributions. -/
abbrev bsk : FVec Ideal S1024x1 .f32 :=
  k0_pay23 (k0_pay16 (bmask t) (bk m c t) (bq m c t) (iblk m c 6 t)) (k0_pay18 (bmask t) (bk m c t) (bv m c t) (bq m c t) (iblk m c 1 t) (iblk m c 6 t))

/-- The lane of a stored row. -/
theorem lane_pos (y : S1x1x128.Idx) (u : Fin 128) (hu : u.val = (y 2).val) :
    (S1x128.rowMajor (ix2 (0 : Fin 1) u)).val = (S1x1x128.rowMajor y).val := by
  have h0 : (y 0).val < 1 := (y 0).isLt
  have h1 : (y 1).val < 1 := (y 1).isLt
  rw [Shape.rowMajor_val_three, Shape.rowMajor_val_two]
  simp [S1x1x128, S1x128]
  omega

/-- A stored row of the sink's gradient: the sum of one head's part, its sign turned. -/
theorem store_apply (x : FVec Ideal S1024x1 .f32) (o : Nat) (ho : o + 128 ≤ 1024) (hs : S1024x1.Slices ![o, 0] S128x1)
    (hr : S128x1.Reduces [0] S1) (h2 : S1.ShapeCasts S1x1) (h3 : S1x1.ShapeCasts S1x1) (h4 : S1x1.Broadcasts S1x128)
    (h5 : S1x128.ShapeCasts S1x1x128) (y : S1x1x128.Idx) :
    shapeCast S1x1x128 (broadcastTo S1x128 (shapeCast S1x1 (subf (broadcast S1x1 (Scalar.ofBits (F := Ideal) .f32 0x00000000#32))
      (shapeCast S1x1 (multiReduction .add [0] S1 (extractStridedSlice S128x1 ![o, 0] x hs) 0x00000000#32 hr (.inl rfl) rfl) h2)) h3) h4) h5
        y = 0 - ∑ i : Fin 128, x (ix2 (⟨o + i.val, by omega⟩ : Fin 1024) 0) := by
  exact (shapeCast_apply _ h5 y (ix2 0 (⟨(y 2).val, (y 2).isLt⟩ : Fin 128)) (lane_pos y _ rfl)).trans (negsum_apply x o ho hs hr h2 h3 h4 _)

/-- An accumulated row of the sink's gradient: what was there plus the same. -/
theorem accum_apply (v : Vec Ideal S1x1x128 .f32) (x : FVec Ideal S1024x1 .f32) (o : Nat) (ho : o + 128 ≤ 1024) (hs : S1024x1.Slices ![o, 0] S128x1)
    (hr : S128x1.Reduces [0] S1) (h2 : S1.ShapeCasts S1x1) (h3 : S1x1.ShapeCasts S1x1) (h4 : S1x1.Broadcasts S1x128)
    (h6 : S1x1x128.ShapeCasts S1x128) (h5 : S1x128.ShapeCasts S1x1x128) (y : S1x1x128.Idx) :
    shapeCast S1x1x128 (addf (shapeCast S1x128 v h6) (broadcastTo S1x128 (shapeCast S1x1 (subf (broadcast S1x1 (Scalar.ofBits (F := Ideal) .f32 0x00000000#32))
      (shapeCast S1x1 (multiReduction .add [0] S1 (extractStridedSlice S128x1 ![o, 0] x hs) 0x00000000#32 hr (.inl rfl) rfl) h2)) h3) h4)) h5
        y = v y + (0 - ∑ i : Fin 128, x (ix2 (⟨o + i.val, by omega⟩ : Fin 1024) 0)) := by
  refine (shapeCast_apply _ h5 y (ix2 0 (⟨(y 2).val, (y 2).isLt⟩ : Fin 128)) (lane_pos y _ rfl)).trans ?_
  rw [addf_apply]
  exact congrArg₂ (· + ·) (shapeCast_apply _ h6 _ y (lane_pos y _ rfl).symm) (negsum_apply x o ho hs hr h2 h3 h4 _)

/-- The sink's gradient block at the first point of a group. -/
theorem out_ds_first (h : t.val % 32 = 0) (g : Fin 8) (l : Fin 128) : (outsAt0 m c t.val t.isLt).2.2.2 (ix3 g 0 l)
    = 0 - ∑ i : Fin 128, bsk m c t (ix2 (⟨128 * g.val + i.val, by omega⟩ : Fin 1024) 0) := by
  have h' : ¬1 ≤ t.val % 32 := by omega
  rw [outsAt0_A m c t h h' h h' h h' h h' h h' h h' h h' h h']
  dsimp only
  frame_out
  canon_tiles x h using View.cover_of_tiled_head _ _ _ (by rfl) _
  all_goals
    refine (store_apply (bsk m c t) _ (by decide) _ reduces_S128x1_S1 shapeCasts_S1_S1x1 shapeCasts_S1x1_S1x1 broadcasts_S1x1_S1x128
      shapeCasts_S1x128_S1x1x128 x).trans ?_
    refine congrArg (0 - ·) (Finset.sum_congr rfl fun i _ => congrArg (fun r => bsk m c t (ix2 r 0)) (Fin.ext ?_))
    simp only [ix3_0] at h0
    simp only
    omega

/-- The sink's gradient block at a later point of a group: what the point before left, plus this point's. -/
theorem out_ds_next (h : ¬t.val % 32 = 0) (g : Fin 8) (l : Fin 128) : (outsAt0 m c t.val t.isLt).2.2.2 (ix3 g 0 l)
    = (outsAt0 m c (t.val - 1) (Nat.lt_of_le_of_lt (Nat.sub_le _ _) t.isLt)).2.2.2 (ix3 g 0 l)
      + (0 - ∑ i : Fin 128, bsk m c t (ix2 (⟨128 * g.val + i.val, by omega⟩ : Fin 1024) 0)) := by
  have h' : 1 ≤ t.val % 32 := by omega
  rw [outsAt0_B m c t h h' h h' h h' h h' h h' h h' h h' h h']
  dsimp only
  frame_out
  canon_tiles x h using View.cover_of_tiled_head _ _ _ (by rfl) _
  all_goals
    refine (accum_apply _ (bsk m c t) _ (by decide) _ reduces_S128x1_S1 shapeCasts_S1_S1x1 shapeCasts_S1x1_S1x1 broadcasts_S1x1_S1x128
      shapeCasts_S1x1x128_S1x128 shapeCasts_S1x128_S1x1x128 x).trans ?_
    refine congrArg₂ (· + ·) (View.ld_unit_apply_of _ _ _ _ x (ix3 g 0 l) fun a => ?_)
      (congrArg (0 - ·) (Finset.sum_congr rfl fun i _ => congrArg (fun r => bsk m c t (ix2 r 0)) (Fin.ext ?_)))
    · match a with
      | ⟨0, _⟩ => first | exact h0 | exact h0.trans (Nat.zero_add _).symm
      | ⟨1, _⟩ => exact h1.trans (Nat.zero_add _).symm
      | ⟨2, _⟩ => exact h2.trans (Nat.zero_add _).symm
    · simp only [ix3_0] at h0
      simp only
      omega

end Attn

end

end
-- ==== Proof.Mask.lean ====
module

public import proofs.«01_k».proof.Proof.Spec
public import Idealize.ShloMosaic.PureOps.Vector

/-! The mask's integer words. -/

@[expose] public section

namespace Attn

open Idealize.ShloMosaic

/-- The word of a small number reads as that number. -/
theorem toInt_small (n : Nat) (h : n < 100000) : (BitVec.ofNat 32 n).toInt = n := by
  rw [BitVec.toInt_eq_toNat_cond]; simp; omega

/-- The distance from a query to a window position, as the programs' words compute it. -/
theorem toInt_rel (i j : Nat) (hi : i < 128) (hj : j < 256) :
    (BitVec.ofNat 32 i + 128#32 - BitVec.ofNat 32 j).toInt = (i : ℤ) + 128 - j := by
  rw [BitVec.toInt_eq_toNat_cond]; simp [BitVec.toNat_sub, BitVec.toNat_add]; omega

/-- The position of a key in the sequence, as the reference's words compute it. -/
theorem toInt_key (n j : Nat) (hn : n < 32) (hj : j < 256) :
    (BitVec.ofNat 32 n * 128#32 - 128#32 + BitVec.ofNat 32 j).toInt = 128 * (n : ℤ) - 128 + j := by
  rw [BitVec.toInt_eq_toNat_cond]; simp [BitVec.toNat_sub, BitVec.toNat_add, BitVec.toNat_mul]; omega

/-- Row number's low seven bits are its query. -/
theorem low_bits (R : Nat) (h : R < 1024) : BitVec.ofNat 32 R &&& 127#32 = BitVec.ofNat 32 (R % 128) := by
  apply BitVec.eq_of_toNat_eq
  rw [BitVec.toNat_and]
  show (BitVec.ofNat 32 R).toNat &&& (2 ^ 7 - 1) = _
  rw [Nat.and_two_pow_sub_one_eq_mod]
  simp; omega

/-- A truth value's bit is one exactly when it holds. -/
theorem ofBool_decide (p q : Prop) [Decidable p] [Decidable q] (h : p ↔ q) : BitVec.ofBool (decide p) = if decide q = true then 1#1 else 0#1 := by
  by_cases hq : q
  · simp [hq, h.mpr hq]
  · have hp : ¬ p := fun hp => hq (h.mp hp)
    simp [hq, hp]

theorem ofBool_and (a b : Bool) : BitVec.ofBool a &&& BitVec.ofBool b = BitVec.ofBool (a && b) := by cases a <;> cases b <;> rfl
theorem ofBool_or (a b : Bool) : BitVec.ofBool a ||| BitVec.ofBool b = BitVec.ofBool (a || b) := by cases a <;> cases b <;> rfl

/-- The kernel's mask bit. -/
theorem mask_bit (n : Fin 32) (N : Nat) (hN : N = n.val) (i : Fin 128) (j : Fin 256) :
    (IntOp.cmpi .sge (BitVec.ofNat 32 i.val + 128#32 - BitVec.ofNat 32 j.val) 0#32
        &&& IntOp.cmpi .slt (BitVec.ofNat 32 i.val + 128#32 - BitVec.ofNat 32 j.val) 128#32)
      &&& (IntOp.cmpi .sge (BitVec.ofNat 32 j.val) 128#32 ||| IntOp.cmpi .sgt (BitVec.ofNat 32 N) 0#32)
    = if Args.vis n i j then 1#1 else 0#1 := by
  subst hN
  simp only [IntOp.cmpi, BitVec.sle, BitVec.slt, toInt_rel _ _ i.isLt j.isLt, toInt_small n.val (by omega), toInt_small j.val (by omega),
    show (0#32).toInt = 0 from rfl, show (128#32).toInt = 128 from rfl, ofBool_and, ofBool_or, ← Bool.decide_and, ← Bool.decide_or]
  exact ofBool_decide _ _ (by omega)

/-- The reference's mask bit. -/
theorem mask_bit_ref (n : Fin 32) (i : Fin 128) (j : Fin 256) :
    (IntOp.cmpi .sge (BitVec.ofNat 32 i.val + 128#32 - BitVec.ofNat 32 j.val) 0#32
        &&& IntOp.cmpi .slt (BitVec.ofNat 32 i.val + 128#32 - BitVec.ofNat 32 j.val) 128#32)
      &&& IntOp.cmpi .sge (BitVec.ofNat 32 n.val * 128#32 - 128#32 + BitVec.ofNat 32 j.val) 0#32
    = if Args.vis n i j then 1#1 else 0#1 := by
  simp only [IntOp.cmpi, BitVec.sle, BitVec.slt, toInt_rel _ _ i.isLt j.isLt, toInt_key _ _ n.isLt j.isLt,
    show (0#32).toInt = 0 from rfl, show (128#32).toInt = 128 from rfl, ofBool_and, ← Bool.decide_and]
  exact ofBool_decide _ _ (by omega)

end Attn

end
-- ==== Proof.Inputs.lean ====
module

public import proofs.«01_k».proof.Proof.Points
public import proofs.«01_k».proof.Proof.Mask
public import Idealize.ShloMosaic.Lib.Pipeline.ValueKit

/-! What the kernel's input blocks hold, as entries of the call's arguments. -/

@[expose] public section

set_option maxRecDepth 16384

noncomputable section

namespace Attn

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.KernelIdeal Cert.KernelIdeal.Gen

/-- The five argument arrays hold real numbers. -/
structure Holds (a : Args) (x0 : Vec Ideal S1x4096x16x64 .f32) (x1 x2 : Vec Ideal S1x4096x2x64 .f32) (x3 : Vec Ideal S16 .f32)
    (x4 : Vec Ideal S1x4096x1024 .f32) : Prop where
  q : ∀ s h d, x0 (ix4 0 s h d) = ((a.Q s h d : ℝ) : EReal)
  k : ∀ s h d, x1 (ix4 0 s h d) = ((a.K s h d : ℝ) : EReal)
  v : ∀ s h d, x2 (ix4 0 s h d) = ((a.V s h d : ℝ) : EReal)
  s : ∀ h, x3 (ix1 h) = ((a.S h : ℝ) : EReal)
  c : ∀ s d, x4 (ix3 0 s d) = ((a.C s d : ℝ) : EReal)

variable (m : (ℓ : Loc nD τ sig) → Buf (Elt Ideal) ℓ) (c : Dev nD) (t : Fin cfg0.N)

/-- An array of heads, its heads axis brought to the front. -/
theorem heads_apply {φ : EltTy} {H : Nat} (hz : H < 4096) (A : Shape) (x : Vec Ideal A φ) (h1 : A.ShapeCasts ⟨3, ![4096, H, 64]⟩)
    (h2 : (⟨3, ![4096, H, 64]⟩ : Shape).Transposes [1, 0, 2] ⟨3, ![H, 4096, 64]⟩) (h : Fin H) (s : Fin 4096) (d : Fin 64) (j : A.Idx)
    (hj : (A.rowMajor j).val = (s.val * H + h.val) * 64 + d.val) :
    transpose ⟨3, ![H, 4096, 64]⟩ [1, 0, 2] (shapeCast ⟨3, ![4096, H, 64]⟩ x h1) h2 (ix3 h s d) = x j := by
  refine (transpose_apply _ _ h2 (ix3 h s d) (ix3 s h d) (fun a => by match a with | ⟨0, _⟩ => rfl | ⟨1, _⟩ => rfl | ⟨2, _⟩ => rfl)).trans ?_
  exact shapeCast_apply _ h1 _ j (by rw [hj, Shape.rowMajor_val_three]; rfl)

/-- The queries as the kernel's first operand. -/
theorem arr_q (h : Fin 16) (s : Fin 4096) (d : Fin 64) :
    V m c main_v1 (ix3 h s d) = m ((c : Thread nD τ).loc main_arg0) (ix4 0 s h d) := by
  unfold V
  after_results
  refine heads_apply (by decide) _ _ _ _ h s d _ ?_
  refine (Shape.rowMajor_val_four (d := ![1, 4096, 16, 64]) _).trans ?_
  simp [S1x4096x16x64]

/-- The keys as the kernel's operand. -/
theorem arr_k (h : Fin 2) (s : Fin 4096) (d : Fin 64) :
    V m c main_v3 (ix3 h s d) = m ((c : Thread nD τ).loc main_arg1) (ix4 0 s h d) := by
  unfold V
  after_results
  refine heads_apply (by decide) _ _ _ _ h s d _ ?_
  refine (Shape.rowMajor_val_four (d := ![1, 4096, 2, 64]) _).trans ?_
  simp [S1x4096x2x64]

/-- The values as the kernel's operand. -/
theorem arr_v (h : Fin 2) (s : Fin 4096) (d : Fin 64) :
    V m c main_v5 (ix3 h s d) = m ((c : Thread nD τ).loc main_arg2) (ix4 0 s h d) := by
  unfold V
  after_results
  refine heads_apply (by decide) _ _ _ _ h s d _ ?_
  refine (Shape.rowMajor_val_four (d := ![1, 4096, 2, 64]) _).trans ?_
  simp [S1x4096x2x64]

/-- The incoming gradient as the kernel's operand. -/
theorem arr_c (h : Fin 16) (s : Fin 4096) (d : Fin 64) :
    V m c main_v12 (ix3 h s d) = m ((c : Thread nD τ).loc main_arg4) (ix3 0 s (⟨64 * h.val + d.val, by omega⟩ : Fin 1024)) := by
  unfold V
  after_results
  refine heads_apply (by decide) _ _ _ _ h s d (ix3 0 s (⟨64 * h.val + d.val, by omega⟩ : Fin 1024)) ?_
  refine (Shape.rowMajor_val_three (d := ![1, 4096, 1024]) _).trans ?_
  simp [S1x4096x1024]; omega

/-- The sinks repeated: one per row of a group of heads. -/
theorem repeat_apply (x : Vec Ideal S16 .f32) (h : Fin 2) (R : Fin 1024) :
    broadcastInDim S2x1024x1 ![0, 1] bcast_S2x1024_S2x1024x1_0_1 (shapeCast S2x1024 (broadcastInDim S2x8x128 ![0, 1] bcast_S2x8_S2x8x128_0_1
      (shapeCast S2x8 x shapeCasts_S16_S2x8)) shapeCasts_S2x8x128_S2x1024) (ix3 h R 0) = x (ix1 (⟨8 * h.val + R.val / 128, by omega⟩ : Fin 16)) := by
  rw [broadcastInDim_apply _ _ _ _ (ix2 h R) (fun a => by match a with | ⟨0, _⟩ => rfl | ⟨1, _⟩ => rfl)]
  rw [shapeCast_apply _ _ _ (ix3 h (⟨R.val / 128, by omega⟩ : Fin 8) (⟨R.val % 128, by omega⟩ : Fin 128))
    (((Shape.rowMajor_val_three (d := ![2, 8, 128]) _).trans (by simp; omega)).trans (Shape.rowMajor_val_two (d := ![2, 1024]) (ix2 h R)).symm)]
  rw [broadcastInDim_apply _ _ _ _ (ix2 h (⟨R.val / 128, by omega⟩ : Fin 8)) (fun a => by match a with | ⟨0, _⟩ => rfl | ⟨1, _⟩ => rfl)]
  rw [shapeCast_apply _ _ _ (ix1 (⟨8 * h.val + R.val / 128, by omega⟩ : Fin 16))
    (((Shape.rowMajor_val_one (d := ![16]) _).trans (by simp; omega)).trans (Shape.rowMajor_val_two (d := ![2, 8]) (ix2 h _)).symm)]

/-- The sinks as the kernel's operand. -/
theorem arr_s (h : Fin 2) (R : Fin 1024) :
    V m c main_v9 (ix3 h R 0) = m ((c : Thread nD τ).loc main_arg3) (ix1 (⟨8 * h.val + R.val / 128, by omega⟩ : Fin 16)) := by
  unfold V
  after_results
  exact repeat_apply _ h R

/-- The grid's points: the group of heads first, then the window. -/
theorem coords0 : ∀ t : Fin cfg0.N, (grid0.coords t 0).val = t.val / 32 ∧ (grid0.coords t 1).val = t.val % 32 :=
  (by decide +kernel : ∀ t : Fin grid0.N, _)

/-- Where each input window's block lies. -/
theorem index0 : ∀ t : Fin cfg0.N, win0_0.index t = ![t.val / 32, t.val % 32, 0] ∧ win0_1.index t = ![t.val / 32, t.val % 32, 0]
    ∧ win0_2.index t = ![t.val / 32, t.val % 32 - 1, 0] ∧ win0_3.index t = ![t.val / 32, t.val % 32, 0]
    ∧ win0_4.index t = ![t.val / 32, t.val % 32 - 1, 0] ∧ win0_5.index t = ![t.val / 32, t.val % 32, 0]
    ∧ win0_6.index t = ![t.val / 32, 0, 0] :=
  (by decide +kernel : ∀ t : Fin grid0.N, _)

theorem t_lt : t.val < 64 := lt_of_lt_of_eq t.isLt (show cfg0.N = 64 from N_0)

/-- The block of queries. -/
theorem blk_q (g : Fin 8) (i : Fin 128) (d : Fin 64) : iblk m c 0 t (ix3 g i d)
    = V m c main_v1 (ix3 (⟨8 * (t.val / 32) + g.val, by have := t_lt t; omega⟩ : Fin 16) (⟨128 * (t.val % 32) + i.val, by omega⟩ : Fin 4096) d) := by
  have e := index0 t
  blk_ext [iblk, e.1] <;> first | (show _ + (g).val = _; omega) | (show _ + (i).val = _; omega)

/-- The block of the incoming gradient. -/
theorem blk_c (g : Fin 8) (i : Fin 128) (d : Fin 64) : iblk m c 1 t (ix3 g i d)
    = V m c main_v12 (ix3 (⟨8 * (t.val / 32) + g.val, by have := t_lt t; omega⟩ : Fin 16) (⟨128 * (t.val % 32) + i.val, by omega⟩ : Fin 4096) d) := by
  have e := index0 t
  blk_ext [iblk, e.2.1] <;> first | (show _ + (g).val = _; omega) | (show _ + (i).val = _; omega)

/-- The block of keys before the current one. -/
theorem blk_k0 (i : Fin 128) (d : Fin 64) : iblk m c 2 t (ix3 0 i d)
    = V m c main_v3 (ix3 (⟨t.val / 32, by have := t_lt t; omega⟩ : Fin 2) (⟨128 * (t.val % 32 - 1) + i.val, by omega⟩ : Fin 4096) d) := by
  have e := index0 t
  blk_ext [iblk, e.2.2.1] <;> first | (show _ + ((0 : Fin 1)).val = _; omega) | (show _ + (i).val = _; omega)

/-- The current block of keys. -/
theorem blk_k1 (i : Fin 128) (d : Fin 64) : iblk m c 3 t (ix3 0 i d)
    = V m c main_v3 (ix3 (⟨t.val / 32, by have := t_lt t; omega⟩ : Fin 2) (⟨128 * (t.val % 32) + i.val, by omega⟩ : Fin 4096) d) := by
  have e := index0 t
  blk_ext [iblk, e.2.2.2.1] <;> first | (show _ + ((0 : Fin 1)).val = _; omega) | (show _ + (i).val = _; omega)

/-- The block of values before the current one. -/
theorem blk_v0 (i : Fin 128) (d : Fin 64) : iblk m c 4 t (ix3 0 i d)
    = V m c main_v5 (ix3 (⟨t.val / 32, by have := t_lt t; omega⟩ : Fin 2) (⟨128 * (t.val % 32 - 1) + i.val, by omega⟩ : Fin 4096) d) := by
  have e := index0 t
  blk_ext [iblk, e.2.2.2.2.1] <;> first | (show _ + ((0 : Fin 1)).val = _; omega) | (show _ + (i).val = _; omega)

/-- The current block of values. -/
theorem blk_v1 (i : Fin 128) (d : Fin 64) : iblk m c 5 t (ix3 0 i d)
    = V m c main_v5 (ix3 (⟨t.val / 32, by have := t_lt t; omega⟩ : Fin 2) (⟨128 * (t.val % 32) + i.val, by omega⟩ : Fin 4096) d) := by
  have e := index0 t
  blk_ext [iblk, e.2.2.2.2.2.1] <;> first | (show _ + ((0 : Fin 1)).val = _; omega) | (show _ + (i).val = _; omega)

/-- The block of sinks. -/
theorem blk_s (R : Fin 1024) : iblk m c 6 t (ix3 0 R 0)
    = V m c main_v9 (ix3 (⟨t.val / 32, by have := t_lt t; omega⟩ : Fin 2) R 0) := by
  have e := index0 t
  blk_ext [iblk, e.2.2.2.2.2.2] <;> first | (show _ + (R).val = _; omega) | (show _ + ((0 : Fin 1)).val = _; omega)

/-- Row `R` of grid point `t`: head `R / 128` of group `t / 32`, query `R % 128` of window `t % 32`. -/
def rowAt (a : Args) (R : Fin 1024) : Row :=
  a.rowK (⟨t.val % 32, by omega⟩ : Fin 32) (⟨t.val / 32, by have := t_lt t; omega⟩ : Fin 2) (⟨R.val / 128, by omega⟩ : Fin 8) (⟨R.val % 128, by omega⟩ : Fin 128)

/-- The mask of a grid point says which window positions each row sees. -/
theorem mask_apply (a : Args) (R : Fin 1024) (j : Fin 256) :
    bmask t (ix2 R j) = if (rowAt t a R).on j then 1#1 else 0#1 := by
  have e := (coords0 t).2
  have h := mask_bit (⟨t.val % 32, by omega⟩ : Fin 32) _ e (⟨R.val % 128, by omega⟩ : Fin 128) j
  rw [← low_bits R.val R.isLt] at h
  refine Eq.trans ?_ h
  unfold bmask k0_pay3
  simp only [andi, ori, cmpi, addi, subi, broadcast, iota_single_apply, ValueIdx.ix2_0, ValueIdx.ix2_1, IntOp.andi, IntOp.ori, IntOp.addi,
    IntOp.subi, Scalar.cmpi]
  rw [show iota .tc S1024x256 32 [0] iota_S1024x256_d0_w32 (ix2 R j) = BitVec.ofNat 32 R.val from iota_single_apply ..,
    show iota .tc S1024x256 32 [1] iota_S1024x256_d1_w32 (ix2 R j) = BitVec.ofNat 32 j.val from iota_single_apply ..]

/-- The blocks of a grid point, as the rows that it works on. -/
theorem blk_at (a : Args) (h : Holds a (m ((c : Thread nD τ).loc main_arg0)) (m ((c : Thread nD τ).loc main_arg1)) (m ((c : Thread nD τ).loc main_arg2))
      (m ((c : Thread nD τ).loc main_arg3)) (m ((c : Thread nD τ).loc main_arg4))) :
    Blk (rowAt t a) (bmask t) (iblk m c 0 t) (iblk m c 1 t) (iblk m c 2 t) (iblk m c 3 t) (iblk m c 4 t) (iblk m c 5 t) (iblk m c 6 t) where
  hm := mask_apply t a
  hq R d := by rw [blk_q, arr_q, h.q]; rfl
  hc R d := by
    rw [blk_c, arr_c, h.c]
    rfl
  hk0 R j d := by
    rw [blk_k0, arr_k, h.k]
    show _ = ((Args.winK a.K _ _ _ _ : ℝ) : EReal)
    rw [Args.winK, if_pos (by show j.val < 128; omega)]
    simp only [Nat.mod_eq_of_lt j.isLt]
  hk1 R j d := by
    rw [blk_k1, arr_k, h.k]
    show _ = ((Args.winK a.K _ _ _ _ : ℝ) : EReal)
    rw [Args.winK, if_neg (by show ¬ 128 + j.val < 128; omega)]
    simp only [Nat.add_mod_left, Nat.mod_eq_of_lt j.isLt]
  hv0 R j d := by
    rw [blk_v0, arr_v, h.v]
    show _ = ((Args.winK a.V _ _ _ _ : ℝ) : EReal)
    rw [Args.winK, if_pos (by show j.val < 128; omega)]
    simp only [Nat.mod_eq_of_lt j.isLt]
  hv1 R j d := by
    rw [blk_v1, arr_v, h.v]
    show _ = ((Args.winK a.V _ _ _ _ : ℝ) : EReal)
    rw [Args.winK, if_neg (by show ¬ 128 + j.val < 128; omega)]
    simp only [Nat.add_mod_left, Nat.mod_eq_of_lt j.isLt]
  hs R := by rw [blk_s, arr_s, h.s]; rfl

end Attn

end

end
-- ==== Proof.KerValue.lean ====
module

public import proofs.«01_k».proof.Proof.Inputs

/-! What the kernel's four result arrays hold. -/

@[expose] public section

set_option maxRecDepth 16384

noncomputable section

namespace Attn

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.KernelIdeal Cert.KernelIdeal.Gen

/-- The gradient of the queries. -/
def Args.dqOf (a : Args) (h : Fin 16) (s : Fin 4096) (d : Fin 64) : ℝ :=
  (a.rowK (⟨s.val / 128, by omega⟩ : Fin 32) (⟨h.val / 8, by omega⟩ : Fin 2) (⟨h.val % 8, by omega⟩ : Fin 8) (⟨s.val % 128, by omega⟩ : Fin 128)).dq d

/-- The row of window `n`, group `h`, number `R`. -/
def Args.rowN (a : Args) (n : Fin 32) (h : Fin 2) (R : Fin 1024) : Row :=
  a.rowK n h (⟨R.val / 128, by omega⟩ : Fin 8) (⟨R.val % 128, by omega⟩ : Fin 128)

/-- The gradient of the keys of a window. -/
def Args.dkOf (a : Args) (h : Fin 2) (n : Fin 32) (j : Fin 256) (d : Fin 64) : ℝ := ∑ R, (a.rowN n h R).ds j * (a.rowN n h R).q d

/-- The gradient of the values of a window. -/
def Args.dvOf (a : Args) (h : Fin 2) (n : Fin 32) (j : Fin 256) (d : Fin 64) : ℝ := ∑ R, (a.rowN n h R).p j * (a.rowN n h R).ct d

/-- The gradient of the sinks. -/
def Args.dsOf (a : Args) (h : Fin 16) : ℝ :=
  ∑ n : Fin 32, (0 - ∑ i : Fin 128, (a.rowK n (⟨h.val / 8, by omega⟩ : Fin 2) (⟨h.val % 8, by omega⟩ : Fin 8) i).dsk)

variable (m : (ℓ : Loc nD τ sig) → Buf (Elt Ideal) ℓ) (c : Dev nD) (t : Fin cfg0.N)

variable (a : Args) (H : Holds a (m ((c : Thread nD τ).loc main_arg0)) (m ((c : Thread nD τ).loc main_arg1)) (m ((c : Thread nD τ).loc main_arg2))
      (m ((c : Thread nD τ).loc main_arg3)) (m ((c : Thread nD τ).loc main_arg4)))

/-- Where each output window's block lies. -/
theorem index1 : ∀ t : Fin cfg0.N, win0_7.index t = ![t.val / 32, t.val % 32, 0] ∧ win0_8.index t = ![t.val / 32, t.val % 32, 0, 0]
    ∧ win0_9.index t = ![t.val / 32, t.val % 32, 0, 0] ∧ win0_10.index t = ![t.val / 32, 0, 0] :=
  (by decide +kernel : ∀ t : Fin grid0.N, _)

/-- A row is known by the numbers of its window, group, head and query. -/
theorem rowK_congr {n n' : Fin 32} {h h' : Fin 2} {g g' : Fin 8} {i i' : Fin 128} (hn : n.val = n'.val) (hh : h.val = h'.val)
    (hg : g.val = g'.val) (hi : i.val = i'.val) : a.rowK n h g i = a.rowK n' h' g' i' := by
  rw [Fin.ext hn, Fin.ext hh, Fin.ext hg, Fin.ext hi]

include H

/-- The array of the queries' gradient. -/
theorem arr_dq : (dats m 0 c).arrAt 7 cfg0.N = fun i => ((a.dqOf (i 0) (i 1) (i 2) : ℝ) : EReal) := by
  refine (dats m 0 c).arrAt_eq_of_covers 7 _ (by decide +kernel) fun t hf y => ?_
  have e := (index1 t).1
  have B := blk_at m c t a H
  have e0 : (((win0_7.blk t).view.emb y) 0 : ℕ) = 8 * (t.val / 32) + (y 0).val := by blk_simp [e]; try omega
  have e1 : (((win0_7.blk t).view.emb y) 1 : ℕ) = 128 * (t.val % 32) + (y 1).val := by blk_simp [e]; try omega
  have e2 : (((win0_7.blk t).view.emb y) 2 : ℕ) = (y 2).val := by blk_simp [e]; try omega
  have g0 : (y 0).val < 8 := (y 0).isLt
  have g1 : (y 1).val < 128 := (y 1).isLt
  have g2 : (y 2).val < 64 := (y 2).isLt
  blk_simp
  rw [after0_7, out_dq]
  refine Eq.trans (congrArg _ ?_) ((B.dq_apply (⟨128 * (y 0).val + (y 1).val, by omega⟩ : Fin 1024) (⟨(y 2).val, g2⟩ : Fin 64)).trans ?_)
  · funext b
    match b with
    | ⟨0, _⟩ => exact Fin.ext (show (y 0).val = (128 * (y 0).val + (y 1).val) / 128 by omega)
    | ⟨1, _⟩ => exact Fin.ext (show (y 1).val = (128 * (y 0).val + (y 1).val) % 128 by omega)
    | ⟨2, _⟩ => rfl
  · refine congrArg _ ((congrArg (fun r : Row => r.dq _) (rowK_congr a ?_ ?_ ?_ ?_)).trans (congrArg (Row.dq _) (Fin.ext e2.symm)))
    · show t.val % 32 = _ / 128
      omega
    · show t.val / 32 = _ / 8
      omega
    · show (128 * (y 0).val + (y 1).val) / 128 = _ % 8
      omega
    · show (128 * (y 0).val + (y 1).val) % 128 = _ % 128
      omega

/-- The array of the keys' gradient, window by window. -/
theorem arr_dk : (dats m 0 c).arrAt 8 cfg0.N = fun i => ((a.dkOf (i 0) (i 1) (i 2) (i 3) : ℝ) : EReal) := by
  refine (dats m 0 c).arrAt_eq_of_covers 8 _ (by decide +kernel) fun t hf y => ?_
  have e := (index1 t).2.1
  have B := blk_at m c t a H
  have g0 : (y 0).val < 1 := (y 0).isLt
  have g1 : (y 1).val < 1 := (y 1).isLt
  have g2 : (y 2).val < 256 := (y 2).isLt
  have g3 : (y 3).val < 64 := (y 3).isLt
  have e0 : (((win0_8.blk t).view.emb y) 0 : ℕ) = t.val / 32 := by blk_simp [e]; try omega
  have e1 : (((win0_8.blk t).view.emb y) 1 : ℕ) = t.val % 32 := by blk_simp [e]; try omega
  have e2 : (((win0_8.blk t).view.emb y) 2 : ℕ) = (y 2).val := by blk_simp [e]; try omega
  have e3 : (((win0_8.blk t).view.emb y) 3 : ℕ) = (y 3).val := by blk_simp [e]; try omega
  blk_simp
  rw [after0_8, out_dk]
  refine Eq.trans (congrArg _ ?_) ((B.dk_apply (⟨(y 2).val, g2⟩ : Fin 256) (⟨(y 3).val, g3⟩ : Fin 64)).trans ?_)
  · funext b
    match b with
    | ⟨0, _⟩ => exact Fin.ext (Nat.lt_one_iff.mp g0)
    | ⟨1, _⟩ => exact Fin.ext (Nat.lt_one_iff.mp g1)
    | ⟨2, _⟩ => rfl
    | ⟨3, _⟩ => rfl
  · refine congrArg _ (Finset.sum_congr rfl fun R _ => ?_)
    have hr : rowAt t a R = a.rowN _ _ R := rowK_congr a (by exact e1.symm) (by exact e0.symm) rfl rfl
    rw [hr]
    exact congrArg₂ (fun x y => (a.rowN _ _ R).ds x * (a.rowN _ _ R).q y) (Fin.ext e2.symm) (Fin.ext e3.symm)

/-- The array of the values' gradient, window by window. -/
theorem arr_dv : (dats m 0 c).arrAt 9 cfg0.N = fun i => ((a.dvOf (i 0) (i 1) (i 2) (i 3) : ℝ) : EReal) := by
  refine (dats m 0 c).arrAt_eq_of_covers 9 _ (by decide +kernel) fun t hf y => ?_
  have e := (index1 t).2.2.1
  have B := blk_at m c t a H
  have g0 : (y 0).val < 1 := (y 0).isLt
  have g1 : (y 1).val < 1 := (y 1).isLt
  have g2 : (y 2).val < 256 := (y 2).isLt
  have g3 : (y 3).val < 64 := (y 3).isLt
  have e0 : (((win0_9.blk t).view.emb y) 0 : ℕ) = t.val / 32 := by blk_simp [e]; try omega
  have e1 : (((win0_9.blk t).view.emb y) 1 : ℕ) = t.val % 32 := by blk_simp [e]; try omega
  have e2 : (((win0_9.blk t).view.emb y) 2 : ℕ) = (y 2).val := by blk_simp [e]; try omega
  have e3 : (((win0_9.blk t).view.emb y) 3 : ℕ) = (y 3).val := by blk_simp [e]; try omega
  blk_simp
  rw [after0_9, out_dv]
  refine Eq.trans (congrArg _ ?_) ((B.dv_apply (⟨(y 2).val, g2⟩ : Fin 256) (⟨(y 3).val, g3⟩ : Fin 64)).trans ?_)
  · funext b
    match b with
    | ⟨0, _⟩ => exact Fin.ext (Nat.lt_one_iff.mp g0)
    | ⟨1, _⟩ => exact Fin.ext (Nat.lt_one_iff.mp g1)
    | ⟨2, _⟩ => rfl
    | ⟨3, _⟩ => rfl
  · refine congrArg _ (Finset.sum_congr rfl fun R _ => ?_)
    have hr : rowAt t a R = a.rowN _ _ R := rowK_congr a (by exact e1.symm) (by exact e0.symm) rfl rfl
    rw [hr]
    exact congrArg₂ (fun x y => (a.rowN _ _ R).p x * (a.rowN _ _ R).ct y) (Fin.ext e2.symm) (Fin.ext e3.symm)

/-- What one window adds to a sink's gradient. -/
def Args.dsTerm (a : Args) (g : Fin 8) (k : Nat) : EReal :=
  ((0 - ∑ i : Fin 128, (a.rowK (⟨k % 32, by omega⟩ : Fin 32) (⟨k / 32 % 2, by omega⟩ : Fin 2) g i).dsk : ℝ) : EReal)

/-- One point's contribution to the sinks' gradient. -/
theorem point_ds (g : Fin 8) : (0 : EReal) - ∑ i : Fin 128, bsk m c t (ix2 (⟨128 * g.val + i.val, by omega⟩ : Fin 1024) 0) = a.dsTerm g t.val := by
  have B := blk_at m c t a H
  have ht := t_lt t
  unfold Args.dsTerm
  rw [EReal.coe_sub, ← coe_sum, EReal.coe_zero]
  refine congrArg (fun x : EReal => 0 - x) (Finset.sum_congr rfl fun i _ => (B.dsk_apply _).trans (congrArg (fun r : Row => ((r.dsk : ℝ) : EReal)) (rowK_congr a rfl ?_ ?_ ?_)))
  · show t.val / 32 = t.val / 32 % 2
    omega
  · show (128 * g.val + i.val) / 128 = g.val
    omega
  · show (128 * g.val + i.val) % 128 = i.val
    omega

/-- The array of the sinks' gradient. -/
theorem arr_ds : (dats m 0 c).arrAt 10 cfg0.N = fun i => ((a.dsOf (i 0) : ℝ) : EReal) := by
  refine (dats m 0 c).arrAt_eq_of_covers 10 _ (by decide +kernel) fun t hf y => ?_
  have e := (index1 t).2.2.2
  have ht := t_lt t
  have e0 : (((win0_10.blk t).view.emb y) 0 : ℕ) = 8 * (t.val / 32) + (y 0).val := by blk_simp [e]; try omega
  have g0 : (y 0).val < 8 := (y 0).isLt
  have g1 : (y 1).val < 1 := (y 1).isLt
  have g2 : (y 2).val < 128 := (y 2).isLt
  have h31 : t.val % 32 = 31 := by
    revert hf
    exact (by decide +kernel : ∀ t : Fin grid0.N, (win0_10).flush t = true → t.val % 32 = 31) t
  blk_simp
  rw [after0_10]
  have hs := Pipeline.eq_sum_of_reset_step_of_mod (fun n h => (outsAt0 m c n h).2.2.2 (ix3 (⟨(y 0).val, g0⟩ : Fin 8) 0 (⟨(y 2).val, g2⟩ : Fin 128))) 32 (0 : EReal)
    (fun k => a.dsTerm (⟨(y 0).val, g0⟩ : Fin 8) k)
    (fun t h => by rw [zero_add, ← point_ds m c t a H]; exact out_ds_first m c t h _ _)
    (fun t h => by rw [← point_ds m c t a H]; exact out_ds_next m c t h _ _) t h31
  refine Eq.trans (congrArg _ ?_) (hs.trans ?_)
  · funext b
    match b with
    | ⟨0, _⟩ => rfl
    | ⟨1, _⟩ => exact Fin.ext (Nat.lt_one_iff.mp g1)
    | ⟨2, _⟩ => rfl
  · rw [zero_add, Finset.sum_range]
    unfold Args.dsOf
    rw [← coe_sum]
    refine Finset.sum_congr rfl fun n _ => ?_
    unfold Args.dsTerm
    refine congrArg _ (congrArg (fun x : ℝ => 0 - x) (Finset.sum_congr rfl fun i _ => congrArg Row.dsk (rowK_congr a ?_ ?_ ?_ rfl)))
    · show (32 * (t.val / 32) + n.val) % 32 = n.val
      omega
    · show (32 * (t.val / 32) + n.val) / 32 % 2 = _ / 8
      omega
    · show (y 0).val = _ % 8
      omega

end Attn

end

end
-- ==== Proof.RefRow.lean ====
module

public import proofs.«01_k».proof.Proof.Inputs
public import proofs.«01_k».proof.Proof.Gen.ReferenceIdeal.Read
public import Idealize.ShloMosaic.Lib.KernelVsHost
public import Idealize.ShloMosaic.Lib.Pointwise.Reduce
public import Idealize.ShloMosaic.Lib.TwoAxisContraction

/-! The reference's forward operations at an index: scores, mask, maximum, exponentials and probabilities of
one query row. -/

@[expose] public section

set_option maxRecDepth 16384

noncomputable section

namespace Attn

open Idealize.ShloMosaic hiding ix0 ix1 ix2 ix3 ix4 ix5 ix6 eq_ix1 eq_ix2 eq_ix3 eq_ix4 eq_ix5
open Idealize.ShloMosaic.TcCoe Idealize.ShloMosaic.ValueIdx
open Cert.ReferenceIdeal Cert.ReferenceIdeal.Gen Cert.ReferenceIdeal.Read

variable {a : Args} {x0 : Vec Ideal S1x4096x16x64 .f32} {x1 x2 : Vec Ideal S1x4096x2x64 .f32} {x3 : Vec Ideal S16 .f32}
  {x4 : Vec Ideal S1x4096x1024 .f32} (H : Holds a x0 x1 x2 x3 x4)

/-- A host sum at an index, over a family that runs through the elements summed there. -/
theorem reduceAdd_fiber {s t u : Shape} {φ : FTy} {axes : List (Fin s.rank)} {κ : Type} [Fintype κ] (x : FVec Ideal s φ) (init : FVec Ideal u φ)
    (h : s.ReducesTo axes t) (hu : 0 < u.numel) (j : t.Idx) (g : κ → s.Idx) (hi : init (Shape.Idx.first hu) = 0) (hg : Function.Injective g)
    (hp : ∀ i, h.drop i = j ↔ ∃ k, g k = i) : Host.reduceAdd x init h hu j = ∑ k, x (g k) := by
  show init (Shape.Idx.first hu) + _ = _
  rw [hi, zero_add]
  exact Finset.sum_filter_eq_sum_of_fiber _ g hg hp x

/-- Zero's word. -/
theorem zero_word (i : S_.Idx) : (constant (F := Ideal) S_ .f32 0x00000000#32) i = 0 := Ideal.ofBits_zero_f32

/-- Minus infinity's word. -/
theorem bot_word : FloatOps.ofBits (F := Ideal) .f32 0xFF800000#32 = (⊥ : EReal) := by
  show Ideal.ofBits .f32 0xFF800000#32 = _
  simp [Ideal.ofBits, Ideal.ieee]

/-- The padded keys or values: 128 zero rows, then the array. -/
theorem pad_left (x : Vec Ideal S1x4096x2x64 .f32) (s : Fin 4224) (h : Fin 2) (d : Fin 64) (hs : s.val < 128) :
    val_main_v1 x (ix4 0 s h d) = 0 := by
  unfold val_main_v1
  refine (concatenate_pair_apply_left (s₁ := S1x128x2x64) (s₂ := S1x4096x2x64) (1 : Fin S1x4224x2x64.rank) _ _ _ (ix4 0 s h d) rfl (ix4 0 (⟨s.val, hs⟩ : Fin 128) h d) (fun b => ?_)).trans ?_
  · match b with | ⟨0, _⟩ => rfl | ⟨1, _⟩ => rfl | ⟨2, _⟩ => rfl | ⟨3, _⟩ => rfl
  · rw [val_main_v0_apply]; exact Ideal.ofBits_zero_f32

theorem pad_right (x : Vec Ideal S1x4096x2x64 .f32) (s : Fin 4224) (h : Fin 2) (d : Fin 64) (hs : 128 ≤ s.val) :
    val_main_v1 x (ix4 0 s h d) = x (ix4 0 (⟨s.val - 128, by omega⟩ : Fin 4096) h d) := by
  unfold val_main_v1
  refine concatenate_pair_apply_right (s₁ := S1x128x2x64) (s₂ := S1x4096x2x64) (1 : Fin S1x4224x2x64.rank) _ _ _ (ix4 0 s h d) rfl rfl (ix4 0 (⟨s.val - 128, by omega⟩ : Fin 4096) h d) (fun b hb => ?_) ?_
  · match b with | ⟨0, _⟩ => rfl | ⟨1, _⟩ => exact absurd rfl hb | ⟨2, _⟩ => rfl | ⟨3, _⟩ => rfl
  · show s.val - 128 + 128 = s.val
    omega

/-- The padded array, cut into blocks of 128. -/
theorem blocks_apply (x : Vec Ideal S1x4096x2x64 .f32) (n : Fin 33) (i : Fin 128) (h : Fin 2) (d : Fin 64) :
    val_main_v2 x (ix5 0 n i h d) = val_main_v1 x (ix4 0 (⟨128 * n.val + i.val, by omega⟩ : Fin 4224) h d) := by
  rw [val_main_v2_apply]
  refine congrArg _ (funext fun b => ?_)
  match b with
  | ⟨0, _⟩ => rfl
  | ⟨1, _⟩ =>
    refine Fin.ext ?_
    show ((((0 * 33 + n.val) * 128 + i.val) * 2 + h.val) * 64 + d.val) / 128 % 4224 = 128 * n.val + i.val
    omega
  | ⟨2, _⟩ =>
    refine Fin.ext ?_
    show ((((0 * 33 + n.val) * 128 + i.val) * 2 + h.val) * 64 + d.val) / 64 % 2 = h.val
    omega
  | ⟨3, _⟩ =>
    refine Fin.ext ?_
    show ((((0 * 33 + n.val) * 128 + i.val) * 2 + h.val) * 64 + d.val) % 64 = d.val
    omega

/-- A window of the padded array. -/
theorem win_apply (X : Fin 4096 → Fin 2 → Fin 64 → ℝ) (x : Vec Ideal S1x4096x2x64 .f32) (hx : ∀ s h d, x (ix4 0 s h d) = ((X s h d : ℝ) : EReal))
    (n : Fin 32) (j : Fin 256) (h : Fin 2) (d : Fin 64) : val_main_v5 x (ix5 0 n j h d) = ((Args.winR X n h j d : ℝ) : EReal) := by
  have hv : val_main_v5 x (ix5 0 n j h d) = val_main_v1 x (ix4 0 (⟨128 * n.val + j.val, by omega⟩ : Fin 4224) h d) := by
    unfold val_main_v5
    by_cases hj : j.val < 128
    · refine (concatenate_pair_apply_left (s₁ := S1x32x128x2x64) (s₂ := S1x32x128x2x64) (2 : Fin S1x32x256x2x64.rank) _ _ _ (ix5 0 n j h d) rfl (ix5 0 n (⟨j.val, hj⟩ : Fin 128) h d) (fun b => ?_)).trans ?_
      · match b with | ⟨0, _⟩ => rfl | ⟨1, _⟩ => rfl | ⟨2, _⟩ => rfl | ⟨3, _⟩ => rfl | ⟨4, _⟩ => rfl
      · rw [val_main_v3_apply]
        refine (congrArg _ (ValueIdx.eq_ix5 _)).trans (blocks_apply x (⟨n.val, by omega⟩ : Fin 33) (⟨j.val, hj⟩ : Fin 128) h d)
    · refine (concatenate_pair_apply_right (s₁ := S1x32x128x2x64) (s₂ := S1x32x128x2x64) (2 : Fin S1x32x256x2x64.rank) _ _ _ (ix5 0 n j h d) rfl rfl (ix5 0 n (⟨j.val - 128, by omega⟩ : Fin 128) h d) (fun b hb => ?_) ?_).trans ?_
      · match b with | ⟨0, _⟩ => rfl | ⟨1, _⟩ => rfl | ⟨2, _⟩ => exact absurd rfl hb | ⟨3, _⟩ => rfl | ⟨4, _⟩ => rfl
      · show j.val - 128 + 128 = j.val
        omega
      · rw [val_main_v4_apply]
        refine ((congrArg _ (ValueIdx.eq_ix5 _)).trans (blocks_apply x (⟨1 + n.val, by omega⟩ : Fin 33) (⟨j.val - 128, by omega⟩ : Fin 128) h d)).trans ?_
        refine congrArg (fun s => val_main_v1 x (ix4 0 s h d)) (Fin.ext ?_)
        show 128 * (1 + n.val) + (j.val - 128) = 128 * n.val + j.val
        omega
  rw [hv]
  unfold Args.winR
  by_cases hs : 128 ≤ 128 * n.val + j.val
  · rw [dif_pos hs, ← hx]; exact pad_right x _ h d hs
  · rw [dif_neg hs]; exact (pad_left x _ h d (Nat.not_le.mp hs))

include H

/-- The reference's windows of the keys. -/
theorem ref_k (n : Fin 32) (j : Fin 256) (h : Fin 2) (d : Fin 64) : val_main_v5 x1 (ix5 0 n j h d) = ((Args.winR a.K n h j d : ℝ) : EReal) :=
  win_apply a.K x1 H.k n j h d

/-- The reference's windows of the values. -/
theorem ref_v (n : Fin 32) (j : Fin 256) (h : Fin 2) (d : Fin 64) : val_main_v11 x2 (ix5 0 n j h d) = ((Args.winR a.V n h j d : ℝ) : EReal) :=
  win_apply a.V x2 H.v n j h d

variable (n : Fin 32) (h : Fin 2) (g : Fin 8) (i : Fin 128) (j : Fin 256) (d : Fin 64)

/-- The reference's queries. -/
theorem ref_q : val_main_v12 x0 (ix6 0 n i h g d) = (((a.rowR n h g i).q d : ℝ) : EReal) := by
  unfold val_main_v12
  refine (shapeCast_apply x0 _ _ (ix4 0 (Args.pos n i) (Args.head h g) d) ?_).trans (H.q _ _ _)
  refine (Shape.rowMajor_val_four (d := ![1, 4096, 16, 64]) _).trans (Eq.trans ?_ (Shape.rowMajor_val_six (d := ![1, 32, 128, 2, 8, 64]) _).symm)
  show ((0 * 4096 + (128 * n.val + i.val)) * 16 + (8 * h.val + g.val)) * 64 + d.val = ((((0 * 32 + n.val) * 128 + i.val) * 2 + h.val) * 8 + g.val) * 64 + d.val
  omega

/-- The reference's incoming gradient. -/
theorem ref_c : val_main_v96 x4 (ix6 0 n h d g i) = (((a.rowR n h g i).ct d : ℝ) : EReal) := by
  rw [val_main_v96_apply]
  refine (congrArg _ (ValueIdx.eq_ix6 _)).trans ?_
  unfold val_main_v95
  refine (shapeCast_apply x4 _ _ (ix3 0 (Args.pos n i) (Args.col h g d)) ?_).trans (H.c _ _)
  refine (Shape.rowMajor_val_three (d := ![1, 4096, 1024]) _).trans (Eq.trans ?_ (Shape.rowMajor_val_six (d := ![1, 32, 128, 2, 8, 64]) _).symm)
  show (0 * 4096 + (128 * n.val + i.val)) * 1024 + (64 * (8 * h.val + g.val) + d.val) = ((((0 * 32 + n.val) * 128 + i.val) * 2 + h.val) * 8 + g.val) * 64 + d.val
  omega

/-- The reference's scaled scores. -/
theorem ref_sc : val_main_v16 x0 x1 (ix6 0 n h g i j) = (((a.rowR n h g i).sc j : ℝ) : EReal) := by
  rw [val_main_v16_apply, val_main_v14_apply, val_main_v13_apply, val_main_v15_apply]
  refine (congrArg₂ (· * ·) (sum_mul_coe _ _ _ _ (fun k => (congrArg _ (ValueIdx.eq_ix5 _)).trans (ref_k H n j h k)) (fun k => (congrArg _ (ValueIdx.eq_ix6 _)).trans (ref_q H n h g i k)))
    Blk.eighth).trans ?_
  rw [← EReal.coe_mul]
  refine congrArg _ ?_
  unfold Row.sc
  refine congrArg (· * _) (Finset.sum_congr rfl fun k _ => ?_)
  exact mul_comm _ _

omit H in
/-- The reference's mask. -/
theorem ref_mask : val_main_v48_1 (F := Ideal) (ix6 0 n h g i j) = if (a.rowR n h g i).on j then 1#1 else 0#1 := by
  rw [val_main_v48_1_apply, val_main_v47_apply, val_main_v46_apply, val_main_v44_apply, val_main_v41_apply, val_main_v30_apply,
    val_main_v27_apply, val_main_v29_apply, val_main_v25_apply, val_main_v23_apply, val_main_v22_apply, val_main_v18_apply, val_main_v17_apply,
    val_main_v24_apply, val_main_v20_apply, val_main_v19_apply, val_main_v45_apply, val_main_v43_apply, val_main_v40_apply, val_main_v38_apply,
    val_main_v36_apply, val_main_v34_apply, val_main_v32_apply, val_main_v31_apply, val_main_v39_apply, val_main_v37_apply, val_main_v20_apply, val_main_v19_apply]
  exact mask_bit_ref n i j

/-- The reference's masked scores. -/
theorem ref_se : val_main_v48_0 x0 x1 (ix6 0 n h g i j) = (a.rowR n h g i).se j := by
  rw [val_main_v48_0_apply, ref_mask (a := a), ref_sc H]
  unfold Row.se
  split
  · exact select_one _ _
  · refine (select_zero _ _).trans ?_
    rw [val_main_call0_v2_apply]
    exact bot_word

omit H in
/-- A host maximum along the last axis of six. -/
theorem reduceMax_apply (y : FVec Ideal S1x32x2x8x128x256 .f32) (hr' : S1x32x2x8x128x256.ReducesTo [5] S1x32x2x8x128) (hu : 0 < S_.numel) :
    Host.reduce FloatOps.maximumf y (constant S_ .f32 0xFF800000#32) hr' hu (ix5 0 n h g i) = Finset.univ.fold max ⊥ (fun k => y (ix6 0 n h g i k)) := by
  have hr : S1x32x2x8x128x256.Reduces [5] S1x32x2x8x128 := by decide
  have hφ : FKind.Formats .f32 := by decide
  rw [hostReduce_maximumf_eq_multiReduction y 0xFF800000#32 _ hu hr hφ rfl]
  refine (Ideal.multiReduction_maximumf_single y _ hr hφ rfl _).trans ?_
  refine (congrArg (fun z => Finset.fold max z (y ∘ hr.lift (ix5 0 n h g i)) Finset.univ) bot_word).trans ?_
  have hf : (y ∘ hr.lift (ix5 0 n h g i)) = fun k => y (ix6 0 n h g i k) := by
    funext k
    refine congrArg y ?_
    funext b
    match b with
    | ⟨0, _⟩ => rfl
    | ⟨1, _⟩ => rfl
    | ⟨2, _⟩ => rfl
    | ⟨3, _⟩ => rfl
    | ⟨4, _⟩ => rfl
    | ⟨5, _⟩ => rfl
  rw [hf]
  rfl

/-- The reference's row maximum over the scores. -/
theorem ref_max : val_main_v51 x0 x1 (ix5 0 n h g i) = Finset.univ.fold max ⊥ (a.rowR n h g i).se := by
  unfold val_main_v51
  refine (reduceMax_apply n h g i (val_main_v48_0 x0 x1) _ h_S_).trans ?_
  exact congrArg (fun f => Finset.fold max ⊥ f Finset.univ) (funext fun k => ref_se H n h g i k)

/-- The sinks, spread over the rows. -/
theorem ref_sink : val_main_v58 x3 (ix6 0 n h g i 0) = (((a.rowR n h g i).sink : ℝ) : EReal) := by
  rw [val_main_v58_apply, val_main_v50_apply, val_main_v49_apply]
  refine (congrArg _ (ValueIdx.eq_ix1 _)).trans (Eq.trans (congrArg (fun z => x3 (ix1 z)) (Fin.ext ?_)) (H.s (Args.head h g)))
  show h.val * 8 + g.val = 8 * h.val + g.val
  omega

/-- The reference's row maximum, the sink included. -/
theorem ref_M : val_main_v59 x0 x1 x3 (ix6 0 n h g i 0) = (((a.rowR n h g i).M : ℝ) : EReal) := by
  rw [val_main_v59_apply, val_main_v57_apply, ref_sink H, Row.coe_M]
  refine congrArg₂ max ?_ rfl
  exact (congrArg _ (ValueIdx.eq_ix5 _)).trans (ref_max H n h g i)

/-- The reference's exponentials. -/
theorem ref_e : val_main_v80 x0 x1 x3 (ix6 0 n h g i j) = (((a.rowR n h g i).e j : ℝ) : EReal) := by
  rw [val_main_v80_apply, val_main_v79_apply, ref_se H, val_main_v78_apply, ← Row.exp_se]
  exact congrArg (fun z : EReal => Ideal.exp ((a.rowR n h g i).se j - z)) ((congrArg _ (ValueIdx.eq_ix6 _)).trans (ref_M H n h g i))

/-- The sink's exponential. -/
theorem ref_es : val_main_v85 x0 x1 x3 (ix6 0 n h g i 0) = (((a.rowR n h g i).es : ℝ) : EReal) := by
  rw [val_main_v85_apply, val_main_v84_apply, ref_M H]
  refine (congrArg (fun z : EReal => Ideal.exp (z - _)) (ref_sink H n h g i)).trans ?_
  rw [← EReal.coe_sub, Ideal.exp_coe]
  rfl

/-- The reference's denominator. -/
theorem ref_den : val_main_v86 x0 x1 x3 (ix6 0 n h g i 0) = (((a.rowR n h g i).den : ℝ) : EReal) := by
  rw [val_main_v86_apply, val_main_v82_apply, ref_es H, val_main_v81_apply]
  refine (congrArg (fun z : EReal => z + _) ((congrArg₂ (fun x y : EReal => x + y) (zero_word _) (sum_coe _ _ fun k => (congrArg _ (ValueIdx.eq_ix6 _)).trans (ref_e H n h g i k))).trans (zero_add _))).trans ?_
  rw [← EReal.coe_add]
  rfl

/-- The reference's probabilities. -/
theorem ref_p : val_main_v88 x0 x1 x3 (ix6 0 n h g i j) = (((a.rowR n h g i).p j : ℝ) : EReal) := by
  rw [val_main_v88_apply, val_main_v87_apply, ref_e H]
  refine (congrArg (Ideal.div _) ((congrArg _ (ValueIdx.eq_ix6 _)).trans (ref_den H n h g i))).trans ?_
  rw [Ideal.div_coe (Row.den_ne _), ← EReal.coe_mul]
  rfl

/-- The probabilities' gradients. -/
theorem ref_dp : val_main_v97 x2 x4 (ix6 0 n h g i j) = (((a.rowR n h g i).dp j : ℝ) : EReal) := by
  rw [val_main_v97_apply]
  exact sum_mul_coe _ _ _ _ (fun k => (congrArg _ (ValueIdx.eq_ix6 _)).trans (ref_c H n h g i k)) (fun k => (congrArg _ (ValueIdx.eq_ix5 _)).trans (ref_v H n j h k))

end Attn

end

end
-- ==== Proof.RefGrad.lean ====
module

public import proofs.«01_k».proof.Proof.RefRow

/-! The reference's backward operations at an index: the gradient of a masked score is the kernel's, and the
gradient through the row's maximum cancels. -/

@[expose] public section

set_option maxRecDepth 16384

noncomputable section

namespace Attn

open Idealize.ShloMosaic hiding ix0 ix1 ix2 ix3 ix4 ix5 ix6 eq_ix1 eq_ix2 eq_ix3 eq_ix4 eq_ix5
open Idealize.ShloMosaic.TcCoe Idealize.ShloMosaic.ValueIdx
open Cert.ReferenceIdeal Cert.ReferenceIdeal.Gen Cert.ReferenceIdeal.Read

variable {a : Args} {x0 : Vec Ideal S1x4096x16x64 .f32} {x1 x2 : Vec Ideal S1x4096x2x64 .f32} {x3 : Vec Ideal S16 .f32}
  {x4 : Vec Ideal S1x4096x1024 .f32} (H : Holds a x0 x1 x2 x3 x4)
variable (n : Fin 32) (h : Fin 2) (g : Fin 8) (i : Fin 128) (j : Fin 256) (d : Fin 64)

/-- A host sum along the last axis of six, started at zero. -/
theorem reduceSum_apply (y : FVec Ideal S1x32x2x8x128x256 .f32) (init : FVec Ideal S_ .f32) (hr : S1x32x2x8x128x256.ReducesTo [5] S1x32x2x8x128)
    (hu : 0 < S_.numel) (hi : init (Shape.Idx.first hu) = 0) :
    Host.reduceAdd y init hr hu (ix5 0 n h g i) = ∑ k, y (ix6 0 n h g i k) := by
  refine reduceAdd_fiber (κ := Fin 256) y init hr hu _ (fun k => ix6 0 n h g i k) hi (fun _ _ e => congrFun e 5) fun z => ⟨fun e => ⟨z 5, ?_⟩, ?_⟩
  · funext b; apply Fin.ext
    match b with
    | ⟨0, _⟩ => exact (congrArg Fin.val (congrFun e (0 : Fin 5))).symm
    | ⟨1, _⟩ => exact (congrArg Fin.val (congrFun e (1 : Fin 5))).symm
    | ⟨2, _⟩ => exact (congrArg Fin.val (congrFun e (2 : Fin 5))).symm
    | ⟨3, _⟩ => exact (congrArg Fin.val (congrFun e (3 : Fin 5))).symm
    | ⟨4, _⟩ => exact (congrArg Fin.val (congrFun e (4 : Fin 5))).symm
    | ⟨5, _⟩ => rfl
  · rintro ⟨k, rfl⟩
    funext b; apply Fin.ext
    match b with | ⟨0, _⟩ => rfl | ⟨1, _⟩ => rfl | ⟨2, _⟩ => rfl | ⟨3, _⟩ => rfl | ⟨4, _⟩ => rfl

/-- A host sum over two axes of size one. -/
theorem reduceOnes_apply (y : FVec Ideal S1x32x2x8x128x1 .f32) (init : FVec Ideal S_ .f32) (hr : S1x32x2x8x128x1.ReducesTo [0, 5] S32x2x8x128)
    (hu : 0 < S_.numel) (hi : init (Shape.Idx.first hu) = 0) :
    Host.reduceAdd y init hr hu (ix4 n h g i) = y (ix6 0 n h g i 0) := by
  refine (reduceAdd_fiber (κ := Fin 1) y init hr hu _ (fun k => ix6 0 n h g i k) hi (fun _ _ e => congrFun e 5) fun z => ⟨fun e => ⟨z 5, ?_⟩, ?_⟩).trans (by rw [Fin.sum_univ_one])
  · funext b; apply Fin.ext
    match b with
    | ⟨0, _⟩ => exact (Nat.lt_one_iff.mp (z 0).isLt).symm
    | ⟨1, _⟩ => exact (congrArg Fin.val (congrFun e (0 : Fin 4))).symm
    | ⟨2, _⟩ => exact (congrArg Fin.val (congrFun e (1 : Fin 4))).symm
    | ⟨3, _⟩ => exact (congrArg Fin.val (congrFun e (2 : Fin 4))).symm
    | ⟨4, _⟩ => exact (congrArg Fin.val (congrFun e (3 : Fin 4))).symm
    | ⟨5, _⟩ => rfl
  · rintro ⟨k, rfl⟩
    funext b; apply Fin.ext
    match b with | ⟨0, _⟩ => rfl | ⟨1, _⟩ => rfl | ⟨2, _⟩ => rfl | ⟨3, _⟩ => rfl

/-- A host sum over windows and queries. -/
theorem reduceRows_apply (y : FVec Ideal S1x32x2x8x128x1 .f32) (init : FVec Ideal S_ .f32) (hr : S1x32x2x8x128x1.ReducesTo [1, 4] S1x2x8x1)
    (hu : 0 < S_.numel) (hi : init (Shape.Idx.first hu) = 0) :
    Host.reduceAdd y init hr hu (ix4 0 h g 0) = ∑ n, ∑ i, y (ix6 0 n h g i 0) := by
  refine (reduceAdd_fiber (κ := Fin 32 × Fin 128) y init hr hu _ (fun k => ix6 0 k.1 h g k.2 0) hi (fun _ _ e => Prod.ext (congrFun e 1) (congrFun e 4))
    fun z => ⟨fun e => ⟨(z 1, z 4), ?_⟩, ?_⟩).trans (Fintype.sum_prod_type _)
  · funext b; apply Fin.ext
    match b with
    | ⟨0, _⟩ => exact (Nat.lt_one_iff.mp (z 0).isLt).symm
    | ⟨1, _⟩ => rfl
    | ⟨2, _⟩ => exact (congrArg Fin.val (congrFun e (1 : Fin 4))).symm
    | ⟨3, _⟩ => exact (congrArg Fin.val (congrFun e (2 : Fin 4))).symm
    | ⟨4, _⟩ => rfl
    | ⟨5, _⟩ => exact (Nat.lt_one_iff.mp (z 5).isLt).symm
  · rintro ⟨k, rfl⟩
    funext b; apply Fin.ext
    match b with | ⟨0, _⟩ => rfl | ⟨1, _⟩ => rfl | ⟨2, _⟩ => rfl | ⟨3, _⟩ => rfl

/-- A host sum over four axes of size one. -/
theorem reduceHeads_apply (y : FVec Ideal S1x1x2x8x1x1 .f32) (init : FVec Ideal S_ .f32) (hr : S1x1x2x8x1x1.ReducesTo [0, 1, 4, 5] S2x8)
    (hu : 0 < S_.numel) (hi : init (Shape.Idx.first hu) = 0) :
    Host.reduceAdd y init hr hu (ix2 h g) = y (ix6 0 0 h g 0 0) := by
  refine (reduceAdd_fiber (κ := Fin 1) y init hr hu _ (fun k => ix6 0 0 h g 0 k) hi (fun _ _ e => congrFun e 5) fun z => ⟨fun e => ⟨z 5, ?_⟩, ?_⟩).trans (by rw [Fin.sum_univ_one])
  · funext b; apply Fin.ext
    match b with
    | ⟨0, _⟩ => exact (Nat.lt_one_iff.mp (z 0).isLt).symm
    | ⟨1, _⟩ => exact (Nat.lt_one_iff.mp (z 1).isLt).symm
    | ⟨2, _⟩ => exact (congrArg Fin.val (congrFun e (0 : Fin 2))).symm
    | ⟨3, _⟩ => exact (congrArg Fin.val (congrFun e (1 : Fin 2))).symm
    | ⟨4, _⟩ => exact (Nat.lt_one_iff.mp (z 4).isLt).symm
    | ⟨5, _⟩ => rfl
  · rintro ⟨k, rfl⟩
    funext b; apply Fin.ext
    match b with | ⟨0, _⟩ => rfl | ⟨1, _⟩ => rfl

/-- A row of scalars with one more axis of size one. -/
theorem rowColumn_apply {α : Type} (y : S1x32x2x8x128.Idx → α) (hc : S1x32x2x8x128.ShapeCasts S1x32x2x8x128x1) :
    shapeCast S1x32x2x8x128x1 y hc (ix6 0 n h g i 0) = y (ix5 0 n h g i) :=
  shapeCast_apply y hc _ _ ((Shape.rowMajor_val_five (d := ![1, 32, 2, 8, 128]) _).trans
    (Eq.trans (by show _ = ((((0 * 32 + n.val) * 2 + h.val) * 8 + g.val) * 128 + i.val) * 1 + 0; rw [Nat.mul_one]; rfl) (Shape.rowMajor_val_six (d := ![1, 32, 2, 8, 128, 1]) _).symm))

/-- The sinks' gradient with axes of size one around it. -/
theorem heads6_apply {α : Type} (y : S1x2x8x1.Idx → α) (hc : S1x2x8x1.ShapeCasts S1x1x2x8x1x1) :
    shapeCast S1x1x2x8x1x1 y hc (ix6 0 0 h g 0 0) = y (ix4 0 h g 0) :=
  shapeCast_apply y hc _ _ ((Shape.rowMajor_val_four (d := ![1, 2, 8, 1]) _).trans
    (Eq.trans (by show ((0 * 2 + h.val) * 8 + g.val) * 1 + 0 = ((((0 * 1 + 0) * 2 + h.val) * 8 + g.val) * 1 + 0) * 1 + 0; omega)
      (Shape.rowMajor_val_six (d := ![1, 1, 2, 8, 1, 1]) _).symm))

include H

/-- The gradient of the denominator's reciprocal, by row. -/
theorem ref_dden : val_main_v105 x0 x1 x2 x3 x4 (ix6 0 n h g i 0) = ((-((a.rowR n h g i).delta * (1 / (a.rowR n h g i).den)) : ℝ) : EReal) := by
  have hden : (a.rowR n h g i).den * (a.rowR n h g i).den ≠ 0 := mul_ne_zero (Row.den_ne _) (Row.den_ne _)
  have hinv : val_main_v91 x0 x1 x3 (ix6 0 n h g i 0) = ((1 / ((a.rowR n h g i).den * (a.rowR n h g i).den) : ℝ) : EReal) := by
    rw [val_main_v91_apply, val_main_v89_apply, ref_den H, val_main_v90_apply]
    refine (congrArg₂ Ideal.div Ideal.ofBits_one_f32 (EReal.coe_mul _ _).symm).trans ?_
    rw [Ideal.div_coe hden, one_mul]
  have hs : val_main_v103 x0 x1 x2 x3 x4 (ix5 0 n h g i) = (((a.rowR n h g i).delta * (1 / (a.rowR n h g i).den) : ℝ) : EReal) := by
    unfold val_main_v103
    rw [reduceSum_apply n h g i _ (val_main_cst_18 (F := Ideal)) _ h_S_ Ideal.ofBits_zero_f32, ← Row.sum_dp_e]
    refine sum_coe _ _ fun k => ?_
    rw [val_main_v102_apply, val_main_v101_apply, val_main_v100_apply, ref_e H, ref_dp H, EReal.coe_mul, EReal.coe_mul]
    exact congrArg (fun z : EReal => _ * z * _) ((congrArg _ (ValueIdx.eq_ix6 _)).trans hinv)
  rw [val_main_v105_apply]
  unfold val_main_v104
  rw [rowColumn_apply, hs]
  rfl

/-- What a row adds to its sink's gradient, taken directly. -/
theorem ref_dsink : val_main_v108 x0 x1 x2 x3 x4 (ix6 0 n h g i 0) = ((-(a.rowR n h g i).dsk : ℝ) : EReal) := by
  rw [val_main_v108_apply, ref_dden H, ref_es H, ← Row.ref_dsk]
  exact (EReal.coe_mul _ _).symm

/-- The gradient of a shifted score. -/
theorem ref_dshift : val_main_v116 x0 x1 x2 x3 x4 (ix6 0 n h g i j)
    = ((((a.rowR n h g i).dp j * (1 / (a.rowR n h g i).den) + -((a.rowR n h g i).delta * (1 / (a.rowR n h g i).den))) * (a.rowR n h g i).e j : ℝ) : EReal) := by
  have h1 : val_main_v107 x0 x1 x2 x3 x4 (ix6 0 n h g i j) = (((a.rowR n h g i).dp j * (1 / (a.rowR n h g i).den) : ℝ) : EReal) := by
    rw [val_main_v107_apply, ref_dp H, val_main_v106_apply]
    refine (congrArg (Ideal.div _) ((congrArg _ (ValueIdx.eq_ix6 _)).trans (ref_den H n h g i))).trans ?_
    rw [Ideal.div_coe (Row.den_ne _), ← EReal.coe_mul]
  have h2 : val_main_v114 x0 x1 x2 x3 x4 (ix6 0 n h g i j) = ((-((a.rowR n h g i).delta * (1 / (a.rowR n h g i).den)) : ℝ) : EReal) := by
    rw [val_main_v114_apply, val_main_v113_apply]
    refine (congrArg _ (ValueIdx.eq_ix4 _)).trans ?_
    unfold val_main_v112
    exact (reduceOnes_apply n h g i _ (val_main_cst_20 (F := Ideal)) _ h_S_ Ideal.ofBits_zero_f32).trans (ref_dden H n h g i)
  rw [val_main_v116_apply, val_main_v115_apply, h1, h2, ref_e H]
  refine Eq.trans ?_ (EReal.coe_mul _ _).symm
  rw [EReal.coe_add]
  rfl

/-- The gradient through the row's maximum cancels. -/
theorem ref_dmax : val_main_v120 x0 x1 x2 x3 x4 (ix6 0 n h g i 0) = 0 := by
  have hs : val_main_v119 x0 x1 x2 x3 x4 (ix6 0 n h g i 0) = ((∑ k, -(((a.rowR n h g i).dp k * (1 / (a.rowR n h g i).den)
      + -((a.rowR n h g i).delta * (1 / (a.rowR n h g i).den))) * (a.rowR n h g i).e k) : ℝ) : EReal) := by
    unfold val_main_v119
    rw [rowColumn_apply]
    unfold val_main_v118
    rw [reduceSum_apply n h g i _ (val_main_cst_21 (F := Ideal)) _ h_S_ Ideal.ofBits_zero_f32]
    refine sum_coe _ _ fun k => ?_
    rw [val_main_v117_apply, ref_dshift H]
    rfl
  rw [val_main_v120_apply, val_main_v111_apply, ref_dsink H, hs, ← EReal.coe_zero, ← (a.rowR n h g i).ref_zero, EReal.coe_add, Row.ref_dsk]
  rfl

/-- The number of positions that reach the row's maximum is not zero. -/
theorem ref_count : ∃ k : ℝ, k ≠ 0 ∧ val_main_v56 x0 x1 (ix5 0 n h g i) = ((k : ℝ) : EReal) := by
  have hm (j : Fin 256) : val_main_v53 x0 x1 (ix6 0 n h g i j) = Finset.univ.fold max ⊥ (a.rowR n h g i).se := by
    rw [val_main_v53_apply]
    refine (congrArg _ (ValueIdx.eq_ix6 _)).trans (?_ : val_main_v52 x0 x1 (ix6 0 n h g i 0) = _)
    unfold val_main_v52
    rw [rowColumn_apply, ref_max H]
  obtain ⟨j, -, hj⟩ := Finset.exists_mem_eq_sup (Finset.univ : Finset (Fin 256)) Finset.univ_nonempty (a.rowR n h g i).se
  have hv (k : Fin 256) : val_main_v55 x0 x1 (ix6 0 n h g i k)
      = (((if (a.rowR n h g i).se k = Finset.univ.sup (a.rowR n h g i).se then 1 else 0 : ℝ) : ℝ) : EReal) := by
    rw [val_main_v55_apply, val_main_v54_apply, hm, ref_se H]
    show (((BitVec.ofBool (decide ((a.rowR n h g i).se k = Finset.univ.fold max ⊥ (a.rowR n h g i).se))).toNat : ℝ) : EReal) = _
    refine congrArg _ ?_
    show ((BitVec.ofBool (decide ((a.rowR n h g i).se k = Finset.univ.sup (a.rowR n h g i).se))).toNat : ℝ) = _
    by_cases hk : (a.rowR n h g i).se k = Finset.univ.sup (a.rowR n h g i).se
    · rw [if_pos hk, decide_eq_true hk]; simp
    · rw [if_neg hk, decide_eq_false hk]; simp
  refine ⟨∑ k, (if (a.rowR n h g i).se k = Finset.univ.sup (a.rowR n h g i).se then 1 else 0 : ℝ), ne_of_gt ?_, ?_⟩
  · refine Finset.sum_pos' (fun k _ => ?_) ⟨j, Finset.mem_univ _, ?_⟩
    · split
      · exact zero_le_one
      · exact le_rfl
    · rw [if_pos hj.symm]; exact zero_lt_one
  · unfold val_main_v56
    rw [reduceSum_apply n h g i _ (val_main_cst_9 (F := Ideal)) _ h_S_ Ideal.ofBits_zero_f32]
    exact sum_coe _ _ hv

/-- Nothing comes back through the maximum of the scores. -/
theorem ref_back : val_main_v130 x0 x1 x2 x3 x4 (ix6 0 n h g i j) = 0 := by
  obtain ⟨k, hk, hc⟩ := ref_count H n h g i
  have h0 : val_main_v128 x0 x1 x2 x3 x4 (ix5 0 n h g i) = 0 := by
    rw [val_main_v128_apply, hc, val_main_v127_apply]
    have h1 : val_main_v126 x0 x1 x2 x3 x4 (ix4 n h g i) = 0 := by
      unfold val_main_v126
      rw [reduceOnes_apply n h g i _ (val_main_cst_23 (F := Ideal)) _ h_S_ Ideal.ofBits_zero_f32, val_main_v125_apply, ref_dmax H]
      exact zero_mul _
    refine (congrArg (fun z => Ideal.div z _) ((congrArg _ (ValueIdx.eq_ix4 _)).trans h1)).trans ?_
    rw [Ideal.div_coe hk, zero_mul]
  rw [val_main_v130_apply, val_main_v129_apply]
  refine (congrArg (fun z : EReal => z * _) ((congrArg _ (ValueIdx.eq_ix5 _)).trans h0)).trans ?_
  exact zero_mul _

/-- The reference's gradient of an unscaled score. -/
theorem ref_ds' : val_main_v137 x0 x1 x2 x3 x4 (ix6 0 n h j i g) = (((a.rowR n h g i).ds j : ℝ) : EReal) := by
  rw [val_main_v137_apply]
  refine (congrArg _ (ValueIdx.eq_ix6 _)).trans (?_ : val_main_v136 x0 x1 x2 x3 x4 (ix6 0 n h g i j) = _)
  have hz : ¬ (a.rowR n h g i).on j = true → (a.rowR n h g i).e j = 0 := fun hj => by unfold Row.e; rw [if_neg hj]
  rw [val_main_v136_apply, val_main_v134_apply, ref_mask (a := a), val_main_v131_apply, ref_back H, ref_dshift H, ← Row.ref_ds, val_main_v135_apply]
  refine Eq.trans (congrArg₂ (fun x y : EReal => x * y) ?_ Blk.eighth) (EReal.coe_mul _ _).symm
  split
  · exact (select_one _ _).trans (add_zero _)
  · next hj =>
    refine (select_zero _ _).trans ?_
    rw [hz hj, mul_zero]
    exact Ideal.ofBits_zero_f32

/-- The reference's gradient of the queries. -/
theorem ref_dq : val_main_v138 x0 x1 x2 x3 x4 (ix6 0 n h i g d) = (((a.rowR n h g i).dq d : ℝ) : EReal) := by
  rw [val_main_v138_apply]
  exact sum_mul_coe _ _ _ _ (fun k => (congrArg _ (ValueIdx.eq_ix6 _)).trans (ref_ds' H n h g i k)) (fun k => (congrArg _ (ValueIdx.eq_ix5 _)).trans (ref_k H n k h d))

/-- The reference's gradient of the keys, window by window. -/
theorem ref_dk : val_main_v140 x0 x1 x2 x3 x4 (ix5 0 n h j d) = ((∑ i, ∑ g, (a.rowR n h g i).ds j * (a.rowR n h g i).q d : ℝ) : EReal) := by
  unfold val_main_v140
  refine (Ideal.dotGeneral_apply dot_S1x32x2x256x128x8_S1x32x128x2x8x64_S1x32x2x256x64_45_24_3_5_012_013 none _ _ _ _).trans ?_
  rw [sum_contr2 dot_S1x32x2x256x128x8_S1x32x128x2x8x64_S1x32x2x256x64_45_24_3_5_012_013 128 8 rfl rfl rfl]
  refine sum_coe _ _ fun i => sum_mul_coe _ _ _ _ (fun g => ?_) (fun g => ?_)
  · refine Eq.trans (congrArg _ (funext fun b => Fin.ext ?_)) (ref_ds' H n h g i j)
    match b with
    | ⟨0, _⟩ => rfl
    | ⟨1, _⟩ => rfl
    | ⟨2, _⟩ => rfl
    | ⟨3, _⟩ => rfl
    | ⟨4, _⟩ => exact contrEquiv2_symm_val0 dot_S1x32x2x256x128x8_S1x32x128x2x8x64_S1x32x2x256x64_45_24_3_5_012_013 128 8 rfl rfl rfl (i, g)
    | ⟨5, _⟩ => exact contrEquiv2_symm_val1 dot_S1x32x2x256x128x8_S1x32x128x2x8x64_S1x32x2x256x64_45_24_3_5_012_013 128 8 rfl rfl rfl (i, g)
  · refine Eq.trans (congrArg _ (funext fun b => Fin.ext ?_)) (ref_q H n h g i d)
    match b with
    | ⟨0, _⟩ => rfl
    | ⟨1, _⟩ => rfl
    | ⟨2, _⟩ => exact contrEquiv2_symm_val0 dot_S1x32x2x256x128x8_S1x32x128x2x8x64_S1x32x2x256x64_45_24_3_5_012_013 128 8 rfl rfl rfl (i, g)
    | ⟨3, _⟩ => rfl
    | ⟨4, _⟩ => exact contrEquiv2_symm_val1 dot_S1x32x2x256x128x8_S1x32x128x2x8x64_S1x32x2x256x64_45_24_3_5_012_013 128 8 rfl rfl rfl (i, g)
    | ⟨5, _⟩ => rfl

/-- The reference's gradient of the values, window by window. -/
theorem ref_dv : val_main_v98 x0 x1 x3 x4 (ix5 0 n h d j) = ((∑ g, ∑ i, (a.rowR n h g i).ct d * (a.rowR n h g i).p j : ℝ) : EReal) := by
  unfold val_main_v98
  refine (Ideal.dotGeneral_apply dot_S1x32x2x64x8x128_S1x32x2x8x128x256_S1x32x2x64x256_45_34_3_5_012_012 none _ _ _ _).trans ?_
  rw [sum_contr2 dot_S1x32x2x64x8x128_S1x32x2x8x128x256_S1x32x2x64x256_45_34_3_5_012_012 8 128 rfl rfl rfl]
  refine sum_coe _ _ fun g => sum_mul_coe _ _ _ _ (fun i => ?_) (fun i => ?_)
  · refine Eq.trans (congrArg _ (funext fun b => Fin.ext ?_)) (ref_c H n h g i d)
    match b with
    | ⟨0, _⟩ => rfl
    | ⟨1, _⟩ => rfl
    | ⟨2, _⟩ => rfl
    | ⟨3, _⟩ => rfl
    | ⟨4, _⟩ => exact contrEquiv2_symm_val0 dot_S1x32x2x64x8x128_S1x32x2x8x128x256_S1x32x2x64x256_45_34_3_5_012_012 8 128 rfl rfl rfl (g, i)
    | ⟨5, _⟩ => exact contrEquiv2_symm_val1 dot_S1x32x2x64x8x128_S1x32x2x8x128x256_S1x32x2x64x256_45_34_3_5_012_012 8 128 rfl rfl rfl (g, i)
  · refine Eq.trans (congrArg _ (funext fun b => Fin.ext ?_)) (ref_p H n h g i j)
    match b with
    | ⟨0, _⟩ => rfl
    | ⟨1, _⟩ => rfl
    | ⟨2, _⟩ => rfl
    | ⟨3, _⟩ => exact contrEquiv2_symm_val0 dot_S1x32x2x64x8x128_S1x32x2x8x128x256_S1x32x2x64x256_45_34_3_5_012_012 8 128 rfl rfl rfl (g, i)
    | ⟨4, _⟩ => exact contrEquiv2_symm_val1 dot_S1x32x2x64x8x128_S1x32x2x8x128x256_S1x32x2x64x256_45_34_3_5_012_012 8 128 rfl rfl rfl (g, i)
    | ⟨5, _⟩ => rfl

/-- The reference's gradient of a sink. -/
theorem ref_sinks : val_main_v132 x0 x1 x2 x3 x4 (ix2 h g) = ((∑ n, ∑ i, -(a.rowR n h g i).dsk : ℝ) : EReal) := by
  unfold val_main_v132
  rw [reduceHeads_apply h g _ (val_main_cst_24 (F := Ideal)) _ h_S_ Ideal.ofBits_zero_f32, val_main_v124_apply]
  have h1 : val_main_v110 x0 x1 x2 x3 x4 (ix6 0 0 h g 0 0) = ((∑ n, ∑ i, -(a.rowR n h g i).dsk : ℝ) : EReal) := by
    unfold val_main_v110
    rw [heads6_apply]
    unfold val_main_v109
    rw [reduceRows_apply h g _ (val_main_cst_19 (F := Ideal)) _ h_S_ Ideal.ofBits_zero_f32]
    exact sum_coe _ _ fun n => sum_coe _ _ fun i => ref_dsink H n h g i
  have h2 : val_main_v123 x0 x1 x2 x3 x4 (ix6 0 0 h g 0 0) = 0 := by
    unfold val_main_v123
    rw [heads6_apply]
    unfold val_main_v122
    rw [reduceRows_apply h g _ (val_main_cst_22 (F := Ideal)) _ h_S_ Ideal.ofBits_zero_f32]
    refine Finset.sum_eq_zero fun n _ => Finset.sum_eq_zero fun i _ => ?_
    rw [val_main_v121_apply, ref_dmax H]
    exact zero_mul _
  rw [h1, h2]
  exact add_zero _

/-- The reference's first result. -/
theorem ref_out_dq (t : Fin 16) (s : Fin 4096) : val_main_v145 x0 x1 x2 x3 x4 (ix3 t s d)
    = (((a.rowR (⟨s.val / 128, by omega⟩ : Fin 32) (⟨t.val / 8, by omega⟩ : Fin 2) (⟨t.val % 8, by omega⟩ : Fin 8) (⟨s.val % 128, by omega⟩ : Fin 128)).dq d : ℝ) : EReal) := by
  rw [val_main_v145_apply]
  refine Eq.trans (?_ : _ = val_main_v144 x0 x1 x2 x3 x4 (ix3 t s d)) ?_
  · rfl
  rw [val_main_v144_apply, val_main_v143_apply]
  refine (congrArg _ (?_ : _ = ix4 0 s t d)).trans ?_
  · funext b; apply Fin.ext
    match b with
    | ⟨0, _⟩ => rfl
    | ⟨1, _⟩ =>
      show ((s.val * 16 + t.val) * 64 + d.val) / 1024 % 4096 = s.val
      omega
    | ⟨2, _⟩ =>
      show ((s.val * 16 + t.val) * 64 + d.val) / 64 % 16 = t.val
      omega
    | ⟨3, _⟩ =>
      show ((s.val * 16 + t.val) * 64 + d.val) % 64 = d.val
      omega
  unfold val_main_v142
  refine (shapeCast_apply (val_main_v139 x0 x1 x2 x3 x4) _ _ (ix6 0 (⟨s.val / 128, by omega⟩ : Fin 32) (⟨s.val % 128, by omega⟩ : Fin 128) (⟨t.val / 8, by omega⟩ : Fin 2)
    (⟨t.val % 8, by omega⟩ : Fin 8) d) ?_).trans ?_
  · refine (Shape.rowMajor_val_six (d := ![1, 32, 128, 2, 8, 64]) _).trans (Eq.trans ?_ (Shape.rowMajor_val_four (d := ![1, 4096, 16, 64]) _).symm)
    show ((((0 * 32 + s.val / 128) * 128 + s.val % 128) * 2 + t.val / 8) * 8 + t.val % 8) * 64 + d.val = ((0 * 4096 + s.val) * 16 + t.val) * 64 + d.val
    omega
  · rw [val_main_v139_apply]
    exact (congrArg _ (ValueIdx.eq_ix6 _)).trans (ref_dq H _ _ _ _ d)

omit H in
/-- A window array without its batch axis, groups to the front, at an index. -/
theorem dropBatch_apply (y : S1x32x256x2x64.Idx → Elt Ideal .f32) (hc : S1x32x256x2x64.ShapeCasts S32x256x2x64) :
    shapeCast S32x256x2x64 y hc (ix4 n j h d) = y (ix5 0 n j h d) :=
  shapeCast_apply y hc _ _ ((Shape.rowMajor_val_five (d := ![1, 32, 256, 2, 64]) _).trans
    (Eq.trans (by show (((0 * 32 + n.val) * 256 + j.val) * 2 + h.val) * 64 + d.val = ((n.val * 256 + j.val) * 2 + h.val) * 64 + d.val; omega)
      (Shape.rowMajor_val_four (d := ![32, 256, 2, 64]) _).symm))

/-- The reference's second result. -/
theorem ref_out_dk : val_main_v147 x0 x1 x2 x3 x4 (ix4 h n j d) = ((∑ i, ∑ g, (a.rowR n h g i).ds j * (a.rowR n h g i).q d : ℝ) : EReal) := by
  rw [val_main_v147_apply]
  refine (congrArg _ (ValueIdx.eq_ix4 _)).trans (?_ : val_main_v146 x0 x1 x2 x3 x4 (ix4 n j h d) = _)
  unfold val_main_v146
  rw [dropBatch_apply, val_main_v141_apply]
  exact (congrArg _ (ValueIdx.eq_ix5 _)).trans (ref_dk H n h j d)

/-- The reference's third result. -/
theorem ref_out_dv : val_main_v149 x0 x1 x3 x4 (ix4 h n j d) = ((∑ g, ∑ i, (a.rowR n h g i).ct d * (a.rowR n h g i).p j : ℝ) : EReal) := by
  rw [val_main_v149_apply]
  refine (congrArg _ (ValueIdx.eq_ix4 _)).trans (?_ : val_main_v148 x0 x1 x3 x4 (ix4 n j h d) = _)
  unfold val_main_v148
  rw [dropBatch_apply, val_main_v99_apply]
  exact (congrArg _ (ValueIdx.eq_ix5 _)).trans (ref_dv H n h j d)

/-- The reference's fourth result. -/
theorem ref_out_ds (t : Fin 16) (l : Fin 128) : val_main_v151 x0 x1 x2 x3 x4 (ix3 t 0 l)
    = ((∑ n, ∑ i, -(a.rowR n (⟨t.val / 8, by omega⟩ : Fin 2) (⟨t.val % 8, by omega⟩ : Fin 8) i).dsk : ℝ) : EReal) := by
  rw [val_main_v151_apply, val_main_v150_apply, val_main_v133_apply]
  exact (congrArg _ (ValueIdx.eq_ix2 _)).trans (ref_sinks H _ _)

end Attn

end

end
-- ==== Proof.Join.lean ====
module

public import proofs.«01_k».proof.Defs
public import proofs.«01_k».proof.Proof.KerValue
public import proofs.«01_k».proof.Proof.RefGrad

/-! The kernel's results are the reference's, whenever every argument is finite. -/

@[expose] public section

set_option maxRecDepth 16384

noncomputable section

namespace Attn

open Idealize.ShloMosaic hiding ix0 ix1 ix2 ix3 ix4 ix5 ix6 eq_ix1 eq_ix2 eq_ix3 eq_ix4 eq_ix5
open Idealize.ShloMosaic.TcCoe Idealize.ShloMosaic.ValueIdx
open Cert.ReferenceIdeal.Read

/-- A sum over the 1024 rows of a group is one over its heads and their queries. -/
theorem sum_rows (f : Fin 8 → Fin 128 → ℝ) :
    ∑ R : Fin 1024, f (⟨R.val / 128, by omega⟩ : Fin 8) (⟨R.val % 128, by omega⟩ : Fin 128) = ∑ g, ∑ i, f g i := by
  rw [← Fintype.sum_prod_type' f]
  exact Fintype.sum_equiv (finProdFinEquiv (m := 8) (n := 128)).symm _ (fun x => f x.1 x.2) fun _ => rfl

variable {a : Args} {x0 : Vec Ideal Cert.KernelIdeal.S1x4096x16x64 .f32} {x1 x2 : Vec Ideal Cert.KernelIdeal.S1x4096x2x64 .f32}
  {x3 : Vec Ideal Cert.KernelIdeal.S16 .f32} {x4 : Vec Ideal Cert.KernelIdeal.S1x4096x1024 .f32} (H : Holds a x0 x1 x2 x3 x4)
include H

/-- The queries' gradient of both. -/
theorem join_dq : val_main_v145 x0 x1 x2 x3 x4 = fun i => ((a.dqOf (i 0) (i 1) (i 2) : ℝ) : EReal) := by
  funext i
  refine (congrArg _ (ValueIdx.eq_ix3 i)).trans ((ref_out_dq H (i 2) (i 0) (i 1)).trans ?_)
  exact congrArg _ (congrFun (a.same _ _ _ _).dq _).symm

/-- The keys' gradient of both. -/
theorem join_dk : val_main_v147 x0 x1 x2 x3 x4 = fun i => ((a.dkOf (i 0) (i 1) (i 2) (i 3) : ℝ) : EReal) := by
  funext i
  refine (congrArg _ (ValueIdx.eq_ix4 i)).trans ((ref_out_dk H (i 1) (i 0) (i 2) (i 3)).trans (congrArg _ ?_))
  unfold Args.dkOf Args.rowN
  refine Eq.trans ?_ (sum_rows fun g r => (a.rowK (i 1) (i 0) g r).ds (i 2) * (a.rowK (i 1) (i 0) g r).q (i 3)).symm
  rw [Finset.sum_comm]
  refine Finset.sum_congr rfl fun g _ => Finset.sum_congr rfl fun r _ => ?_
  exact congrArg₂ _ (congrFun (a.same (i 1) (i 0) g r).ds (i 2)).symm (congrFun (a.same (i 1) (i 0) g r).q (i 3)).symm

/-- The values' gradient of both. -/
theorem join_dv : val_main_v149 x0 x1 x3 x4 = fun i => ((a.dvOf (i 0) (i 1) (i 2) (i 3) : ℝ) : EReal) := by
  funext i
  refine (congrArg _ (ValueIdx.eq_ix4 i)).trans ((ref_out_dv H (i 1) (i 0) (i 2) (i 3)).trans (congrArg _ ?_))
  unfold Args.dvOf Args.rowN
  refine Eq.trans ?_ (sum_rows fun g r => (a.rowK (i 1) (i 0) g r).p (i 2) * (a.rowK (i 1) (i 0) g r).ct (i 3)).symm
  refine Finset.sum_congr rfl fun g _ => Finset.sum_congr rfl fun r _ => ?_
  exact (mul_comm _ _).trans (congrArg₂ _ (congrFun (a.same (i 1) (i 0) g r).p (i 2)).symm (congrFun (a.same (i 1) (i 0) g r).ct (i 3)).symm)

/-- The sinks' gradient of both. -/
theorem join_ds : val_main_v151 x0 x1 x2 x3 x4 = fun i => ((a.dsOf (i 0) : ℝ) : EReal) := by
  funext i
  refine (congrArg _ (?_ : i = ix3 (i 0) 0 (i 2))).trans ((ref_out_ds H (i 0) (i 2)).trans (congrArg _ ?_))
  · exact (ValueIdx.eq_ix3 i).trans (congrArg (fun z => ix3 (i 0) z (i 2)) (Subsingleton.elim (α := Fin 1) (i 1) 0))
  unfold Args.dsOf
  refine Finset.sum_congr rfl fun n _ => ?_
  rw [Finset.sum_neg_distrib, zero_sub]
  refine congrArg _ (Finset.sum_congr rfl fun r _ => ?_)
  exact (a.same n _ _ r).dsk.symm

omit H

/-- The finite extended reals are the reals. -/
theorem real_of_abs (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  induction x using EReal.rec with
  | bot => simp [Ideal.cmp] at h
  | coe r => rfl
  | top => simp [Ideal.cmp] at h

/-- The side conditions of the precondition's operations. -/
theorem pre_facts : Cert.Pre_finite.Facts where
  bcast_S_S1x4096x16x64 := by decide
  bcast_S_S1x4096x2x64 := by decide
  bcast_S_S16 := by decide
  bcast_S_S1x4096x1024 := by decide

/-- Arguments that the precondition admits are real numbers. -/
theorem holds_of_pre (x0 : Vec Ideal Cert.KernelIdeal.S1x4096x16x64 .f32) (x1 x2 : Vec Ideal Cert.KernelIdeal.S1x4096x2x64 .f32)
    (x3 : Vec Ideal Cert.KernelIdeal.S16 .f32) (x4 : Vec Ideal Cert.KernelIdeal.S1x4096x1024 .f32) [Cert.Pre_finite.Facts]
    (h0 : (Cert.Pre_finite.fn (F := Ideal) x0 x1 x2 x3 x4).1 = (fun _ => 1#1))
    (h1 : (Cert.Pre_finite.fn (F := Ideal) x0 x1 x2 x3 x4).2.1 = (fun _ => 1#1))
    (h2 : (Cert.Pre_finite.fn (F := Ideal) x0 x1 x2 x3 x4).2.2.1 = (fun _ => 1#1))
    (h3 : (Cert.Pre_finite.fn (F := Ideal) x0 x1 x2 x3 x4).2.2.2.1 = (fun _ => 1#1))
    (h4 : (Cert.Pre_finite.fn (F := Ideal) x0 x1 x2 x3 x4).2.2.2.2 = (fun _ => 1#1)) :
    Holds { Q := fun s h d => (x0 (ix4 0 s h d)).toReal, K := fun s h d => (x1 (ix4 0 s h d)).toReal, V := fun s h d => (x2 (ix4 0 s h d)).toReal,
            S := fun h => (x3 (ix1 h)).toReal, C := fun s d => (x4 (ix3 0 s d)).toReal } x0 x1 x2 x3 x4 where
  q s h d := real_of_abs _ (congrFun h0 (ix4 0 s h d))
  k s h d := real_of_abs _ (congrFun h1 (ix4 0 s h d))
  v s h d := real_of_abs _ (congrFun h2 (ix4 0 s h d))
  s h := real_of_abs _ (congrFun h3 (ix1 h))
  c s d := real_of_abs _ (congrFun h4 (ix3 0 s d))

end Attn

end

end
-- ==== Proof.Product.lean ====
module

public import proofs.«01_k».proof.Proof.Arith

/-! Products of matrices over the extended reals, entry by entry. -/

@[expose] public section

noncomputable section

namespace Product

open Idealize.ShloMosaic Idealize.ShloMosaic.ValueIdx
open scoped BigOperators

/-- A row times a column. -/
def dot {K : ℕ} (x y : Fin K → EReal) : EReal := ∑ k, x k * y k

/-- Rows and columns equal entry by entry have equal products. -/
theorem dot_congr {K : ℕ} {x x' y y' : Fin K → EReal} (hx : ∀ k, x k = x' k) (hy : ∀ k, y k = y' k) : dot x y = dot x' y' :=
  Finset.sum_congr rfl fun k _ => congrArg₂ _ (hx k) (hy k)

/-- The two factors change places. -/
theorem dot_comm {K : ℕ} (x y : Fin K → EReal) : dot x y = dot y x := Finset.sum_congr rfl fun _ _ => mul_comm _ _

variable {M K N : ℕ} {φ₁ φ₂ : FTy}

/-- An entry of a plain product of two blocks. -/
theorem plain (D : DotDims ⟨2, ![M, K]⟩ ⟨2, ![K, N]⟩ ⟨2, ![M, N]⟩) (hD : D = DotDims.plain M K N) (prec : Option ContractPrecision)
    (x : FVec Ideal ⟨2, ![M, K]⟩ φ₁) (y : FVec Ideal ⟨2, ![K, N]⟩ φ₂) (i : (⟨2, ![M, N]⟩ : Shape).Idx) :
    matmul D prec x y (constant ⟨2, ![M, N]⟩ .f32 0x00000000#32) i = dot (fun k => x (ix2 (i 0) k)) (fun k => y (ix2 k (i 1))) := by
  rw [eq_ix2 i]
  exact Attn.plain_apply D hD prec x y _ _

/-- An entry of a product with the right block transposed. -/
theorem transposed (D : DotDims ⟨2, ![M, K]⟩ ⟨2, ![N, K]⟩ ⟨2, ![M, N]⟩) (hD : D = DotDims.transposedRhs M K N) (prec : Option ContractPrecision)
    (x : FVec Ideal ⟨2, ![M, K]⟩ φ₁) (y : FVec Ideal ⟨2, ![N, K]⟩ φ₂) (i : (⟨2, ![M, N]⟩ : Shape).Idx) :
    matmul D prec x y (constant ⟨2, ![M, N]⟩ .f32 0x00000000#32) i = dot (fun k => x (ix2 (i 0) k)) (fun k => y (ix2 (i 1) k)) := by
  rw [eq_ix2 i]
  exact Attn.transposedRhs_apply D hD prec x y _ _

/-- Columns laid out in stacked groups. -/
theorem stacked {α : Type} {R S C W : ℕ} (hW : W = S * C) (x : (⟨2, ![R, W]⟩ : Shape).Idx → α) (h1 : (⟨2, ![R, W]⟩ : Shape).ShapeCasts ⟨3, ![R, S, C]⟩)
    (h2 : (⟨3, ![R, S, C]⟩ : Shape).Transposes [1, 0, 2] ⟨3, ![S, R, C]⟩) (s : Fin S) (r : Fin R) (k : Fin C) (w : Fin W) (hw : w.val = s.val * C + k.val) :
    transpose ⟨3, ![S, R, C]⟩ [1, 0, 2] (shapeCast ⟨3, ![R, S, C]⟩ x h1) h2 (ix3 s r k) = x (ix2 r w) := by
  refine (transpose_apply _ _ h2 (ix3 s r k) (ix3 r s k) (fun a => by match a with | ⟨0, _⟩ => rfl | ⟨1, _⟩ => rfl | ⟨2, _⟩ => rfl)).trans ?_
  refine shapeCast_apply _ h1 _ _ ?_
  rw [Shape.rowMajor_val_three, Shape.rowMajor_val_two]
  change r.val * W + w.val = (r.val * S + s.val) * C + k.val
  rw [hw]
  exact hW ▸ (by ring : r.val * (S * C) + (s.val * C + k.val) = (r.val * S + s.val) * C + k.val)

/-- A group of one, as a matrix. -/
theorem unstack {α : Type} {R C : ℕ} (x : (⟨3, ![1, R, C]⟩ : Shape).Idx → α) (h : (⟨3, ![1, R, C]⟩ : Shape).ShapeCasts ⟨2, ![R, C]⟩) (r : Fin R) (k : Fin C) :
    shapeCast ⟨2, ![R, C]⟩ x h (ix2 r k) = x (ix3 0 r k) := by
  refine shapeCast_apply _ h _ _ ?_
  rw [Shape.rowMajor_val_three, Shape.rowMajor_val_two]
  change (0 * R + r.val) * C + k.val = r.val * C + k.val
  rw [zero_mul, zero_add]

/-- A matrix as a group of one. -/
theorem restack {α : Type} {R C : ℕ} (x : (⟨2, ![R, C]⟩ : Shape).Idx → α) (h : (⟨2, ![R, C]⟩ : Shape).ShapeCasts ⟨3, ![1, R, C]⟩) (y : (⟨3, ![1, R, C]⟩ : Shape).Idx) :
    shapeCast ⟨3, ![1, R, C]⟩ x h y = x (ix2 (y 1) (y 2)) := by
  refine shapeCast_apply _ h _ _ ?_
  rw [Shape.rowMajor_val_three, Shape.rowMajor_val_two]
  have h0 : (y 0).val = 0 := Nat.lt_one_iff.mp (y 0).isLt
  change (y 1).val * C + (y 2).val = ((y 0).val * R + (y 1).val) * C + (y 2).val
  rw [h0, zero_mul, zero_add]

end Product

end

end
-- ==== Proof.FfnUp.lean ====
module

public import proofs.«01_k».proof.Defs
public import proofs.«01_k».proof.Proof.Product
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

/-! The first product of the feed-forward layer, its weight stacked in eight groups of columns. -/

@[expose] public section

set_option maxRecDepth 16384

noncomputable section

namespace FfnUp

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel2Ideal Cert.Kernel2Ideal.Gen

variable (m : (ℓ : Loc nD τ sig) → Buf (Elt Ideal) ℓ) (c : Dev nD)

/-- The rows, as the call is given them. -/
theorem left (i : S4096x2048.Idx) : V m c main_v3 i = m ((c : Thread nD τ).loc main_arg0) i := by
  unfold V
  after_results
  rfl

/-- The weight, as the call is given it. -/
theorem right (s : Fin 8) (r : Fin 2048) (k : Fin 1408) (w : Fin 11264) (hw : w.val = s.val * 1408 + k.val) :
    V m c main_v2 (ix3 s r k) = m ((c : Thread nD τ).loc main_arg1) (ix2 r w) := by
  unfold V
  after_results
  exact Product.stacked rfl _ _ _ s r k w hw

/-- The rows and the columns of a point's blocks are those of the block it leaves. -/
theorem places : ∀ t : Fin cfg0.N, win0_0.index t = ![win0_2.index t 0, 0] ∧ win0_1.index t = ![win0_2.index t 1, 0, 0] ∧ win0_2.index t 1 < 8 :=
  (by decide +kernel : ∀ t : Fin grid0.N, _)

/-- The product the kernel leaves, entry by entry. -/
def prod (i : S4096x11264.Idx) : EReal := Product.dot (fun k : Fin 2048 => m ((c : Thread nD τ).loc main_arg0) (ix2 (i 0) k)) (fun k => m ((c : Thread nD τ).loc main_arg1) (ix2 k (i 1)))

/-- A point's block is its part of the product. -/
theorem block (t : Fin cfg0.N) (y : S1024x1408.Idx) (i : S4096x11264.Idx) (h0 : (i 0).val = win0_2.index t 0 * 1024 + (y 0).val)
    (h1 : (i 1).val = win0_2.index t 1 * 1408 + (y 1).val) : k0_pay1 (iblk m c 0 t) (iblk m c 1 t) y = prod m c i := by
  have e := places t
  unfold k0_pay1
  refine Eq.trans (truncf_apply _ _ _) ?_
  refine (Product.plain _ rfl _ _ _ y).trans (Product.dot_congr (fun k => ?_) (fun k => ?_))
  · refine (congrFun (shapeCast_id _ _) _).trans (Eq.trans ?_ (left m c (ix2 (i 0) k)))
    blk_ext [iblk, e.1]
    exact h0.symm
  · refine (Product.unstack _ _ _ _).trans (Eq.trans ?_ (right m c ⟨win0_2.index t 1, e.2.2⟩ k (y 1) (i 1) h1))
    blk_ext [iblk, e.2.1]

/-- The array the kernel leaves. -/
theorem arr : (dats m 0 c).arrAt 2 cfg0.N = prod m c := by
  refine (dats m 0 c).arrAt_eq_of_covers 2 _ (by decide +kernel) fun t _ y => ?_
  blk_simp
  rw [after0_2]
  frame_out
  exact block m c t y _ (by blk_simp) (by blk_simp)

open Cert.Reference2Ideal.Read in
/-- The reference's array, entry by entry. -/
theorem ref (x0 : Vec Ideal S4096x2048 .f32) (x1 : Vec Ideal S2048x11264 .f32) (i : S4096x11264.Idx) :
    val_main_v1 (F := Ideal) x0 x1 i = Product.dot (fun k : Fin 2048 => x0 (ix2 (i 0) k)) (fun k => x1 (ix2 k (i 1))) :=
  (val_main_v0_apply x0 x1 i).trans (Product.dot_congr (fun _ => congrArg x0 (eq_ix2 _)) (fun _ => congrArg x1 (eq_ix2 _)))

/-- The kernel's result is the reference's. -/
theorem algebraic : Cert.algebraic_Kernel2Ideal_Reference2Ideal := by
  intro m g m' g' _ hagree
  refine ⟨_, Cert.Kernel2Ideal.Value.run_blocks (F := Ideal) m g, ?_⟩
  refine (θ_run Cert.Reference2Ideal.defs _ _).mono (fun _ h c => ⟨(h c).1.trans ?_, (h c).2⟩) (Cert.Reference2Ideal.Value.run (F := Ideal) m' g')
  rw [(hagree c).1, (hagree c).2]
  exact (funext (ref _ _)).trans (arr m c).symm

end FfnUp

end

end
-- ==== Proof.DwFfnUp.lean ====
module

public import proofs.«01_k».proof.Defs
public import proofs.«01_k».proof.Proof.Product
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

/-! The gradient of the feed-forward layer's first weight, stacked as the weight is. -/

@[expose] public section

set_option maxRecDepth 16384

noncomputable section

namespace DwFfnUp

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel3Ideal Cert.Kernel3Ideal.Gen

variable (m : (ℓ : Loc nD τ sig) → Buf (Elt Ideal) ℓ) (c : Dev nD)

/-- The rows' transpose, as the call is given it. -/
theorem left (i : S2048x4096.Idx) : V m c main_v4 i = m ((c : Thread nD τ).loc main_arg0) (ix2 (i 1) (i 0)) := by
  unfold V
  after_results
  exact congrArg (m ((c : Thread nD τ).loc main_arg0)) (eq_ix2 _)

/-- The cotangent, as the call is given it: its two halves stacked. -/
theorem right (s : Fin 2) (r : Fin 4096) (k : Fin 5632) (w : Fin 11264) (hw : w.val = s.val * 5632 + k.val) :
    V m c main_v2 (ix3 s r k) = m ((c : Thread nD τ).loc main_arg1) (ix2 r w) := by
  unfold V
  after_results
  exact Product.stacked rfl _ _ _ s r k w hw

/-- A group of columns lies in one half, at its place among the half's four. -/
theorem places : ∀ t : Fin cfg0.N, win0_0.index t = ![win0_2.index t 1, 0] ∧ win0_1.index t = ![win0_2.index t 0 / 4, 0, win0_2.index t 0 % 4] ∧
    win0_2.index t 0 < 8 ∧ win0_2.index t 2 = 0 ∧ win0_3.index t = win0_2.index t :=
  (by decide +kernel : ∀ t : Fin grid0.N, _)

/-- A column of the gradient by its group and its place there. -/
def col (s : Fin 8) (k : Fin 1408) : Fin 11264 := ⟨s.val * 1408 + k.val, by omega⟩

/-- The gradient the kernel leaves, entry by entry. -/
def prod (i : S8x2048x1408.Idx) : EReal := Product.dot (fun k : Fin 4096 => m ((c : Thread nD τ).loc main_arg0) (ix2 k (i 1)))
  (fun k => m ((c : Thread nD τ).loc main_arg1) (ix2 k (col (i 0) (i 2))))

/-- A point's block is its part of the gradient. -/
theorem block (t : Fin cfg0.N) (y : S1x512x1408.Idx) (i : S8x2048x1408.Idx) (h0 : (i 0).val = win0_2.index t 0)
    (h1 : (i 1).val = win0_2.index t 1 * 512 + (y 1).val) (h2 : (i 2).val = (y 2).val) :
    k0_pay1 (iblk m c 0 t) (iblk m c 1 t) (ix2 (y 1) (y 2)) = prod m c i := by
  have e := places t
  unfold k0_pay1
  refine (Product.plain _ rfl _ _ _ (ix2 (y 1) (y 2))).trans (Product.dot_congr (fun k => ?_) (fun k => ?_))
  · refine (congrFun (shapeCast_id _ _) _).trans (Eq.trans ?_ (left m c (ix2 (i 1) k)))
    blk_ext [iblk, e.1]
    exact h1.symm
  · have hk : (y 2).val < 1408 := (y 2).isLt
    refine (Product.unstack _ _ _ _).trans (Eq.trans ?_ (right m c ⟨win0_2.index t 0 / 4, by omega⟩ k ⟨win0_2.index t 0 % 4 * 1408 + (y 2).val, by omega⟩ (col (i 0) (i 2)) ?_))
    · blk_ext [iblk, e.2.1]
    · change (i 0).val * 1408 + (i 2).val = win0_2.index t 0 / 4 * 5632 + (win0_2.index t 0 % 4 * 1408 + (y 2).val)
      omega

/-- The array the kernel leaves. -/
theorem arr : (dats m 0 c).arrAt 2 cfg0.N = prod m c := by
  refine (dats m 0 c).arrAt_eq_of_covers 2 _ (by decide +kernel) fun t _ y => ?_
  have e := places t
  have hy : (y 0).val < 1 := (y 0).isLt
  blk_simp
  rw [after0_2]
  frame_out
  unfold k0_pay2
  exact (Product.restack _ _ y).trans (block m c t y _ (by blk_simp) (by blk_simp) (by blk_simp [e.2.2.2.1]))

/-- Its copy in the short format. -/
theorem arr_short : (dats m 0 c).arrAt 3 cfg0.N = prod m c := by
  refine (dats m 0 c).arrAt_eq_of_covers 3 _ (by decide +kernel) fun t _ y => ?_
  have e := places t
  have hy : (y 0).val < 1 := (y 0).isLt
  blk_simp
  rw [after0_3]
  frame_out
  unfold k0_pay3
  exact (Product.restack _ _ y).trans (block m c t y _ (by blk_simp [e.2.2.2.2]) (by blk_simp [e.2.2.2.2]) (by blk_simp [e.2.2.2.1, e.2.2.2.2]))

open Cert.Reference3Ideal.Read in
/-- The reference's array, entry by entry. -/
theorem ref (x0 : Vec Ideal S4096x2048 .f32) (x1 : Vec Ideal S4096x11264 .f32) (i : S8x2048x1408.Idx) :
    val_main_v5 (F := Ideal) x0 x1 i = Product.dot (fun k : Fin 4096 => x0 (ix2 k (i 1))) (fun k => x1 (ix2 k (col (i 0) (i 2)))) := by
  rw [eq_ix3 i]
  refine (Product.stacked rfl _ _ _ _ _ _ (col (i 0) (i 2)) rfl).trans ((val_main_v3_apply x0 x1 _).trans ((val_main_v2_apply x0 x1 _).trans ((Product.dot_comm _ _).trans ?_)))
  exact Product.dot_congr (fun _ => congrArg x0 (eq_ix2 _)) (fun _ => congrArg x1 (eq_ix2 _))

/-- The kernel's two results are the reference's. -/
theorem algebraic : Cert.algebraic_Kernel3Ideal_Reference3Ideal := by
  intro m g m' g' _ hagree
  refine ⟨_, _, Cert.Kernel3Ideal.Value.run_blocks (F := Ideal) m g, ?_⟩
  refine (θ_run Cert.Reference3Ideal.defs _ _).mono (fun _ h c => ⟨(h c).1.trans ?_, (h c).2.1.trans ?_, (h c).2.2⟩) (Cert.Reference3Ideal.Value.run (F := Ideal) m' g')
  · rw [(hagree c).1, (hagree c).2]
    exact (funext (ref _ _)).trans (arr m c).symm
  · rw [(hagree c).1, (hagree c).2]
    exact (funext (ref _ _)).trans (arr_short m c).symm

end DwFfnUp

end

end
-- ==== Proof.DH2.lean ====
module

public import proofs.«01_k».proof.Defs
public import proofs.«01_k».proof.Proof.Product
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ReadBack
public import Idealize.ShloMosaic.Lib.Pipeline.ValueKit

/-! The cotangent of the second norm's rows: eight groups of columns, four at a point, two points a block. -/

@[expose] public section

set_option maxRecDepth 16384

noncomputable section

namespace DH2

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel4Ideal Cert.Kernel4Ideal.Gen

variable (m : (ℓ : Loc nD τ sig) → Buf (Elt Ideal) ℓ) (c : Dev nD)

/-- The cotangent, as the call is given it: its two halves stacked. -/
theorem left (s : Fin 2) (r : Fin 4096) (k : Fin 5632) (w : Fin 11264) (hw : w.val = s.val * 5632 + k.val) :
    V m c main_v5 (ix3 s r k) = m ((c : Thread nD τ).loc main_arg1) (ix2 r w) := by
  unfold V
  after_results
  exact Product.stacked rfl _ _ _ s r k w hw

/-- The weight, as the call is given it: its eight groups of columns stacked. -/
theorem right (s : Fin 8) (r : Fin 2048) (k : Fin 1408) (w : Fin 11264) (hw : w.val = s.val * 1408 + k.val) :
    V m c main_v2 (ix3 s r k) = m ((c : Thread nD τ).loc main_arg0) (ix2 r w) := by
  unfold V
  after_results
  exact Product.stacked rfl _ _ _ s r k w hw

/-- The groups of a point. -/
theorem places : ∀ t : Fin cfg0.N, win0_0.index t = ![t.val % 2, win0_8.index t 0, 0] ∧ win0_1.index t = ![t.val % 2, win0_8.index t 0, 1] ∧ win0_2.index t = ![t.val % 2, win0_8.index t 0, 2] ∧ win0_3.index t = ![t.val % 2, win0_8.index t 0, 3] ∧ win0_4.index t = ![t.val % 2 * 4 + 0, win0_8.index t 1, 0] ∧ win0_5.index t = ![t.val % 2 * 4 + 1, win0_8.index t 1, 0] ∧ win0_6.index t = ![t.val % 2 * 4 + 2, win0_8.index t 1, 0] ∧ win0_7.index t = ![t.val % 2 * 4 + 3, win0_8.index t 1, 0] :=
  (by decide +kernel : ∀ t : Fin grid0.N, _)

/-- The two points of a block. -/
theorem before : ∀ t : Fin cfg0.N, t.val % 2 = 1 → ∀ h : t.val - 1 < cfg0.N, win0_8.index ⟨t.val - 1, h⟩ = win0_8.index t :=
  (by decide +kernel : ∀ t : Fin grid0.N, _)

/-- A column of the weight by its group and its place there. -/
def col (s : Fin 8) (k : Fin 1408) : Fin 11264 := ⟨s.val * 1408 + k.val, by omega⟩

/-- A group's part of an entry. -/
def part (i : S4096x2048.Idx) (s : Fin 8) : EReal := Product.dot (fun k => m ((c : Thread nD τ).loc main_arg1) (ix2 (i 0) (col s k)))
  (fun k => m ((c : Thread nD τ).loc main_arg0) (ix2 (i 1) (col s k)))

/-- The product of two blocks is a group's part, if the blocks are the group's. -/
theorem piece (x : Vec Ideal S1x512x1408 .bf16) (w : Vec Ideal S1x1024x1408 .bf16) (y : S512x1024.Idx) (i : S4096x2048.Idx) (s : Fin 8)
    (hx : ∀ k, x (ix3 0 (y 0) k) = m ((c : Thread nD τ).loc main_arg1) (ix2 (i 0) (col s k)))
    (hw : ∀ k, w (ix3 0 (y 1) k) = m ((c : Thread nD τ).loc main_arg0) (ix2 (i 1) (col s k))) :
    matmul dot_S512x1408_S1024x1408_S512x1024_1_1_0_0_n_n none (shapeCast S512x1408 x shapeCasts_S1x512x1408_S512x1408 : FVec Ideal S512x1408 .bf16)
      (shapeCast S1024x1408 w shapeCasts_S1x1024x1408_S1024x1408 : FVec Ideal S1024x1408 .bf16) (constant S512x1024 .f32 0x00000000#32) y = part m c i s :=
  (Product.transposed _ rfl _ _ _ y).trans
    (Product.dot_congr (fun k => (Product.unstack _ _ _ _).trans (hx k)) (fun k => (Product.unstack _ _ _ _).trans (hw k)))

/-- What a point adds: the parts of its four groups. -/
theorem added (t : Fin cfg0.N) (y : S512x1024.Idx) (i : S4096x2048.Idx) (s : Fin 2) (hs : t.val % 2 = s.val) (h0 : (i 0).val = win0_8.index t 0 * 512 + (y 0).val)
    (h1 : (i 1).val = win0_8.index t 1 * 1024 + (y 1).val) :
    k0_pay2 (iblk m c 0 t) (iblk m c 4 t) (iblk m c 1 t) (iblk m c 5 t) (iblk m c 2 t) (iblk m c 6 t) (iblk m c 3 t) (iblk m c 7 t) y =
      part m c i ⟨s.val * 4, by omega⟩ + part m c i ⟨s.val * 4 + 1, by omega⟩ + part m c i ⟨s.val * 4 + 2, by omega⟩ + part m c i ⟨s.val * 4 + 3, by omega⟩ := by
  obtain ⟨e0, e1, e2, e3, e4, e5, e6, e7⟩ := places t
  unfold k0_pay2
  refine congrArg₂ (· + ·) (congrArg₂ (· + ·) (congrArg₂ (· + ·) ?_ ?_) ?_) ?_
  · refine piece m c _ _ y i _ (fun k => Eq.trans ?_ (left m c s (i 0) ⟨0 * 1408 + k.val, by omega⟩ _ (by simp only [col]; omega)))
      (fun k => Eq.trans ?_ (right m c _ (i 1) k _ rfl))
    · blk_ext [iblk, e0]
      exact h0.symm
    · blk_ext [iblk, e4]
      exact h1.symm
  · refine piece m c _ _ y i _ (fun k => Eq.trans ?_ (left m c s (i 0) ⟨1 * 1408 + k.val, by omega⟩ _ (by simp only [col]; omega)))
      (fun k => Eq.trans ?_ (right m c _ (i 1) k _ rfl))
    · blk_ext [iblk, e1]
      exact h0.symm
    · blk_ext [iblk, e5]
      exact h1.symm
  · refine piece m c _ _ y i _ (fun k => Eq.trans ?_ (left m c s (i 0) ⟨2 * 1408 + k.val, by omega⟩ _ (by simp only [col]; omega)))
      (fun k => Eq.trans ?_ (right m c _ (i 1) k _ rfl))
    · blk_ext [iblk, e2]
      exact h0.symm
    · blk_ext [iblk, e6]
      exact h1.symm
  · refine piece m c _ _ y i _ (fun k => Eq.trans ?_ (left m c s (i 0) ⟨3 * 1408 + k.val, by omega⟩ _ (by simp only [col]; omega)))
      (fun k => Eq.trans ?_ (right m c _ (i 1) k _ rfl))
    · blk_ext [iblk, e3]
      exact h0.symm
    · blk_ext [iblk, e7]
      exact h1.symm

/-- The entry: the parts of the eight groups. -/
def prod (i : S4096x2048.Idx) : EReal := Product.dot (fun k : Fin 11264 => m ((c : Thread nD τ).loc main_arg1) (ix2 (i 0) k)) (fun k => m ((c : Thread nD τ).loc main_arg0) (ix2 (i 1) k))

/-- The eight groups' parts make the entry. -/
theorem prod_eq (i : S4096x2048.Idx) : prod m c i = ∑ s, part m c i s := by
  unfold prod part Product.dot
  exact (Fin.sum_mul_add_congr (fun _ _ _ => rfl)).symm

/-- The two points of a block add up to its part of the product. -/
theorem pair (t : Fin cfg0.N) (ht : t.val % 2 = 1) (hb : t.val - 1 < cfg0.N) (y : S512x1024.Idx) (i : S4096x2048.Idx)
    (h0 : (i 0).val = win0_8.index t 0 * 512 + (y 0).val) (h1 : (i 1).val = win0_8.index t 1 * 1024 + (y 1).val) :
    k0_pay1 (k0_pay2 (iblk m c 0 t) (iblk m c 4 t) (iblk m c 1 t) (iblk m c 5 t) (iblk m c 2 t) (iblk m c 6 t) (iblk m c 3 t) (iblk m c 7 t)) (k0_pay3 (iblk m c 0 ⟨t.val - 1, hb⟩) (iblk m c 4 ⟨t.val - 1, hb⟩) (iblk m c 1 ⟨t.val - 1, hb⟩) (iblk m c 5 ⟨t.val - 1, hb⟩) (iblk m c 2 ⟨t.val - 1, hb⟩) (iblk m c 6 ⟨t.val - 1, hb⟩) (iblk m c 3 ⟨t.val - 1, hb⟩) (iblk m c 7 ⟨t.val - 1, hb⟩)) y = prod m c i := by
  have hn := before t ht hb
  have a := added m c ⟨t.val - 1, hb⟩ y i 0 (by change (t.val - 1) % 2 = 0; omega) (by rw [hn]; exact h0) (by rw [hn]; exact h1)
  have b := added m c t y i 1 ht h0 h1
  unfold k0_pay1 k0_pay3
  refine (congrFun (shapeCast_id _ _) _).trans ?_
  refine (congrArg₂ (fun u v : EReal => u + v) ((congrFun (shapeCast_id _ _) y).trans a) b).trans ?_
  refine Eq.trans ?_ (((prod_eq m c _).trans (Fin.sum_univ_eight _)).symm)
  simp only [add_assoc]
  rfl

/-- The array the kernel leaves. -/
theorem arr : (dats m 0 c).arrAt 8 cfg0.N = prod m c := by
  refine (dats m 0 c).arrAt_eq_of_covers 8 _ (by decide +kernel) fun t hf y => ?_
  have ht : t.val % 2 = 1 := (flush0_8 t).mp hf
  have hb : t.val - 1 < cfg0.N := lt_of_le_of_lt (Nat.sub_le _ _) t.isLt
  blk_simp
  rw [after0_8, outsAt0_B m c t (by omega) ht ht, outsAt0_A m c ⟨t.val - 1, hb⟩ (by change (t.val - 1) % 2 = 0; omega) (by change ¬(t.val - 1) % 2 = 1; omega) (by change ¬(t.val - 1) % 2 = 1; omega)]
  frame_out
  simp only [read_unread_whole]
  exact pair m c t ht hb y _ (by blk_simp) (by blk_simp)

open Cert.Reference4Ideal.Read in
/-- The reference's array, entry by entry. -/
theorem ref (x0 : Vec Ideal S2048x11264 .f32) (x1 : Vec Ideal S4096x11264 .f32) (i : S4096x2048.Idx) :
    val_main_v2 (F := Ideal) x0 x1 i = Product.dot (fun k : Fin 11264 => x1 (ix2 (i 0) k)) (fun k => x0 (ix2 (i 1) k)) :=
  (val_main_v2_apply x0 x1 i).trans (Product.dot_congr (fun _ => congrArg x1 (eq_ix2 _)) (fun _ => congrArg x0 (eq_ix2 _)))

/-- The kernel's result is the reference's. -/
theorem algebraic : Cert.algebraic_Kernel4Ideal_Reference4Ideal := by
  intro m g m' g' _ hagree
  refine ⟨_, Cert.Kernel4Ideal.Value.run_blocks (F := Ideal) m g, ?_⟩
  refine (θ_run Cert.Reference4Ideal.defs _ _).mono (fun _ h c => ⟨(h c).1.trans ?_, (h c).2⟩) (Cert.Reference4Ideal.Value.run (F := Ideal) m' g')
  rw [(hagree c).1, (hagree c).2]
  exact (funext (ref _ _)).trans (arr m c).symm

end DH2

end

end
-- ==== Proof.FfnDown.lean ====
module

public import proofs.«01_k».proof.Defs
public import proofs.«01_k».proof.Proof.Product
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

/-! The second product of the feed-forward layer. -/

@[expose] public section

set_option maxRecDepth 16384

noncomputable section

namespace FfnDown

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel5Ideal Cert.Kernel5Ideal.Gen

variable (m : (ℓ : Loc nD τ sig) → Buf (Elt Ideal) ℓ) (c : Dev nD)

/-- The left operand, as the call is given it. -/
theorem left (i : S4096x5632.Idx) : V m c main_v0 i = m ((c : Thread nD τ).loc main_arg0) (i) := by
  unfold V
  after_results
  rfl

/-- The right operand, as the call is given it. -/
theorem right (i : S5632x2048.Idx) : V m c main_v1 i = m ((c : Thread nD τ).loc main_arg1) i := by
  unfold V
  after_results
  rfl

/-- The rows and the columns of a point's blocks are those of the block it leaves. -/
theorem places : ∀ t : Fin cfg0.N, win0_0.index t = ![win0_2.index t 0, 0] ∧ win0_1.index t = ![0, win0_2.index t 1] :=
  (by decide +kernel : ∀ t : Fin grid0.N, _)

/-- The product the kernel leaves, entry by entry. -/
def prod (i : S4096x2048.Idx) : EReal := Product.dot (fun k : Fin 5632 => m ((c : Thread nD τ).loc main_arg0) (ix2 (i 0) k)) (fun k => m ((c : Thread nD τ).loc main_arg1) (ix2 k (i 1)))

/-- A point's block is its part of the product. -/
theorem block (t : Fin cfg0.N) (y : S512x1024.Idx) (i : S4096x2048.Idx) (h0 : (i 0).val = win0_2.index t 0 * 512 + (y 0).val)
    (h1 : (i 1).val = win0_2.index t 1 * 1024 + (y 1).val) : k0_pay1 (iblk m c 0 t) (iblk m c 1 t) y = prod m c i := by
  have e := places t
  unfold k0_pay1
  refine (Product.plain _ rfl _ _ _ y).trans (Product.dot_congr (fun k => ?_) (fun k => ?_))
  · refine (congrFun (shapeCast_id _ _) _).trans (Eq.trans ?_ (left m c (ix2 (i 0) k)))
    blk_ext [iblk, e.1]
    exact h0.symm
  · refine (congrFun (shapeCast_id _ _) _).trans (Eq.trans ?_ (right m c (ix2 k (i 1))))
    blk_ext [iblk, e.2]
    exact h1.symm

/-- The array the kernel leaves. -/
theorem arr : (dats m 0 c).arrAt 2 cfg0.N = prod m c := by
  refine (dats m 0 c).arrAt_eq_of_covers 2 _ (by decide +kernel) fun t _ y => ?_
  blk_simp
  rw [after0_2]
  frame_out
  exact block m c t y _ (by blk_simp) (by blk_simp)

open Cert.Reference5Ideal.Read in
/-- The reference's array, entry by entry. -/
theorem ref (x0 : Vec Ideal S4096x5632 .f32) (x1 : Vec Ideal S5632x2048 .f32) (i : S4096x2048.Idx) :
    val_main_v0 (F := Ideal) x0 x1 i = Product.dot (fun k : Fin 5632 => x0 (ix2 (i 0) k)) (fun k => x1 (ix2 k (i 1))) :=
  (val_main_v0_apply x0 x1 i).trans (Product.dot_congr (fun _ => congrArg x0 (eq_ix2 _)) (fun _ => congrArg x1 (eq_ix2 _)))

/-- The kernel's result is the reference's. -/
theorem algebraic : Cert.algebraic_Kernel5Ideal_Reference5Ideal := by
  intro m g m' g' _ hagree
  refine ⟨_, Cert.Kernel5Ideal.Value.run_blocks (F := Ideal) m g, ?_⟩
  refine (θ_run Cert.Reference5Ideal.defs _ _).mono (fun _ h c => ⟨(h c).1.trans ?_, (h c).2⟩) (Cert.Reference5Ideal.Value.run (F := Ideal) m' g')
  rw [(hagree c).1, (hagree c).2]
  exact (funext (ref _ _)).trans (arr m c).symm

end FfnDown

end

end
-- ==== Proof.DwFfnDown.lean ====
module

public import proofs.«01_k».proof.Defs
public import proofs.«01_k».proof.Proof.Product
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

/-! The gradient of the feed-forward layer's second weight. -/

@[expose] public section

set_option maxRecDepth 16384

noncomputable section

namespace DwFfnDown

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel6Ideal Cert.Kernel6Ideal.Gen

variable (m : (ℓ : Loc nD τ sig) → Buf (Elt Ideal) ℓ) (c : Dev nD)

/-- The left operand, as the call is given it. -/
theorem left (i : S5632x4096.Idx) : V m c main_v1 i = m ((c : Thread nD τ).loc main_arg0) (ix2 (i 1) (i 0)) := by
  unfold V
  after_results
  exact congrArg (m ((c : Thread nD τ).loc main_arg0)) (eq_ix2 _)

/-- The right operand, as the call is given it. -/
theorem right (i : S4096x2048.Idx) : V m c main_v2 i = m ((c : Thread nD τ).loc main_arg1) i := by
  unfold V
  after_results
  rfl

/-- The rows and the columns of a point's blocks are those of the block it leaves. -/
theorem places : ∀ t : Fin cfg0.N, win0_0.index t = ![win0_2.index t 0, 0] ∧ win0_1.index t = ![0, win0_2.index t 1] ∧ win0_3.index t = win0_2.index t :=
  (by decide +kernel : ∀ t : Fin grid0.N, _)

/-- The product the kernel leaves, entry by entry. -/
def prod (i : S5632x2048.Idx) : EReal := Product.dot (fun k : Fin 4096 => m ((c : Thread nD τ).loc main_arg0) (ix2 k (i 0))) (fun k => m ((c : Thread nD τ).loc main_arg1) (ix2 k (i 1)))

/-- A point's block is its part of the product. -/
theorem block (t : Fin cfg0.N) (y : S512x1024.Idx) (i : S5632x2048.Idx) (h0 : (i 0).val = win0_2.index t 0 * 512 + (y 0).val)
    (h1 : (i 1).val = win0_2.index t 1 * 1024 + (y 1).val) : k0_pay1 (iblk m c 0 t) (iblk m c 1 t) y = prod m c i := by
  have e := places t
  unfold k0_pay1
  refine (Product.plain _ rfl _ _ _ y).trans (Product.dot_congr (fun k => ?_) (fun k => ?_))
  · refine (congrFun (shapeCast_id _ _) _).trans (Eq.trans ?_ (left m c (ix2 (i 0) k)))
    blk_ext [iblk, e.1]
    exact h0.symm
  · refine (congrFun (shapeCast_id _ _) _).trans (Eq.trans ?_ (right m c (ix2 k (i 1))))
    blk_ext [iblk, e.2.1]
    exact h1.symm

/-- The array the kernel leaves. -/
theorem arr : (dats m 0 c).arrAt 2 cfg0.N = prod m c := by
  refine (dats m 0 c).arrAt_eq_of_covers 2 _ (by decide +kernel) fun t _ y => ?_
  blk_simp
  rw [after0_2]
  frame_out
  exact block m c t y _ (by blk_simp) (by blk_simp)

/-- Its copy in the short format. -/
theorem arr_short : (dats m 0 c).arrAt 3 cfg0.N = prod m c := by
  refine (dats m 0 c).arrAt_eq_of_covers 3 _ (by decide +kernel) fun t _ y => ?_
  have e := places t
  blk_simp
  rw [after0_3]
  frame_out
  exact block m c t y _ (by blk_simp [e.2.2]) (by blk_simp [e.2.2])

open Cert.Reference6Ideal.Read in
/-- The reference's array, entry by entry. -/
theorem ref (x0 : Vec Ideal S4096x5632 .f32) (x1 : Vec Ideal S4096x2048 .f32) (i : S5632x2048.Idx) :
    val_main_v3 (F := Ideal) x0 x1 i = Product.dot (fun k : Fin 4096 => x0 (ix2 k (i 0))) (fun k => x1 (ix2 k (i 1))) :=
  (val_main_v3_apply x0 x1 i).trans ((val_main_v2_apply x0 x1 _).trans ((Product.dot_comm _ _).trans
    (Product.dot_congr (fun _ => congrArg x0 (eq_ix2 _)) (fun _ => congrArg x1 (eq_ix2 _)))))

/-- The kernel's two results are the reference's. -/
theorem algebraic : Cert.algebraic_Kernel6Ideal_Reference6Ideal := by
  intro m g m' g' _ hagree
  refine ⟨_, _, Cert.Kernel6Ideal.Value.run_blocks (F := Ideal) m g, ?_⟩
  refine (θ_run Cert.Reference6Ideal.defs _ _).mono (fun _ h c => ⟨(h c).1.trans ?_, (h c).2.1.trans ?_, (h c).2.2⟩) (Cert.Reference6Ideal.Value.run (F := Ideal) m' g')
  · rw [(hagree c).1, (hagree c).2]
    exact (funext (ref _ _)).trans (arr m c).symm
  · rw [(hagree c).1, (hagree c).2]
    exact (funext (ref _ _)).trans (arr_short m c).symm

end DwFfnDown

end

end
-- ==== Proof.DAct.lean ====
module

public import proofs.«01_k».proof.Defs
public import proofs.«01_k».proof.Proof.Product
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

/-! The cotangent of the gated activations. -/

@[expose] public section

set_option maxRecDepth 16384

noncomputable section

namespace DAct

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel7Ideal Cert.Kernel7Ideal.Gen

variable (m : (ℓ : Loc nD τ sig) → Buf (Elt Ideal) ℓ) (c : Dev nD)

/-- The left operand, as the call is given it. -/
theorem left (i : S4096x2048.Idx) : V m c main_v0 i = m ((c : Thread nD τ).loc main_arg1) (i) := by
  unfold V
  after_results
  rfl

/-- The right operand, as the call is given it. -/
theorem right (i : S5632x2048.Idx) : V m c main_v1 i = m ((c : Thread nD τ).loc main_arg0) i := by
  unfold V
  after_results
  rfl

/-- The rows and the columns of a point's blocks are those of the block it leaves. -/
theorem places : ∀ t : Fin cfg0.N, win0_0.index t = ![win0_2.index t 0, 0] ∧ win0_1.index t = ![win0_2.index t 1, 0] :=
  (by decide +kernel : ∀ t : Fin grid0.N, _)

/-- The product the kernel leaves, entry by entry. -/
def prod (i : S4096x5632.Idx) : EReal := Product.dot (fun k : Fin 2048 => m ((c : Thread nD τ).loc main_arg1) (ix2 (i 0) k)) (fun k => m ((c : Thread nD τ).loc main_arg0) (ix2 (i 1) k))

/-- A point's block is its part of the product. -/
theorem block (t : Fin cfg0.N) (y : S1024x1408.Idx) (i : S4096x5632.Idx) (h0 : (i 0).val = win0_2.index t 0 * 1024 + (y 0).val)
    (h1 : (i 1).val = win0_2.index t 1 * 1408 + (y 1).val) : k0_pay1 (iblk m c 0 t) (iblk m c 1 t) y = prod m c i := by
  have e := places t
  unfold k0_pay1
  refine Eq.trans (truncf_apply _ _ _) ?_
  refine (Product.transposed _ rfl _ _ _ y).trans (Product.dot_congr (fun k => ?_) (fun k => ?_))
  · refine (congrFun (shapeCast_id _ _) _).trans (Eq.trans ?_ (left m c (ix2 (i 0) k)))
    blk_ext [iblk, e.1]
    exact h0.symm
  · refine (congrFun (shapeCast_id _ _) _).trans (Eq.trans ?_ (right m c (ix2 (i 1) k)))
    blk_ext [iblk, e.2]
    exact h1.symm

/-- The array the kernel leaves. -/
theorem arr : (dats m 0 c).arrAt 2 cfg0.N = prod m c := by
  refine (dats m 0 c).arrAt_eq_of_covers 2 _ (by decide +kernel) fun t _ y => ?_
  blk_simp
  rw [after0_2]
  frame_out
  exact block m c t y _ (by blk_simp) (by blk_simp)

open Cert.Reference7Ideal.Read in
/-- The reference's array, entry by entry. -/
theorem ref (x0 : Vec Ideal S5632x2048 .f32) (x1 : Vec Ideal S4096x2048 .f32) (i : S4096x5632.Idx) :
    val_main_v3 (F := Ideal) x0 x1 i = Product.dot (fun k : Fin 2048 => x1 (ix2 (i 0) k)) (fun k => x0 (ix2 (i 1) k)) :=
  (val_main_v2_apply x0 x1 i).trans (Product.dot_congr (fun _ => congrArg x1 (eq_ix2 _)) (fun _ => congrArg x0 (eq_ix2 _)))

/-- The kernel's result is the reference's. -/
theorem algebraic : Cert.algebraic_Kernel7Ideal_Reference7Ideal := by
  intro m g m' g' _ hagree
  refine ⟨_, Cert.Kernel7Ideal.Value.run_blocks (F := Ideal) m g, ?_⟩
  refine (θ_run Cert.Reference7Ideal.defs _ _).mono (fun _ h c => ⟨(h c).1.trans ?_, (h c).2⟩) (Cert.Reference7Ideal.Value.run (F := Ideal) m' g')
  rw [(hagree c).1, (hagree c).2]
  exact (funext (ref _ _)).trans (arr m c).symm

end DAct

end

end
-- ==== Proof.ProjIn.lean ====
module

public import proofs.«01_k».proof.Defs
public import proofs.«01_k».proof.Proof.Product
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit

/-! The joint input projection. -/

@[expose] public section

set_option maxRecDepth 16384

noncomputable section

namespace ProjIn

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel8Ideal Cert.Kernel8Ideal.Gen

variable (m : (ℓ : Loc nD τ sig) → Buf (Elt Ideal) ℓ) (c : Dev nD)

/-- The left operand, as the call is given it. -/
theorem left (i : S4096x2048.Idx) : V m c main_v0 i = m ((c : Thread nD τ).loc main_arg0) (i) := by
  unfold V
  after_results
  rfl

/-- The right operand, as the call is given it. -/
theorem right (i : S2048x6400.Idx) : V m c main_v1 i = m ((c : Thread nD τ).loc main_arg1) i := by
  unfold V
  after_results
  rfl

/-- The rows and the columns of a point's blocks are those of the block it leaves. -/
theorem places : ∀ t : Fin cfg0.N, win0_0.index t = ![win0_2.index t 0, 0] ∧ win0_1.index t = ![0, win0_2.index t 1] :=
  (by decide +kernel : ∀ t : Fin grid0.N, _)

/-- The product the kernel leaves, entry by entry. -/
def prod (i : S4096x6400.Idx) : EReal := Product.dot (fun k : Fin 2048 => m ((c : Thread nD τ).loc main_arg0) (ix2 (i 0) k)) (fun k => m ((c : Thread nD τ).loc main_arg1) (ix2 k (i 1)))

/-- A point's block is its part of the product. -/
theorem block (t : Fin cfg0.N) (y : S1024x1280.Idx) (i : S4096x6400.Idx) (h0 : (i 0).val = win0_2.index t 0 * 1024 + (y 0).val)
    (h1 : (i 1).val = win0_2.index t 1 * 1280 + (y 1).val) : k0_pay1 (iblk m c 0 t) (iblk m c 1 t) y = prod m c i := by
  have e := places t
  unfold k0_pay1
  refine (Product.plain _ rfl _ _ _ y).trans (Product.dot_congr (fun k => ?_) (fun k => ?_))
  · refine (congrFun (shapeCast_id _ _) _).trans (Eq.trans ?_ (left m c (ix2 (i 0) k)))
    blk_ext [iblk, e.1]
    exact h0.symm
  · refine (congrFun (shapeCast_id _ _) _).trans (Eq.trans ?_ (right m c (ix2 k (i 1))))
    blk_ext [iblk, e.2]
    exact h1.symm

/-- The array the kernel leaves. -/
theorem arr : (dats m 0 c).arrAt 2 cfg0.N = prod m c := by
  refine (dats m 0 c).arrAt_eq_of_covers 2 _ (by decide +kernel) fun t _ y => ?_
  blk_simp
  rw [after0_2]
  frame_out
  exact block m c t y _ (by blk_simp) (by blk_simp)

open Cert.Reference8Ideal.Read in
/-- The reference's array, entry by entry. -/
theorem ref (x0 : Vec Ideal S4096x2048 .f32) (x1 : Vec Ideal S2048x6400 .f32) (i : S4096x6400.Idx) :
    val_main_v0 (F := Ideal) x0 x1 i = Product.dot (fun k : Fin 2048 => x0 (ix2 (i 0) k)) (fun k => x1 (ix2 k (i 1))) :=
  (val_main_v0_apply x0 x1 i).trans (Product.dot_congr (fun _ => congrArg x0 (eq_ix2 _)) (fun _ => congrArg x1 (eq_ix2 _)))

/-- The kernel's result is the reference's. -/
theorem algebraic : Cert.algebraic_Kernel8Ideal_Reference8Ideal := by
  intro m g m' g' _ hagree
  refine ⟨_, Cert.Kernel8Ideal.Value.run_blocks (F := Ideal) m g, ?_⟩
  refine (θ_run Cert.Reference8Ideal.defs _ _).mono (fun _ h c => ⟨(h c).1.trans ?_, (h c).2⟩) (Cert.Reference8Ideal.Value.run (F := Ideal) m' g')
  rw [(hagree c).1, (hagree c).2]
  exact (funext (ref _ _)).trans (arr m c).symm

end ProjIn

end

end
-- ==== Proof.DwIn.lean ====
module

public import proofs.«01_k».proof.Defs
public import proofs.«01_k».proof.Proof.Product
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

/-! The gradient of the joint input projection's weight. -/

@[expose] public section

set_option maxRecDepth 16384

noncomputable section

namespace DwIn

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel9Ideal Cert.Kernel9Ideal.Gen

variable (m : (ℓ : Loc nD τ sig) → Buf (Elt Ideal) ℓ) (c : Dev nD)

/-- The left operand, as the call is given it. -/
theorem left (i : S2048x4096.Idx) : V m c main_v1 i = m ((c : Thread nD τ).loc main_arg0) (ix2 (i 1) (i 0)) := by
  unfold V
  after_results
  exact congrArg (m ((c : Thread nD τ).loc main_arg0)) (eq_ix2 _)

/-- The right operand, as the call is given it. -/
theorem right (i : S4096x6400.Idx) : V m c main_v2 i = m ((c : Thread nD τ).loc main_arg1) i := by
  unfold V
  after_results
  rfl

/-- The rows and the columns of a point's blocks are those of the block it leaves. -/
theorem places : ∀ t : Fin cfg0.N, win0_0.index t = ![win0_2.index t 0, 0] ∧ win0_1.index t = ![0, win0_2.index t 1] ∧ win0_3.index t = win0_2.index t :=
  (by decide +kernel : ∀ t : Fin grid0.N, _)

/-- The product the kernel leaves, entry by entry. -/
def prod (i : S2048x6400.Idx) : EReal := Product.dot (fun k : Fin 4096 => m ((c : Thread nD τ).loc main_arg0) (ix2 k (i 0))) (fun k => m ((c : Thread nD τ).loc main_arg1) (ix2 k (i 1)))

/-- A point's block is its part of the product. -/
theorem block (t : Fin cfg0.N) (y : S512x1280.Idx) (i : S2048x6400.Idx) (h0 : (i 0).val = win0_2.index t 0 * 512 + (y 0).val)
    (h1 : (i 1).val = win0_2.index t 1 * 1280 + (y 1).val) : k0_pay1 (iblk m c 0 t) (iblk m c 1 t) y = prod m c i := by
  have e := places t
  unfold k0_pay1
  refine (Product.plain _ rfl _ _ _ y).trans (Product.dot_congr (fun k => ?_) (fun k => ?_))
  · refine (congrFun (shapeCast_id _ _) _).trans (Eq.trans ?_ (left m c (ix2 (i 0) k)))
    blk_ext [iblk, e.1]
    exact h0.symm
  · refine (congrFun (shapeCast_id _ _) _).trans (Eq.trans ?_ (right m c (ix2 k (i 1))))
    blk_ext [iblk, e.2.1]
    exact h1.symm

/-- The array the kernel leaves. -/
theorem arr : (dats m 0 c).arrAt 2 cfg0.N = prod m c := by
  refine (dats m 0 c).arrAt_eq_of_covers 2 _ (by decide +kernel) fun t _ y => ?_
  blk_simp
  rw [after0_2]
  frame_out
  exact block m c t y _ (by blk_simp) (by blk_simp)

/-- Its copy in the short format. -/
theorem arr_short : (dats m 0 c).arrAt 3 cfg0.N = prod m c := by
  refine (dats m 0 c).arrAt_eq_of_covers 3 _ (by decide +kernel) fun t _ y => ?_
  have e := places t
  blk_simp
  rw [after0_3]
  frame_out
  exact block m c t y _ (by blk_simp [e.2.2]) (by blk_simp [e.2.2])

open Cert.Reference9Ideal.Read in
/-- The reference's array, entry by entry. -/
theorem ref (x0 : Vec Ideal S4096x2048 .f32) (x1 : Vec Ideal S4096x6400 .f32) (i : S2048x6400.Idx) :
    val_main_v3 (F := Ideal) x0 x1 i = Product.dot (fun k : Fin 4096 => x0 (ix2 k (i 0))) (fun k => x1 (ix2 k (i 1))) :=
  (val_main_v3_apply x0 x1 i).trans ((val_main_v2_apply x0 x1 _).trans ((Product.dot_comm _ _).trans
    (Product.dot_congr (fun _ => congrArg x0 (eq_ix2 _)) (fun _ => congrArg x1 (eq_ix2 _)))))

/-- The kernel's two results are the reference's. -/
theorem algebraic : Cert.algebraic_Kernel9Ideal_Reference9Ideal := by
  intro m g m' g' _ hagree
  refine ⟨_, _, Cert.Kernel9Ideal.Value.run_blocks (F := Ideal) m g, ?_⟩
  refine (θ_run Cert.Reference9Ideal.defs _ _).mono (fun _ h c => ⟨(h c).1.trans ?_, (h c).2.1.trans ?_, (h c).2.2⟩) (Cert.Reference9Ideal.Value.run (F := Ideal) m' g')
  · rw [(hagree c).1, (hagree c).2]
    exact (funext (ref _ _)).trans (arr m c).symm
  · rw [(hagree c).1, (hagree c).2]
    exact (funext (ref _ _)).trans (arr_short m c).symm

end DwIn

end

end
-- ==== Proof.DH1.lean ====
module

public import proofs.«01_k».proof.Defs
public import proofs.«01_k».proof.Proof.Product
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit

/-! The cotangent of the first norm's rows. -/

@[expose] public section

set_option maxRecDepth 16384

noncomputable section

namespace DH1

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel10Ideal Cert.Kernel10Ideal.Gen

variable (m : (ℓ : Loc nD τ sig) → Buf (Elt Ideal) ℓ) (c : Dev nD)

/-- The left operand, as the call is given it. -/
theorem left (i : S4096x6400.Idx) : V m c main_v0 i = m ((c : Thread nD τ).loc main_arg1) (i) := by
  unfold V
  after_results
  rfl

/-- The right operand, as the call is given it. -/
theorem right (i : S2048x6400.Idx) : V m c main_v1 i = m ((c : Thread nD τ).loc main_arg0) i := by
  unfold V
  after_results
  rfl

/-- The rows and the columns of a point's blocks are those of the block it leaves. -/
theorem places : ∀ t : Fin cfg0.N, win0_0.index t = ![win0_2.index t 0, 0] ∧ win0_1.index t = ![win0_2.index t 1, 0] :=
  (by decide +kernel : ∀ t : Fin grid0.N, _)

/-- The product the kernel leaves, entry by entry. -/
def prod (i : S4096x2048.Idx) : EReal := Product.dot (fun k : Fin 6400 => m ((c : Thread nD τ).loc main_arg1) (ix2 (i 0) k)) (fun k => m ((c : Thread nD τ).loc main_arg0) (ix2 (i 1) k))

/-- A point's block is its part of the product. -/
theorem block (t : Fin cfg0.N) (y : S512x1024.Idx) (i : S4096x2048.Idx) (h0 : (i 0).val = win0_2.index t 0 * 512 + (y 0).val)
    (h1 : (i 1).val = win0_2.index t 1 * 1024 + (y 1).val) : k0_pay1 (iblk m c 0 t) (iblk m c 1 t) y = prod m c i := by
  have e := places t
  unfold k0_pay1
  refine (Product.transposed _ rfl _ _ _ y).trans (Product.dot_congr (fun k => ?_) (fun k => ?_))
  · refine (congrFun (shapeCast_id _ _) _).trans (Eq.trans ?_ (left m c (ix2 (i 0) k)))
    blk_ext [iblk, e.1]
    exact h0.symm
  · refine (congrFun (shapeCast_id _ _) _).trans (Eq.trans ?_ (right m c (ix2 (i 1) k)))
    blk_ext [iblk, e.2]
    exact h1.symm

/-- The array the kernel leaves. -/
theorem arr : (dats m 0 c).arrAt 2 cfg0.N = prod m c := by
  refine (dats m 0 c).arrAt_eq_of_covers 2 _ (by decide +kernel) fun t _ y => ?_
  blk_simp
  rw [after0_2]
  frame_out
  exact block m c t y _ (by blk_simp) (by blk_simp)

open Cert.Reference10Ideal.Read in
/-- The reference's array, entry by entry. -/
theorem ref (x0 : Vec Ideal S2048x6400 .f32) (x1 : Vec Ideal S4096x6400 .f32) (i : S4096x2048.Idx) :
    val_main_v2 (F := Ideal) x0 x1 i = Product.dot (fun k : Fin 6400 => x1 (ix2 (i 0) k)) (fun k => x0 (ix2 (i 1) k)) :=
  (val_main_v2_apply x0 x1 i).trans (Product.dot_congr (fun _ => congrArg x1 (eq_ix2 _)) (fun _ => congrArg x0 (eq_ix2 _)))

/-- The kernel's result is the reference's. -/
theorem algebraic : Cert.algebraic_Kernel10Ideal_Reference10Ideal := by
  intro m g m' g' _ hagree
  refine ⟨_, Cert.Kernel10Ideal.Value.run_blocks (F := Ideal) m g, ?_⟩
  refine (θ_run Cert.Reference10Ideal.defs _ _).mono (fun _ h c => ⟨(h c).1.trans ?_, (h c).2⟩) (Cert.Reference10Ideal.Value.run (F := Ideal) m' g')
  rw [(hagree c).1, (hagree c).2]
  exact (funext (ref _ _)).trans (arr m c).symm

end DH1

end

end
-- ==== Proof.Adam.lean ====
module

public import Idealize.ShloMosaic.Lib.ValueIdx
public import Idealize.ShloMosaic.Lib.Pointwise
public import Idealize.ShloMosaic.Lib.Pipeline.ValueKit

/-! One step of the optimiser, for one weight: the two moments, and the change of the weight. -/

@[expose] public section

noncomputable section

namespace Adam

open Idealize.ShloMosaic

/-- The number that a float word stands for. -/
abbrev lit (w : BitVec 32) : EReal := FloatOps.ofBits (F := Ideal) .f32 w

/-- The new first moment, of the old one and the gradient. -/
def first (m g : EReal) : EReal := lit 0x3F666666#32 * m + lit 0x3DCCCCCD#32 * g

/-- The new second moment. -/
def second (v g : EReal) : EReal := lit 0x3F7FBE77#32 * v + lit 0x3A83126F#32 * (g * g)

/-- The change of the weight. -/
def change (w g m v : EReal) : EReal :=
  lit 0xBA83126F#32 * (FloatOps.divf (F := Ideal) (φ := .f32) (FloatOps.divf (F := Ideal) (φ := .f32) (first m g) (lit 0x3F26BD02#32))
      (FloatOps.sqrt (F := Ideal) (φ := .f32) (FloatOps.divf (F := Ideal) (φ := .f32) (second v g) (lit 0x3C231ACC#32)) + lit 0x322BCC77#32)
    + lit 0x3C23D70A#32 * w)

/-- The gradient: the sum over the eight devices. -/
def total (p : Fin 8 → EReal) : EReal := ∑ k, p k

/-- Eight terms added one after the other are their sum. -/
theorem total_eq (p : Fin 8 → EReal) : p 0 + p 1 + p 2 + p 3 + p 4 + p 5 + p 6 + p 7 = total p :=
  (Fin.sum_univ_eight p).symm

end Adam

end

end
-- ==== Proof.Packed.lean ====
module
public import proofs.«01_k».proof.Defs
public import proofs.«01_k».proof.Proof.Adam
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
@[expose] public section
set_option maxRecDepth 16384
noncomputable section
namespace Packed
open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel12Ideal Cert.Kernel12Ideal.Gen

variable (m : (ℓ : Loc nD τ sig) → Buf (Elt Ideal) ℓ) (c : Dev nD)

/-- The gradient, the new moments and the change of the weight, entry by entry, of what the call is given. -/
def grad (i : S2312x128.Idx) : EReal := Adam.total fun k => m ((c : Thread nD τ).loc main_arg0) (ix3 k (i 0) (i 1))

/-- The new first moments. -/
def first (i : S2312x128.Idx) : EReal := Adam.first (m ((c : Thread nD τ).loc main_arg2) i) (grad m c i)

/-- The new second moments. -/
def second (i : S2312x128.Idx) : EReal := Adam.second (m ((c : Thread nD τ).loc main_arg3) i) (grad m c i)

/-- The changes of the weights. -/
def change (i : S2312x128.Idx) : EReal :=
  Adam.change (m ((c : Thread nD τ).loc main_arg1) i) (grad m c i) (m ((c : Thread nD τ).loc main_arg2) i) (m ((c : Thread nD τ).loc main_arg3) i)

/-- All windows walk down the rows together. -/
theorem places : ∀ t : Fin cfg0.N, win0_0.index t = ![0, win0_4.index t 0, 0] ∧ win0_4.index t 1 = 0
    ∧ (win0_1.index t = win0_4.index t ∧ win0_2.index t = win0_4.index t ∧ win0_3.index t = win0_4.index t)
    ∧ win0_5.index t = win0_4.index t ∧ win0_6.index t = win0_4.index t ∧ win0_7.index t = win0_4.index t :=
  (by decide +kernel : ∀ t : Fin grid0.N, _)

/-- The sum that a point leaves. -/
theorem block_grad (t : Fin cfg0.N) (y : S136x128.Idx) (i : S2312x128.Idx) (h0 : (i 0).val = win0_4.index t 0 * 136 + (y 0).val)
    (h1 : (i 1).val = (y 1).val) : k0_pay2 (iblk m c 0 t) y = grad m c i := by
  have e := places t
  refine (Cert.Kernel12Ideal.Value.piece4_0 _ y).trans (Eq.trans ?_ (Adam.total_eq _))
  have key : ∀ (k : Fin 8) (j : S8x136x128.Idx), (j 0).val = k.val → (j 1).val = (y 0).val → (j 2).val = (y 1).val →
      iblk m c 0 t j = m ((c : Thread nD τ).loc main_arg0) (ix3 k (i 0) (i 1)) := by
    intro k j j0 j1 j2
    blk_ext [iblk, e.1]
    · rw [j1]; exact h0.symm
    · rw [j2]; exact h1.symm
  have y0 : ((r0_1.idx y) 0).val = (y 0).val := by simp [r0_1, Rect.unit]
  have y1 : ((r0_1.idx y) 1).val = (y 1).val := by simp [r0_1, Rect.unit]
  exact congrArg₂ (· + ·) (congrArg₂ (· + ·) (congrArg₂ (· + ·) (congrArg₂ (· + ·) (congrArg₂ (· + ·) (congrArg₂ (· + ·) (congrArg₂ (· + ·)
    (key 0 _ rfl y0 y1) (key 1 _ rfl y0 y1)) (key 2 _ rfl y0 y1)) (key 3 _ rfl y0 y1)) (key 4 _ rfl y0 y1)) (key 5 _ rfl y0 y1))
    (key 6 _ rfl y0 y1)) (key 7 _ rfl y0 y1)

/-- The part of the weights that a point reads. -/
theorem at_w (t : Fin cfg0.N) (y : S136x128.Idx) (i : S2312x128.Idx) (h0 : (i 0).val = win0_4.index t 0 * 136 + (y 0).val)
    (h1 : (i 1).val = (y 1).val) : iblk m c 1 t y = m ((c : Thread nD τ).loc main_arg1) i := by
  have e := (places t).2.2.1.1
  have e1 := (places t).2.1
  blk_ext [iblk, e, e1]

/-- The part of the first moments that a point reads. -/
theorem at_m (t : Fin cfg0.N) (y : S136x128.Idx) (i : S2312x128.Idx) (h0 : (i 0).val = win0_4.index t 0 * 136 + (y 0).val)
    (h1 : (i 1).val = (y 1).val) : iblk m c 2 t y = m ((c : Thread nD τ).loc main_arg2) i := by
  have e := (places t).2.2.1.2.1
  have e1 := (places t).2.1
  blk_ext [iblk, e, e1]

/-- The part of the second moments that a point reads. -/
theorem at_v (t : Fin cfg0.N) (y : S136x128.Idx) (i : S2312x128.Idx) (h0 : (i 0).val = win0_4.index t 0 * 136 + (y 0).val)
    (h1 : (i 1).val = (y 1).val) : iblk m c 3 t y = m ((c : Thread nD τ).loc main_arg3) i := by
  have e := (places t).2.2.1.2.2
  have e1 := (places t).2.1
  blk_ext [iblk, e, e1]

/-- A block of first moments, entry by entry. -/
theorem pay_first (p : Vec Ideal S8x136x128 .f32) (mo : Vec Ideal S136x128 .f32) (y : S136x128.Idx) :
    k0_pay3 p mo y = Adam.first (mo y) (k0_pay2 p y) := rfl

/-- A block of second moments. -/
theorem pay_second (p : Vec Ideal S8x136x128 .f32) (v : Vec Ideal S136x128 .f32) (y : S136x128.Idx) :
    k0_pay4 p v y = Adam.second (v y) (k0_pay2 p y) := rfl

/-- A block of changes. -/
theorem pay_change (p : Vec Ideal S8x136x128 .f32) (w mo v : Vec Ideal S136x128 .f32) (y : S136x128.Idx) :
    k0_pay1 w (k0_pay5 p mo) (k0_pay6 p v) (Scalar.ofBits .f32 0x322BCC77#32) y = Adam.change (w y) (k0_pay2 p y) (mo y) (v y) := rfl

/-- The changes that a point leaves. -/
theorem block_change (t : Fin cfg0.N) (y : S136x128.Idx) (i : S2312x128.Idx) (h0 : (i 0).val = win0_4.index t 0 * 136 + (y 0).val)
    (h1 : (i 1).val = (y 1).val) :
    k0_pay1 (iblk m c 1 t) (k0_pay5 (iblk m c 0 t) (iblk m c 2 t)) (k0_pay6 (iblk m c 0 t) (iblk m c 3 t)) (Scalar.ofBits .f32 0x322BCC77#32) y
      = change m c i := by
  refine (pay_change _ _ _ _ y).trans ?_
  rw [block_grad m c t y i h0 h1, at_w m c t y i h0 h1, at_m m c t y i h0 h1, at_v m c t y i h0 h1]
  rfl

/-- The first moments that a point leaves. -/
theorem block_first (t : Fin cfg0.N) (y : S136x128.Idx) (i : S2312x128.Idx) (h0 : (i 0).val = win0_4.index t 0 * 136 + (y 0).val)
    (h1 : (i 1).val = (y 1).val) : k0_pay3 (iblk m c 0 t) (iblk m c 2 t) y = first m c i := by
  refine (pay_first _ _ y).trans ?_
  rw [block_grad m c t y i h0 h1, at_m m c t y i h0 h1]
  rfl

/-- The second moments that a point leaves. -/
theorem block_second (t : Fin cfg0.N) (y : S136x128.Idx) (i : S2312x128.Idx) (h0 : (i 0).val = win0_4.index t 0 * 136 + (y 0).val)
    (h1 : (i 1).val = (y 1).val) : k0_pay4 (iblk m c 0 t) (iblk m c 3 t) y = second m c i := by
  refine (pay_second _ _ y).trans ?_
  rw [block_grad m c t y i h0 h1, at_v m c t y i h0 h1]
  rfl

/-- The sums the kernel leaves. -/
theorem arr_grad : (dats m 0 c).arrAt 4 cfg0.N = grad m c := by
  refine (dats m 0 c).arrAt_eq_of_covers 4 _ (by decide +kernel) fun t _ y => ?_
  blk_simp
  rw [after0_4]
  frame_out
  exact block_grad m c t y _ (by blk_simp) (by blk_simp [(places t).2.1])

/-- The changes the kernel leaves. -/
theorem arr_change : (dats m 0 c).arrAt 5 cfg0.N = change m c := by
  refine (dats m 0 c).arrAt_eq_of_covers 5 _ (by decide +kernel) fun t _ y => ?_
  blk_simp
  rw [after0_5]
  frame_out
  exact block_change m c t y _ (by blk_simp [(places t).2.2.2.1]) (by blk_simp [(places t).2.2.2.1, (places t).2.1])

/-- The first moments the kernel leaves. -/
theorem arr_first : (dats m 0 c).arrAt 6 cfg0.N = first m c := by
  refine (dats m 0 c).arrAt_eq_of_covers 6 _ (by decide +kernel) fun t _ y => ?_
  blk_simp
  rw [after0_6]
  frame_out
  exact block_first m c t y _ (by blk_simp [(places t).2.2.2.2.1]) (by blk_simp [(places t).2.2.2.2.1, (places t).2.1])

/-- The second moments the kernel leaves. -/
theorem arr_second : (dats m 0 c).arrAt 7 cfg0.N = second m c := by
  refine (dats m 0 c).arrAt_eq_of_covers 7 _ (by decide +kernel) fun t _ y => ?_
  blk_simp
  rw [after0_7]
  frame_out
  exact block_second m c t y _ (by blk_simp [(places t).2.2.2.2.2]) (by blk_simp [(places t).2.2.2.2.2, (places t).2.1])

open Cert.Reference12Ideal.Read in
/-- The reference's sum, entry by entry. -/
theorem ref_grad (x0 : Vec Ideal S8x2312x128 .f32) (i : S2312x128.Idx) : val_main_v0 (F := Ideal) x0 i = Adam.total fun k => x0 (ix3 k (i 0) (i 1)) := by
  rw [val_main_v0_apply]
  rw [show val_main_cst (F := Ideal) (Shape.Idx.first Cert.Reference12Ideal.Gen.h_S_) = 0 from Ideal.ofBits_zero_f32, zero_add]
  exact Finset.sum_congr rfl fun _ _ => congrArg x0 (eq_ix3 _)

open Cert.Reference12Ideal.Read in
/-- The reference's first moments. -/
theorem ref_first (x0 : Vec Ideal S8x2312x128 .f32) (x2 : Vec Ideal S2312x128 .f32) (i : S2312x128.Idx) :
    val_main_v5 (F := Ideal) x0 x2 i = Adam.first (x2 i) (Adam.total fun k => x0 (ix3 k (i 0) (i 1))) :=
  congrArg (Adam.first (x2 i)) (ref_grad x0 i)

open Cert.Reference12Ideal.Read in
/-- The reference's second moments. -/
theorem ref_second (x0 : Vec Ideal S8x2312x128 .f32) (x3 : Vec Ideal S2312x128 .f32) (i : S2312x128.Idx) :
    val_main_v11 (F := Ideal) x0 x3 i = Adam.second (x3 i) (Adam.total fun k => x0 (ix3 k (i 0) (i 1))) :=
  congrArg (Adam.second (x3 i)) (ref_grad x0 i)

open Cert.Reference12Ideal.Read in
/-- The reference's changes. -/
theorem ref_change (x0 : Vec Ideal S8x2312x128 .f32) (x1 x2 x3 : Vec Ideal S2312x128 .f32) (i : S2312x128.Idx) :
    val_main_v24 (F := Ideal) x0 x1 x2 x3 i = Adam.change (x1 i) (Adam.total fun k => x0 (ix3 k (i 0) (i 1))) (x2 i) (x3 i) :=
  congrArg (fun g => Adam.change (x1 i) g (x2 i) (x3 i)) (ref_grad x0 i)

/-- The kernel's results are the reference's. -/
theorem algebraic : Cert.algebraic_Kernel12Ideal_Reference12Ideal := by
  intro m g m' g' _ hagree
  refine ⟨_, _, _, _, Cert.Kernel12Ideal.Value.run_blocks (F := Ideal) m g, ?_⟩
  refine (θ_run Cert.Reference12Ideal.defs _ _).mono
    (fun _ h c => ⟨(h c).1.trans ?_, (h c).2.1.trans ?_, (h c).2.2.1.trans ?_, (h c).2.2.2.1.trans ?_, (h c).2.2.2.2⟩)
    (Cert.Reference12Ideal.Value.run (F := Ideal) m' g')
  · rw [(hagree c).1]
    exact (funext (ref_grad _)).trans (arr_grad m c).symm
  · rw [(hagree c).1, (hagree c).2.1, (hagree c).2.2.1, (hagree c).2.2.2]
    exact (funext (ref_change _ _ _ _)).trans (arr_change m c).symm
  · rw [(hagree c).1, (hagree c).2.2.1]
    exact (funext (ref_first _ _)).trans (arr_first m c).symm
  · rw [(hagree c).1, (hagree c).2.2.2]
    exact (funext (ref_second _ _)).trans (arr_second m c).symm

end Packed

end

end
-- ==== Proof.AdaW.lean ====
module
public import proofs.«01_k».proof.Defs
public import proofs.«01_k».proof.Proof.Adam
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
@[expose] public section
set_option maxRecDepth 16384
noncomputable section
namespace AdaW
open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel13Ideal Cert.Kernel13Ideal.Gen

variable (m : (ℓ : Loc nD τ sig) → Buf (Elt Ideal) ℓ) (c : Dev nD)

/-- The gradient, as the call is given it. -/
theorem given_g (i : S1x2048x1536.Idx) : V m c main_v0 i = m ((c : Thread nD τ).loc main_arg0) (ix2 (i 1) (i 2)) := by
  unfold V
  after_results
  exact congrArg (m ((c : Thread nD τ).loc main_arg0)) (eq_ix2 _)

/-- The weights, as the call is given them. -/
theorem given_w (i : S2048x1536.Idx) : V m c main_arg1 i = m ((c : Thread nD τ).loc main_arg1) i := by
  unfold V
  after_results

/-- The first moments, as the call is given them. -/
theorem given_m (i : S2048x1536.Idx) : V m c main_arg2 i = m ((c : Thread nD τ).loc main_arg2) i := by
  unfold V
  after_results

/-- The second moments, as the call is given them. -/
theorem given_v (i : S2048x1536.Idx) : V m c main_arg3 i = m ((c : Thread nD τ).loc main_arg3) i := by
  unfold V
  after_results

/-- The gradient, entry by entry. -/
def grad (i : S2048x1536.Idx) : EReal := m ((c : Thread nD τ).loc main_arg0) i

/-- The new first moments. -/
def first (i : S2048x1536.Idx) : EReal := Adam.first (m ((c : Thread nD τ).loc main_arg2) i) (grad m c i)

/-- The new second moments. -/
def second (i : S2048x1536.Idx) : EReal := Adam.second (m ((c : Thread nD τ).loc main_arg3) i) (grad m c i)

/-- The changes of the weights. -/
def change (i : S2048x1536.Idx) : EReal :=
  Adam.change (m ((c : Thread nD τ).loc main_arg1) i) (grad m c i) (m ((c : Thread nD τ).loc main_arg2) i) (m ((c : Thread nD τ).loc main_arg3) i)

/-- All windows walk down the rows together. -/
theorem places : ∀ t : Fin cfg0.N, win0_0.index t = ![0, win0_4.index t 0, 0] ∧ win0_4.index t 1 = 0
    ∧ (win0_1.index t = win0_4.index t ∧ win0_2.index t = win0_4.index t ∧ win0_3.index t = win0_4.index t)
    ∧ win0_5.index t = win0_4.index t ∧ win0_6.index t = win0_4.index t ∧ win0_7.index t = win0_4.index t :=
  (by decide +kernel : ∀ t : Fin grid0.N, _)

/-- The part of the gradient that a point leaves. -/
theorem block_grad (t : Fin cfg0.N) (y : S128x1536.Idx) (i : S2048x1536.Idx) (h0 : (i 0).val = win0_4.index t 0 * 128 + (y 0).val)
    (h1 : (i 1).val = (y 1).val) : k0_pay1 (iblk m c 0 t) y = grad m c i := by
  have e := places t
  have given : V m c main_v0 (ix3 0 (i 0) (i 1)) = grad m c i := (given_g m c _).trans (congrArg (m ((c : Thread nD τ).loc main_arg0)) (eq_ix2 i).symm)
  refine (Cert.Kernel13Ideal.Value.piece4_0 _ y).trans (Eq.trans ?_ given)
  have y0 : ((r0_1.idx y) 0).val = (y 0).val := by simp [r0_1, Rect.unit]
  have y1 : ((r0_1.idx y) 1).val = (y 1).val := by simp [r0_1, Rect.unit]
  show iblk m c 0 t (Cert.Kernel13Ideal.Value.ix4_0 (r0_1.idx y)) = _
  blk_ext [iblk, e.1]
  · rw [y0]; exact h0.symm
  · rw [y1]; exact h1.symm

/-- The part of the weights that a point reads. -/
theorem at_w (t : Fin cfg0.N) (y : S128x1536.Idx) (i : S2048x1536.Idx) (h0 : (i 0).val = win0_4.index t 0 * 128 + (y 0).val)
    (h1 : (i 1).val = (y 1).val) : iblk m c 1 t y = m ((c : Thread nD τ).loc main_arg1) i := by
  have e := (places t).2.2.1.1
  have e1 := (places t).2.1
  refine Eq.trans ?_ (given_w m c i)
  blk_ext [iblk, e, e1]

/-- The part of the first moments that a point reads. -/
theorem at_m (t : Fin cfg0.N) (y : S128x1536.Idx) (i : S2048x1536.Idx) (h0 : (i 0).val = win0_4.index t 0 * 128 + (y 0).val)
    (h1 : (i 1).val = (y 1).val) : iblk m c 2 t y = m ((c : Thread nD τ).loc main_arg2) i := by
  have e := (places t).2.2.1.2.1
  have e1 := (places t).2.1
  refine Eq.trans ?_ (given_m m c i)
  blk_ext [iblk, e, e1]

/-- The part of the second moments that a point reads. -/
theorem at_v (t : Fin cfg0.N) (y : S128x1536.Idx) (i : S2048x1536.Idx) (h0 : (i 0).val = win0_4.index t 0 * 128 + (y 0).val)
    (h1 : (i 1).val = (y 1).val) : iblk m c 3 t y = m ((c : Thread nD τ).loc main_arg3) i := by
  have e := (places t).2.2.1.2.2
  have e1 := (places t).2.1
  refine Eq.trans ?_ (given_v m c i)
  blk_ext [iblk, e, e1]

/-- A block of first moments, entry by entry. -/
theorem pay_first (p : Vec Ideal S1x128x1536 .f32) (mo : Vec Ideal S128x1536 .f32) (y : S128x1536.Idx) :
    k0_pay2 p mo y = Adam.first (mo y) (k0_pay1 p y) := rfl

/-- A block of second moments. -/
theorem pay_second (p : Vec Ideal S1x128x1536 .f32) (v : Vec Ideal S128x1536 .f32) (y : S128x1536.Idx) :
    k0_pay3 p v y = Adam.second (v y) (k0_pay1 p y) := rfl

/-- A block of changes. -/
theorem pay_change (p : Vec Ideal S1x128x1536 .f32) (w mo v : Vec Ideal S128x1536 .f32) (y : S128x1536.Idx) :
    k0_pay4 p w mo v y = Adam.change (w y) (k0_pay1 p y) (mo y) (v y) := rfl

/-- The changes that a point leaves. -/
theorem block_change (t : Fin cfg0.N) (y : S128x1536.Idx) (i : S2048x1536.Idx) (h0 : (i 0).val = win0_4.index t 0 * 128 + (y 0).val)
    (h1 : (i 1).val = (y 1).val) :
    k0_pay4 (iblk m c 0 t) (iblk m c 1 t) (iblk m c 2 t) (iblk m c 3 t) y = change m c i := by
  refine (pay_change _ _ _ _ y).trans ?_
  rw [block_grad m c t y i h0 h1, at_w m c t y i h0 h1, at_m m c t y i h0 h1, at_v m c t y i h0 h1]
  rfl

/-- The first moments that a point leaves. -/
theorem block_first (t : Fin cfg0.N) (y : S128x1536.Idx) (i : S2048x1536.Idx) (h0 : (i 0).val = win0_4.index t 0 * 128 + (y 0).val)
    (h1 : (i 1).val = (y 1).val) : k0_pay2 (iblk m c 0 t) (iblk m c 2 t) y = first m c i := by
  refine (pay_first _ _ y).trans ?_
  rw [block_grad m c t y i h0 h1, at_m m c t y i h0 h1]
  rfl

/-- The second moments that a point leaves. -/
theorem block_second (t : Fin cfg0.N) (y : S128x1536.Idx) (i : S2048x1536.Idx) (h0 : (i 0).val = win0_4.index t 0 * 128 + (y 0).val)
    (h1 : (i 1).val = (y 1).val) : k0_pay3 (iblk m c 0 t) (iblk m c 3 t) y = second m c i := by
  refine (pay_second _ _ y).trans ?_
  rw [block_grad m c t y i h0 h1, at_v m c t y i h0 h1]
  rfl

/-- The gradient the kernel leaves. -/
theorem arr_grad : (dats m 0 c).arrAt 4 cfg0.N = grad m c := by
  refine (dats m 0 c).arrAt_eq_of_covers 4 _ (by decide +kernel) fun t _ y => ?_
  blk_simp
  rw [after0_4]
  frame_out
  exact block_grad m c t y _ (by blk_simp) (by blk_simp [(places t).2.1])

/-- The changes the kernel leaves. -/
theorem arr_change : (dats m 0 c).arrAt 5 cfg0.N = change m c := by
  refine (dats m 0 c).arrAt_eq_of_covers 5 _ (by decide +kernel) fun t _ y => ?_
  blk_simp
  rw [after0_5]
  frame_out
  exact block_change m c t y _ (by blk_simp [(places t).2.2.2.1]) (by blk_simp [(places t).2.2.2.1, (places t).2.1])

/-- The first moments the kernel leaves. -/
theorem arr_first : (dats m 0 c).arrAt 6 cfg0.N = first m c := by
  refine (dats m 0 c).arrAt_eq_of_covers 6 _ (by decide +kernel) fun t _ y => ?_
  blk_simp
  rw [after0_6]
  frame_out
  exact block_first m c t y _ (by blk_simp [(places t).2.2.2.2.1]) (by blk_simp [(places t).2.2.2.2.1, (places t).2.1])

/-- The second moments the kernel leaves. -/
theorem arr_second : (dats m 0 c).arrAt 7 cfg0.N = second m c := by
  refine (dats m 0 c).arrAt_eq_of_covers 7 _ (by decide +kernel) fun t _ y => ?_
  blk_simp
  rw [after0_7]
  frame_out
  exact block_second m c t y _ (by blk_simp [(places t).2.2.2.2.2]) (by blk_simp [(places t).2.2.2.2.2, (places t).2.1])

open Cert.Reference13Ideal.Read in
/-- The reference's first moments. -/
theorem ref_first (x0 x2 : Vec Ideal S2048x1536 .f32) (i : S2048x1536.Idx) : val_main_v4 (F := Ideal) x0 x2 i = Adam.first (x2 i) (x0 i) := rfl

open Cert.Reference13Ideal.Read in
/-- The reference's second moments. -/
theorem ref_second (x0 x3 : Vec Ideal S2048x1536 .f32) (i : S2048x1536.Idx) : val_main_v10 (F := Ideal) x0 x3 i = Adam.second (x3 i) (x0 i) := rfl

open Cert.Reference13Ideal.Read in
/-- The reference's changes. -/
theorem ref_change (x0 x1 x2 x3 : Vec Ideal S2048x1536 .f32) (i : S2048x1536.Idx) :
    val_main_v23 (F := Ideal) x0 x1 x2 x3 i = Adam.change (x1 i) (x0 i) (x2 i) (x3 i) := rfl

/-- The kernel's results are the reference's. -/
theorem algebraic : Cert.algebraic_Kernel13Ideal_Reference13Ideal := by
  intro m g m' g' _ hagree
  refine ⟨_, _, _, _, Cert.Kernel13Ideal.Value.run_blocks (F := Ideal) m g, ?_⟩
  refine (θ_run Cert.Reference13Ideal.defs _ _).mono
    (fun _ h c => ⟨(h c).1.trans ?_, (h c).2.1.trans ?_, (h c).2.2.1.trans ?_, (h c).2.2.2.1.trans ?_, (h c).2.2.2.2⟩)
    (Cert.Reference13Ideal.Value.run (F := Ideal) m' g')
  · rw [(hagree c).1]
    exact (arr_grad m c).symm
  · rw [(hagree c).1, (hagree c).2.1, (hagree c).2.2.1, (hagree c).2.2.2]
    exact (funext (ref_change _ _ _ _)).trans (arr_change m c).symm
  · rw [(hagree c).1, (hagree c).2.2.1]
    exact (funext (ref_first _ _)).trans (arr_first m c).symm
  · rw [(hagree c).1, (hagree c).2.2.2]
    exact (funext (ref_second _ _)).trans (arr_second m c).symm

end AdaW

end

end
-- ==== Proof.Shard.lean ====
module

public import proofs.«01_k».proof.Proof.Adam
public import Idealize.ShloMosaic.Lib.ValueIdx
public import Idealize.ShloMosaic.Lib.Pipeline.ValueKit

/-! What the optimiser's calls of the weights that are split over the devices have in common. -/

@[expose] public section

noncomputable section

namespace Shard

open Idealize.ShloMosaic hiding ix0 ix1 ix2 ix3 ix4 ix5 ix6 eq_ix1 eq_ix2 eq_ix3 eq_ix4 eq_ix5
open Idealize.ShloMosaic.ValueIdx

variable {r n : ℕ}

/-- Two places of a matrix are the same if their rows and columns are. -/
theorem place2 (i j : (⟨2, ![r, n]⟩ : Shape).Idx) (h0 : (i 0).val = (j 0).val) (h1 : (i 1).val = (j 1).val) : i = j :=
  funext fun a => match a with
    | 0 => Fin.ext h0
    | 1 => Fin.ext h1

/-- The same of a stack of matrices. -/
theorem place3 {p : ℕ} (i j : (⟨3, ![p, r, n]⟩ : Shape).Idx) (h0 : (i 0).val = (j 0).val) (h1 : (i 1).val = (j 1).val)
    (h2 : (i 2).val = (j 2).val) : i = j :=
  funext fun a => match a with
    | 0 => Fin.ext h0
    | 1 => Fin.ext h1
    | 2 => Fin.ext h2

/-- The one matrix of a stack of one. -/
theorem only {α : Type} (v : (⟨3, ![1, r, n]⟩ : Shape).Idx → α) (h) (y : (⟨2, ![r, n]⟩ : Shape).Idx) :
    shapeCast ⟨2, ![r, n]⟩ v h y = v (ix3 (0 : Fin 1) (y 0) (y 1)) :=
  (shapeCast_dropUnit_apply (n := 2) ![r, n] v h y).trans (congrArg v (place3 _ _ rfl rfl rfl))

/-- One matrix of a stack, taken out of it. -/
theorem taken {φ : EltTy} (v : Vec Ideal ⟨3, ![8, r, n]⟩ φ) (k : Fin 8) (b) (h) (y : (⟨2, ![r, n]⟩ : Shape).Idx) :
    shapeCast ⟨2, ![r, n]⟩ (View.ld v (Rect.unit (s := ⟨3, ![8, r, n]⟩) ![k.val, 0, 0] ![1, r, n] b)) h y = v (ix3 k (y 0) (y 1)) := by
  refine (only _ h y).trans (congrArg v (place3 _ _ ?_ ?_ ?_))
  · show k.val + 1 * 0 = k.val
    omega
  · show 0 + 1 * (y 0).val = (y 0).val
    omega
  · show 0 + 1 * (y 1).val = (y 1).val
    omega

/-- Eight matrices added one after the other, the first from the device itself and the others from the stack. -/
def sum (v : Vec Ideal ⟨3, ![8, r, n]⟩ .bf16) (o : Vec Ideal ⟨3, ![1, r, n]⟩ .f32) (h : (⟨3, ![1, r, n]⟩ : Shape).ShapeCasts ⟨2, ![r, n]⟩)
    (b : ∀ (k : Fin 8) (a : Fin 3), (![k.val, 0, 0] : Fin 3 → ℕ) a + (![1, r, n] : Fin 3 → ℕ) a ≤ (![8, r, n] : Fin 3 → ℕ) a)
    (y : (⟨2, ![r, n]⟩ : Shape).Idx) : EReal :=
  (shapeCast ⟨2, ![r, n]⟩ o h y : EReal)
    + shapeCast ⟨2, ![r, n]⟩ (View.ld v (Rect.unit (s := ⟨3, ![8, r, n]⟩) ![1, 0, 0] ![1, r, n] (b 1))) h y
    + shapeCast ⟨2, ![r, n]⟩ (View.ld v (Rect.unit (s := ⟨3, ![8, r, n]⟩) ![2, 0, 0] ![1, r, n] (b 2))) h y
    + shapeCast ⟨2, ![r, n]⟩ (View.ld v (Rect.unit (s := ⟨3, ![8, r, n]⟩) ![3, 0, 0] ![1, r, n] (b 3))) h y
    + shapeCast ⟨2, ![r, n]⟩ (View.ld v (Rect.unit (s := ⟨3, ![8, r, n]⟩) ![4, 0, 0] ![1, r, n] (b 4))) h y
    + shapeCast ⟨2, ![r, n]⟩ (View.ld v (Rect.unit (s := ⟨3, ![8, r, n]⟩) ![5, 0, 0] ![1, r, n] (b 5))) h y
    + shapeCast ⟨2, ![r, n]⟩ (View.ld v (Rect.unit (s := ⟨3, ![8, r, n]⟩) ![6, 0, 0] ![1, r, n] (b 6))) h y
    + shapeCast ⟨2, ![r, n]⟩ (View.ld v (Rect.unit (s := ⟨3, ![8, r, n]⟩) ![7, 0, 0] ![1, r, n] (b 7))) h y

/-- They are the sum of the parts. -/
theorem sum_eq (v : Vec Ideal ⟨3, ![8, r, n]⟩ .bf16) (o : Vec Ideal ⟨3, ![1, r, n]⟩ .f32) (h) (b) (y : (⟨2, ![r, n]⟩ : Shape).Idx)
    (p : Fin 8 → EReal) (h0 : o (ix3 (0 : Fin 1) (y 0) (y 1)) = p 0) (hp : ∀ k : Fin 8, v (ix3 k (y 0) (y 1)) = p k) :
    sum v o h b y = Adam.total p :=
  have key : ∀ k : Fin 8, shapeCast ⟨2, ![r, n]⟩ (View.ld v (Rect.unit (s := ⟨3, ![8, r, n]⟩) ![k.val, 0, 0] ![1, r, n] (b k))) h y = p k :=
    fun k => (taken v k (b k) h y).trans (hp k)
  Eq.trans
    (congrArg₂ (· + ·) (congrArg₂ (· + ·) (congrArg₂ (· + ·) (congrArg₂ (· + ·) (congrArg₂ (· + ·) (congrArg₂ (· + ·) (congrArg₂ (· + ·)
      ((only o h y).trans h0) (key 1)) (key 2)) (key 3)) (key 4)) (key 5)) (key 6)) (key 7))
    (Adam.total_eq p)

/-! ## The results, of whole arrays -/

/-- The gradient: the sum of the devices' parts. -/
def grad (p : (⟨3, ![8, r, n]⟩ : Shape).Idx → EReal) (i : (⟨2, ![r, n]⟩ : Shape).Idx) : EReal := Adam.total fun k => p (ix3 k (i 0) (i 1))

/-- The new first moments. -/
def first (p : (⟨3, ![8, r, n]⟩ : Shape).Idx → EReal) (m : (⟨2, ![r, n]⟩ : Shape).Idx → EReal) (i : (⟨2, ![r, n]⟩ : Shape).Idx) : EReal :=
  Adam.first (m i) (grad p i)

/-- The new second moments. -/
def second (p : (⟨3, ![8, r, n]⟩ : Shape).Idx → EReal) (v : (⟨2, ![r, n]⟩ : Shape).Idx → EReal) (i : (⟨2, ![r, n]⟩ : Shape).Idx) : EReal :=
  Adam.second (v i) (grad p i)

/-- The changes of the weights. -/
def change (p : (⟨3, ![8, r, n]⟩ : Shape).Idx → EReal) (w m v : (⟨2, ![r, n]⟩ : Shape).Idx → EReal) (i : (⟨2, ![r, n]⟩ : Shape).Idx) : EReal :=
  Adam.change (w i) (grad p i) (m i) (v i)

/-- A block's sum, changes and moments are those of the whole arrays at a place, if what it reads is. -/
theorem block {q c : ℕ} (v : Vec Ideal ⟨3, ![8, q, c]⟩ .bf16) (o : Vec Ideal ⟨3, ![1, q, c]⟩ .f32) (h) (b) (x2 x3 x4 : (⟨2, ![q, c]⟩ : Shape).Idx → EReal)
    (y : (⟨2, ![q, c]⟩ : Shape).Idx) (p : (⟨3, ![8, r, n]⟩ : Shape).Idx → EReal) (w m s : (⟨2, ![r, n]⟩ : Shape).Idx → EReal) (i : (⟨2, ![r, n]⟩ : Shape).Idx)
    (h0 : o (ix3 (0 : Fin 1) (y 0) (y 1)) = p (ix3 0 (i 0) (i 1))) (hp : ∀ k : Fin 8, v (ix3 k (y 0) (y 1)) = p (ix3 k (i 0) (i 1)))
    (h2 : x2 y = w i) (h3 : x3 y = m i) (h4 : x4 y = s i) :
    sum v o h b y = grad p i ∧ Adam.change (x2 y) (sum v o h b y) (x3 y) (x4 y) = change p w m s i
    ∧ Adam.first (x3 y) (sum v o h b y) = first p m i ∧ Adam.second (x4 y) (sum v o h b y) = second p s i := by
  have e : sum v o h b y = grad p i := sum_eq v o h b y _ h0 hp
  rw [e, h2, h3, h4]
  exact ⟨rfl, rfl, rfl, rfl⟩

/-! ## Where a point's rows lie -/

/-- The block of rows of number `x` has its place `y` at the place `i` of the array. -/
def Lies {q : ℕ} (x : Fin 2 → ℕ) (y : (⟨2, ![q, n]⟩ : Shape).Idx) (i : (⟨2, ![r, n]⟩ : Shape).Idx) : Prop :=
  (i 0).val = x 0 * q + (y 0).val ∧ (i 1).val = (y 1).val

/-- So it has for a window that walks in the same way. -/
theorem lies {q : ℕ} (x x' : Fin 2 → ℕ) (e : x = x') (z : x' 1 = 0) (y : (⟨2, ![q, n]⟩ : Shape).Idx) (u : (⟨2, ![r, n]⟩ : Shape).Idx)
    (h0 : (u 0).val = x 0 * q + (y 0).val) (h1 : (u 1).val = x 1 * n + (y 1).val) : Lies x' y u := by
  subst e
  exact ⟨h0, h1.trans (by rw [z, Nat.zero_mul, Nat.zero_add])⟩

/-- There is one such place. -/
theorem one {q : ℕ} (x : Fin 2 → ℕ) (y : (⟨2, ![q, n]⟩ : Shape).Idx) (u i : (⟨2, ![r, n]⟩ : Shape).Idx) (hu : Lies x y u) (hi : Lies x y i) : u = i :=
  place2 u i (hu.1.trans hi.1.symm) (hu.2.trans hi.2.symm)

/-- The same in a stack, of which the window takes all. -/
theorem one_stack {p d q : ℕ} (x : Fin 3 → ℕ) (x' : Fin 2 → ℕ) (e : x = ![0, x' 0, 0]) (k : Fin d) (k' : Fin p) (hk : k.val = k'.val)
    (y : (⟨2, ![q, n]⟩ : Shape).Idx) (u : (⟨3, ![p, r, n]⟩ : Shape).Idx) (i : (⟨2, ![r, n]⟩ : Shape).Idx)
    (h0 : (u 0).val = x 0 * d + k.val) (h1 : (u 1).val = x 1 * q + (y 0).val) (h2 : (u 2).val = x 2 * n + (y 1).val) (hi : Lies x' y i) :
    u = ix3 k' (i 0) (i 1) := by
  subst e
  refine place3 _ _ ?_ ?_ ?_
  · exact h0.trans (by rw [show (![0, x' 0, 0] : Fin 3 → ℕ) 0 = 0 from rfl, Nat.zero_mul, Nat.zero_add]; exact hk)
  · exact h1.trans hi.1.symm
  · exact h2.trans (by rw [show (![0, x' 0, 0] : Fin 3 → ℕ) 2 = 0 from rfl, Nat.zero_mul, Nat.zero_add]; exact hi.2.symm)

/-- Two zeros, put together to a table. -/
theorem pair (u v : (⟨1, ![1]⟩ : Shape).Idx → BitVec 32) (hu : ∀ i, u i = 0#32) (hv : ∀ i, v i = 0#32) (h) :
    concatenate ⟨1, ![2]⟩ 0 [⟨⟨1, ![1]⟩, u⟩, ⟨⟨1, ![1]⟩, v⟩] h = fun _ => 0#32 := by
  funext i
  rw [eq_ix1 i]
  have e : ∀ k : Fin 2, concatenate ⟨1, ![2]⟩ 0 [⟨⟨1, ![1]⟩, u⟩, ⟨⟨1, ![1]⟩, v⟩] h (ix1 k) = 0#32 := by
    intro k
    fin_cases k
    · exact hu _
    · exact hv _
  exact e (i 0)

end Shard

end

end
-- ==== Proof.ShardFfnUp.lean ====
module

public import proofs.«01_k».proof.Defs
public import proofs.«01_k».proof.Proof.Shard
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Pipeline.ValueKit

/-! The optimiser's step of the feed-forward layer's first weight, with the sum of its gradient over the devices. -/

@[expose] public section

set_option maxRecDepth 16384

noncomputable section

namespace ShardFfnUp

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel14Ideal Cert.Kernel14Ideal.Gen

section

variable {F : FTy → Type} [FloatOps F] (m : (ℓ : Loc nD τ sig) → Buf (Elt F) ℓ)

/-- The table of places: the device is the first, and so is its own part. -/
theorem table : tbl m 0 = fun _ => 0#32 := by
  unfold tbl V
  show (StableHlo.after hostOps0 (fun b => m (0, b)) main_v4 : S2.Idx → BitVec 32) = _
  after_results
  exact Shard.pair _ _ (fun _ => rfl) (fun _ => rfl) _

/-- The table whose entries are all zero. -/
def zeros : pre0.Contents (Elt F) := fun j => match j with
  | 0 => fun _ => 0#32

/-- That is the table. -/
theorem table_eq : tbl m = zeros := funext fun j => match j with
  | 0 => table m

/-- With this table every block lies in its array. -/
theorem ok_zeros : ok0 (F := F) zeros := by
  unfold ok0
  intro i
  have h : ∀ k : Fin 32, ∀ a : Fin 3,
      ((![0, (BitVec.ofNat 32 k.val).toNat, 0] : Fin 3 → ℕ) a + 1) * S1x64x1408.size a ≤ S8x2048x1408.size a := by decide
  exact ⟨fun a => h (i 0) a, .inl rfl⟩

/-- So it does with the program's own. -/
theorem ok : Ok m := (congrArg ok0 (table_eq m)).mpr ok_zeros

end

/-- The table, and that its blocks lie in their arrays. -/
def Z : (pcfg0 (F := Ideal)).Adm := ⟨zeros, ok_zeros⟩

/-- The windows of the gradient and of the results go through all of their arrays. -/
theorem covers (a : (pcfg0 (F := Ideal)).Adm) (e : a = Z) :
    (win0 a 5).Covers ∧ (win0 a 6).Covers ∧ (win0 a 7).Covers ∧ (win0 a 8).Covers := by
  subst e
  exact ⟨by decide +kernel, by decide +kernel, by decide +kernel, by decide +kernel⟩

/-- All windows walk down the rows together. -/
theorem places (a : (pcfg0 (F := Ideal)).Adm) (e : a = Z) : ∀ t : Fin (cfg0 a).N,
    ((win0 a 0).index t = ![0, (win0 a 5).index t 0, 0] ∧ (win0 a 1).index t = ![0, (win0 a 5).index t 0, 0] ∧ (win0 a 5).index t 1 = 0)
    ∧ ((win0 a 2).index t = (win0 a 5).index t ∧ (win0 a 3).index t = (win0 a 5).index t ∧ (win0 a 4).index t = (win0 a 5).index t)
    ∧ (win0 a 6).index t = (win0 a 5).index t ∧ (win0 a 7).index t = (win0 a 5).index t ∧ (win0 a 8).index t = (win0 a 5).index t := by
  subst e
  decide +kernel

section

variable (c : Dev nD) (i : grid0.Coords) (a2) (h2) (a3) (h3) (a4) (h4) (a5) (h5) (a6) (h6) (a7) (h7) (a8) (h8) (a9) (h9) (a10) (h10)
  (x0 : Vec Ideal S8x64x1408 .bf16) (x1 : Vec Ideal S1x64x1408 .f32) (x2 x3 x4 : Vec Ideal S64x1408 .f32) (y : S64x1408.Idx)

/-- The sum of the gradient's parts that a point makes. -/
abbrev added : EReal := Shard.sum (r := 64) (n := 1408) x0 x1 shapeCasts_S1x64x1408_S64x1408 (by decide) y

/-- What a point leaves: the sum, the changes and the new moments. -/
theorem out : out0_A_5 (F := Ideal) c i a2 h2 a3 h3 a4 h4 a5 h5 a6 h6 a7 h7 a8 h8 a9 h9 a10 h10 x0 x1 x2 x3 x4 (fun _ => 0#32) y = added x0 x1 y
    ∧ out0_A_6 (F := Ideal) c i a2 h2 a3 h3 a4 h4 a5 h5 a6 h6 a7 h7 a8 h8 a9 h9 a10 h10 x0 x1 x2 x3 x4 (fun _ => 0#32) y
      = Adam.change (x2 y) (added x0 x1 y) (x3 y) (x4 y)
    ∧ out0_A_7 (F := Ideal) c i a2 h2 a3 h3 a4 h4 a5 h5 a6 h6 a7 h7 a8 h8 a9 h9 a10 h10 x0 x1 x2 x3 x4 (fun _ => 0#32) y = Adam.first (x3 y) (added x0 x1 y)
    ∧ out0_A_8 (F := Ideal) c i a2 h2 a3 h3 a4 h4 a5 h5 a6 h6 a7 h7 a8 h8 a9 h9 a10 h10 x0 x1 x2 x3 x4 (fun _ => 0#32) y = Adam.second (x4 y) (added x0 x1 y) := by
  refine ⟨?_, ?_, ?_, ?_⟩ <;> frame_out <;> rfl

end

variable (m : (ℓ : Loc nD τ sig) → Buf (Elt Ideal) ℓ) (c : Dev nD)

/-- The program's own table is that of zeros. -/
theorem adm_eq : adm m (ok m) = Z := Subtype.ext (table_eq m)

/-- What the call is given: the parts of the gradient. -/
abbrev P : S8x2048x1408.Idx → EReal := m ((c : Thread nD τ).loc main_arg0)

/-- The weights. -/
abbrev W : S2048x1408.Idx → EReal := m ((c : Thread nD τ).loc main_arg1)

/-- The first moments. -/
abbrev M : S2048x1408.Idx → EReal := m ((c : Thread nD τ).loc main_arg2)

/-- The second moments. -/
abbrev N : S2048x1408.Idx → EReal := m ((c : Thread nD τ).loc main_arg3)

/-- The stack that the call reads is the parts themselves. -/
theorem stack : V m c main_v0 = P m c := by
  unfold V
  after_results
  rfl

variable (t : Fin (cfgM m (ok m)).N) (y : S64x1408.Idx) (i : S2048x1408.Idx) (h : Shard.Lies (((win0 (adm m (ok m)) 5).index t : Fin 2 → ℕ)) y i)

include h

/-- The parts that a point reads. -/
theorem at_parts (k : Fin 8) : iblk m (ok m) c 0 t (ix3 k (y 0) (y 1)) = P m c (ix3 k (i 0) (i 1)) :=
  (congrFun (stack m c) _).trans (congrArg (P m c) (Shard.one_stack _ _ (places _ (adm_eq m) t).1.1 k k rfl y _ i
    ((win0 (adm m (ok m)) 0).rect_emb_val t _ 0) ((win0 (adm m (ok m)) 0).rect_emb_val t _ 1) ((win0 (adm m (ok m)) 0).rect_emb_val t _ 2) h))

/-- The device's own part that a point reads. -/
theorem at_own : iblk m (ok m) c 1 t (ix3 (0 : Fin 1) (y 0) (y 1)) = P m c (ix3 (0 : Fin 8) (i 0) (i 1)) :=
  (congrFun (V_main_arg0 m c) _).trans (congrArg (P m c)
    (Shard.one_stack _ _ (places _ (adm_eq m) t).1.2.1 (0 : Fin 1) (0 : Fin 8) rfl y _ i ((win0 (adm m (ok m)) 1).rect_emb_val t _ 0) ((win0 (adm m (ok m)) 1).rect_emb_val t _ 1) ((win0 (adm m (ok m)) 1).rect_emb_val t _ 2) h))

/-- The weights that a point reads. -/
theorem at_w : iblk m (ok m) c 2 t y = W m c i :=
  (congrFun (V_main_arg1 m c) _).trans (congrArg (W m c) (Shard.one _ y _ i (Shard.lies _ _ (places _ (adm_eq m) t).2.1.1 (places _ (adm_eq m) t).1.2.2 y _
    ((win0 (adm m (ok m)) 2).rect_emb_val t _ 0) ((win0 (adm m (ok m)) 2).rect_emb_val t _ 1)) h))

/-- The first moments that a point reads. -/
theorem at_m : iblk m (ok m) c 3 t y = M m c i :=
  (congrFun (V_main_arg2 m c) _).trans (congrArg (M m c) (Shard.one _ y _ i (Shard.lies _ _ (places _ (adm_eq m) t).2.1.2.1 (places _ (adm_eq m) t).1.2.2 y _
    ((win0 (adm m (ok m)) 3).rect_emb_val t _ 0) ((win0 (adm m (ok m)) 3).rect_emb_val t _ 1)) h))

/-- The second moments that a point reads. -/
theorem at_v : iblk m (ok m) c 4 t y = N m c i :=
  (congrFun (V_main_arg3 m c) _).trans (congrArg (N m c) (Shard.one _ y _ i (Shard.lies _ _ (places _ (adm_eq m) t).2.1.2.2 (places _ (adm_eq m) t).1.2.2 y _
    ((win0 (adm m (ok m)) 4).rect_emb_val t _ 0) ((win0 (adm m (ok m)) 4).rect_emb_val t _ 1)) h))

/-- What a point leaves in the four results. -/
theorem block : (outsAt0 m (ok m) c t).1 y = Shard.grad (P m c) i ∧ (outsAt0 m (ok m) c t).2.1 y = Shard.change (P m c) (W m c) (M m c) (N m c) i
    ∧ (outsAt0 m (ok m) c t).2.2.1 y = Shard.first (P m c) (M m c) i ∧ (outsAt0 m (ok m) c t).2.2.2 y = Shard.second (P m c) (N m c) i := by
  dsimp only [outsAt0]
  rw [table m]
  have b := Shard.block _ _ shapeCasts_S1x64x1408_S64x1408 (by decide) _ _ _ y (P m c) (W m c) (M m c) (N m c) i (at_own m c t y i h) (at_parts m c t y i h)
    (at_w m c t y i h) (at_m m c t y i h) (at_v m c t y i h)
  refine ⟨(out ..).1.trans ?_, (out ..).2.1.trans ?_, (out ..).2.2.1.trans ?_, (out ..).2.2.2.trans ?_⟩
  · exact b.1
  · exact b.2.1
  · exact b.2.2.1
  · exact b.2.2.2

omit h

/-- The sums the kernel leaves. -/
theorem arr_grad : (dats m (ok m) 0 c).arrAt 5 (cfgM m (ok m)).N = Shard.grad (P m c) := by
  refine (dats m (ok m) 0 c).arrAt_eq_of_covers 5 _ (covers _ (adm_eq m)).1 fun t _ (y : S64x1408.Idx) => ?_
  blk_simp
  rw [after0_5]
  exact (block m c t y _ (Shard.lies _ _ rfl (places _ (adm_eq m) t).1.2.2 y _ ((win0 (adm m (ok m)) 5).rect_emb_val t _ 0) ((win0 (adm m (ok m)) 5).rect_emb_val t _ 1))).1

/-- The changes the kernel leaves. -/
theorem arr_change : (dats m (ok m) 0 c).arrAt 6 (cfgM m (ok m)).N = Shard.change (P m c) (W m c) (M m c) (N m c) := by
  refine (dats m (ok m) 0 c).arrAt_eq_of_covers 6 _ (covers _ (adm_eq m)).2.1 fun t _ (y : S64x1408.Idx) => ?_
  blk_simp
  rw [after0_6]
  exact (block m c t y _ (Shard.lies _ _ (places _ (adm_eq m) t).2.2.1 (places _ (adm_eq m) t).1.2.2 y _ ((win0 (adm m (ok m)) 6).rect_emb_val t _ 0) ((win0 (adm m (ok m)) 6).rect_emb_val t _ 1))).2.1

/-- The first moments the kernel leaves. -/
theorem arr_first : (dats m (ok m) 0 c).arrAt 7 (cfgM m (ok m)).N = Shard.first (P m c) (M m c) := by
  refine (dats m (ok m) 0 c).arrAt_eq_of_covers 7 _ (covers _ (adm_eq m)).2.2.1 fun t _ (y : S64x1408.Idx) => ?_
  blk_simp
  rw [after0_7]
  exact (block m c t y _ (Shard.lies _ _ (places _ (adm_eq m) t).2.2.2.1 (places _ (adm_eq m) t).1.2.2 y _ ((win0 (adm m (ok m)) 7).rect_emb_val t _ 0) ((win0 (adm m (ok m)) 7).rect_emb_val t _ 1))).2.2.1

/-- The second moments the kernel leaves. -/
theorem arr_second : (dats m (ok m) 0 c).arrAt 8 (cfgM m (ok m)).N = Shard.second (P m c) (N m c) := by
  refine (dats m (ok m) 0 c).arrAt_eq_of_covers 8 _ (covers _ (adm_eq m)).2.2.2 fun t _ (y : S64x1408.Idx) => ?_
  blk_simp
  rw [after0_8]
  exact (block m c t y _ (Shard.lies _ _ (places _ (adm_eq m) t).2.2.2.2 (places _ (adm_eq m) t).1.2.2 y _ ((win0 (adm m (ok m)) 8).rect_emb_val t _ 0) ((win0 (adm m (ok m)) 8).rect_emb_val t _ 1))).2.2.2

/-- The kernel runs, and leaves these. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v5_0) = Shard.grad (P m c) ∧ r.2.mem ((c.tc : Thread nD τ).loc main_v5_1) = Shard.change (P m c) (W m c) (M m c) (N m c)
    ∧ r.2.mem ((c.tc : Thread nD τ).loc main_v5_2) = Shard.first (P m c) (M m c) ∧ r.2.mem ((c.tc : Thread nD τ).loc main_v5_3) = Shard.second (P m c) (N m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 5).trans (arr_grad m c), ((h.2 c).1 6).trans (arr_change m c),
    ((h.2 c).1 7).trans (arr_first m c), ((h.2 c).1 8).trans (arr_second m c), h.1 c⟩)
    (θ_run_and (unchanged m g (ok m)) (run_main m g (ok m)))

open Cert.Reference14Ideal.Read in
/-- The reference's sum, entry by entry. -/
theorem ref_grad (x0 : Vec Ideal S8x2048x1408 .f32) (i : S2048x1408.Idx) : val_main_v0 (F := Ideal) x0 i = Shard.grad x0 i := by
  rw [val_main_v0_apply]
  rw [show val_main_cst (F := Ideal) (Shape.Idx.first Cert.Reference14Ideal.Gen.h_S_) = 0 from Ideal.ofBits_zero_f32, zero_add]
  exact Finset.sum_congr rfl fun _ _ => congrArg x0 (eq_ix3 _)

open Cert.Reference14Ideal.Read in
/-- The reference's first moments. -/
theorem ref_first (x0 : Vec Ideal S8x2048x1408 .f32) (x2 : Vec Ideal S2048x1408 .f32) (i : S2048x1408.Idx) :
    val_main_v5 (F := Ideal) x0 x2 i = Shard.first x0 x2 i :=
  congrArg (Adam.first (x2 i)) (ref_grad x0 i)

open Cert.Reference14Ideal.Read in
/-- The reference's second moments. -/
theorem ref_second (x0 : Vec Ideal S8x2048x1408 .f32) (x3 : Vec Ideal S2048x1408 .f32) (i : S2048x1408.Idx) :
    val_main_v11 (F := Ideal) x0 x3 i = Shard.second x0 x3 i :=
  congrArg (Adam.second (x3 i)) (ref_grad x0 i)

open Cert.Reference14Ideal.Read in
/-- The reference's changes. -/
theorem ref_change (x0 : Vec Ideal S8x2048x1408 .f32) (x1 x2 x3 : Vec Ideal S2048x1408 .f32) (i : S2048x1408.Idx) :
    val_main_v24 (F := Ideal) x0 x1 x2 x3 i = Shard.change x0 x1 x2 x3 i :=
  congrArg (fun g => Adam.change (x1 i) g (x2 i) (x3 i)) (ref_grad x0 i)

/-- The kernel's results are the reference's. -/
theorem algebraic : Cert.algebraic_Kernel14Ideal_Reference14Ideal := by
  intro m g m' g' _ hagree
  refine ⟨_, _, _, _, run m g, ?_⟩
  refine (θ_run Cert.Reference14Ideal.defs _ _).mono
    (fun _ h c => ⟨(h c).1.trans ?_, (h c).2.1.trans ?_, (h c).2.2.1.trans ?_, (h c).2.2.2.1.trans ?_, (h c).2.2.2.2⟩)
    (Cert.Reference14Ideal.Value.run (F := Ideal) m' g')
  · rw [(hagree c).1]
    exact funext (ref_grad _)
  · rw [(hagree c).1, (hagree c).2.1, (hagree c).2.2.1, (hagree c).2.2.2]
    exact funext (ref_change _ _ _ _)
  · rw [(hagree c).1, (hagree c).2.2.1]
    exact funext (ref_first _ _)
  · rw [(hagree c).1, (hagree c).2.2.2]
    exact funext (ref_second _ _)

end ShardFfnUp

end

end
-- ==== Proof.ShardFfnDown.lean ====
module

public import proofs.«01_k».proof.Defs
public import proofs.«01_k».proof.Proof.Shard
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Pipeline.ValueKit

/-! The optimiser's step of the feed-forward layer's second weight, with the sum of its gradient over the devices. -/

@[expose] public section

set_option maxRecDepth 16384

noncomputable section

namespace ShardFfnDown

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel15Ideal Cert.Kernel15Ideal.Gen

section

variable {F : FTy → Type} [FloatOps F] (m : (ℓ : Loc nD τ sig) → Buf (Elt F) ℓ)

/-- The table of places: the device is the first, and so is its own part. -/
theorem table : tbl m 0 = fun _ => 0#32 := by
  unfold tbl V
  show (StableHlo.after hostOps0 (fun b => m (0, b)) main_v4 : S2.Idx → BitVec 32) = _
  after_results
  exact Shard.pair _ _ (fun _ => rfl) (fun _ => rfl) _

/-- The table whose entries are all zero. -/
def zeros : pre0.Contents (Elt F) := fun j => match j with
  | 0 => fun _ => 0#32

/-- That is the table. -/
theorem table_eq : tbl m = zeros := funext fun j => match j with
  | 0 => table m

/-- With this table every block lies in its array. -/
theorem ok_zeros : ok0 (F := F) zeros := by
  unfold ok0
  intro i
  have h : ∀ k : Fin 11, ∀ a : Fin 3,
      ((![0, (BitVec.ofNat 32 k.val).toNat, 0] : Fin 3 → ℕ) a + 1) * S1x64x2048.size a ≤ S8x704x2048.size a := by decide
  exact ⟨fun a => h (i 0) a, .inl rfl⟩

/-- So it does with the program's own. -/
theorem ok : Ok m := (congrArg ok0 (table_eq m)).mpr ok_zeros

end

/-- The table, and that its blocks lie in their arrays. -/
def Z : (pcfg0 (F := Ideal)).Adm := ⟨zeros, ok_zeros⟩

/-- The windows of the gradient and of the results go through all of their arrays. -/
theorem covers (a : (pcfg0 (F := Ideal)).Adm) (e : a = Z) :
    (win0 a 5).Covers ∧ (win0 a 6).Covers ∧ (win0 a 7).Covers ∧ (win0 a 8).Covers := by
  subst e
  exact ⟨by decide +kernel, by decide +kernel, by decide +kernel, by decide +kernel⟩

/-- All windows walk down the rows together. -/
theorem places (a : (pcfg0 (F := Ideal)).Adm) (e : a = Z) : ∀ t : Fin (cfg0 a).N,
    ((win0 a 0).index t = ![0, (win0 a 5).index t 0, 0] ∧ (win0 a 1).index t = ![0, (win0 a 5).index t 0, 0] ∧ (win0 a 5).index t 1 = 0)
    ∧ ((win0 a 2).index t = (win0 a 5).index t ∧ (win0 a 3).index t = (win0 a 5).index t ∧ (win0 a 4).index t = (win0 a 5).index t)
    ∧ (win0 a 6).index t = (win0 a 5).index t ∧ (win0 a 7).index t = (win0 a 5).index t ∧ (win0 a 8).index t = (win0 a 5).index t := by
  subst e
  decide +kernel

section

variable (c : Dev nD) (i : grid0.Coords) (a2) (h2) (a3) (h3) (a4) (h4) (a5) (h5) (a6) (h6) (a7) (h7) (a8) (h8) (a9) (h9) (a10) (h10)
  (x0 : Vec Ideal S8x64x2048 .bf16) (x1 : Vec Ideal S1x64x2048 .f32) (x2 x3 x4 : Vec Ideal S64x2048 .f32) (y : S64x2048.Idx)

/-- The sum of the gradient's parts that a point makes. -/
abbrev added : EReal := Shard.sum (r := 64) (n := 2048) x0 x1 shapeCasts_S1x64x2048_S64x2048 (by decide) y

/-- What a point leaves: the sum, the changes and the new moments. -/
theorem out : out0_A_5 (F := Ideal) c i a2 h2 a3 h3 a4 h4 a5 h5 a6 h6 a7 h7 a8 h8 a9 h9 a10 h10 x0 x1 x2 x3 x4 (fun _ => 0#32) y = added x0 x1 y
    ∧ out0_A_6 (F := Ideal) c i a2 h2 a3 h3 a4 h4 a5 h5 a6 h6 a7 h7 a8 h8 a9 h9 a10 h10 x0 x1 x2 x3 x4 (fun _ => 0#32) y
      = Adam.change (x2 y) (added x0 x1 y) (x3 y) (x4 y)
    ∧ out0_A_7 (F := Ideal) c i a2 h2 a3 h3 a4 h4 a5 h5 a6 h6 a7 h7 a8 h8 a9 h9 a10 h10 x0 x1 x2 x3 x4 (fun _ => 0#32) y = Adam.first (x3 y) (added x0 x1 y)
    ∧ out0_A_8 (F := Ideal) c i a2 h2 a3 h3 a4 h4 a5 h5 a6 h6 a7 h7 a8 h8 a9 h9 a10 h10 x0 x1 x2 x3 x4 (fun _ => 0#32) y = Adam.second (x4 y) (added x0 x1 y) := by
  refine ⟨?_, ?_, ?_, ?_⟩ <;> frame_out <;> rfl

end

variable (m : (ℓ : Loc nD τ sig) → Buf (Elt Ideal) ℓ) (c : Dev nD)

/-- The program's own table is that of zeros. -/
theorem adm_eq : adm m (ok m) = Z := Subtype.ext (table_eq m)

/-- What the call is given: the parts of the gradient. -/
abbrev P : S8x704x2048.Idx → EReal := m ((c : Thread nD τ).loc main_arg0)

/-- The weights. -/
abbrev W : S704x2048.Idx → EReal := m ((c : Thread nD τ).loc main_arg1)

/-- The first moments. -/
abbrev M : S704x2048.Idx → EReal := m ((c : Thread nD τ).loc main_arg2)

/-- The second moments. -/
abbrev N : S704x2048.Idx → EReal := m ((c : Thread nD τ).loc main_arg3)

/-- The stack that the call reads is the parts themselves. -/
theorem stack : V m c main_v0 = P m c := by
  unfold V
  after_results
  rfl

variable (t : Fin (cfgM m (ok m)).N) (y : S64x2048.Idx) (i : S704x2048.Idx) (h : Shard.Lies (((win0 (adm m (ok m)) 5).index t : Fin 2 → ℕ)) y i)

include h

/-- The parts that a point reads. -/
theorem at_parts (k : Fin 8) : iblk m (ok m) c 0 t (ix3 k (y 0) (y 1)) = P m c (ix3 k (i 0) (i 1)) :=
  (congrFun (stack m c) _).trans (congrArg (P m c) (Shard.one_stack _ _ (places _ (adm_eq m) t).1.1 k k rfl y _ i
    ((win0 (adm m (ok m)) 0).rect_emb_val t _ 0) ((win0 (adm m (ok m)) 0).rect_emb_val t _ 1) ((win0 (adm m (ok m)) 0).rect_emb_val t _ 2) h))

/-- The device's own part that a point reads. -/
theorem at_own : iblk m (ok m) c 1 t (ix3 (0 : Fin 1) (y 0) (y 1)) = P m c (ix3 (0 : Fin 8) (i 0) (i 1)) :=
  (congrFun (V_main_arg0 m c) _).trans (congrArg (P m c)
    (Shard.one_stack _ _ (places _ (adm_eq m) t).1.2.1 (0 : Fin 1) (0 : Fin 8) rfl y _ i ((win0 (adm m (ok m)) 1).rect_emb_val t _ 0) ((win0 (adm m (ok m)) 1).rect_emb_val t _ 1) ((win0 (adm m (ok m)) 1).rect_emb_val t _ 2) h))

/-- The weights that a point reads. -/
theorem at_w : iblk m (ok m) c 2 t y = W m c i :=
  (congrFun (V_main_arg1 m c) _).trans (congrArg (W m c) (Shard.one _ y _ i (Shard.lies _ _ (places _ (adm_eq m) t).2.1.1 (places _ (adm_eq m) t).1.2.2 y _
    ((win0 (adm m (ok m)) 2).rect_emb_val t _ 0) ((win0 (adm m (ok m)) 2).rect_emb_val t _ 1)) h))

/-- The first moments that a point reads. -/
theorem at_m : iblk m (ok m) c 3 t y = M m c i :=
  (congrFun (V_main_arg2 m c) _).trans (congrArg (M m c) (Shard.one _ y _ i (Shard.lies _ _ (places _ (adm_eq m) t).2.1.2.1 (places _ (adm_eq m) t).1.2.2 y _
    ((win0 (adm m (ok m)) 3).rect_emb_val t _ 0) ((win0 (adm m (ok m)) 3).rect_emb_val t _ 1)) h))

/-- The second moments that a point reads. -/
theorem at_v : iblk m (ok m) c 4 t y = N m c i :=
  (congrFun (V_main_arg3 m c) _).trans (congrArg (N m c) (Shard.one _ y _ i (Shard.lies _ _ (places _ (adm_eq m) t).2.1.2.2 (places _ (adm_eq m) t).1.2.2 y _
    ((win0 (adm m (ok m)) 4).rect_emb_val t _ 0) ((win0 (adm m (ok m)) 4).rect_emb_val t _ 1)) h))

/-- What a point leaves in the four results. -/
theorem block : (outsAt0 m (ok m) c t).1 y = Shard.grad (P m c) i ∧ (outsAt0 m (ok m) c t).2.1 y = Shard.change (P m c) (W m c) (M m c) (N m c) i
    ∧ (outsAt0 m (ok m) c t).2.2.1 y = Shard.first (P m c) (M m c) i ∧ (outsAt0 m (ok m) c t).2.2.2 y = Shard.second (P m c) (N m c) i := by
  dsimp only [outsAt0]
  rw [table m]
  have b := Shard.block _ _ shapeCasts_S1x64x2048_S64x2048 (by decide) _ _ _ y (P m c) (W m c) (M m c) (N m c) i (at_own m c t y i h) (at_parts m c t y i h)
    (at_w m c t y i h) (at_m m c t y i h) (at_v m c t y i h)
  refine ⟨(out ..).1.trans ?_, (out ..).2.1.trans ?_, (out ..).2.2.1.trans ?_, (out ..).2.2.2.trans ?_⟩
  · exact b.1
  · exact b.2.1
  · exact b.2.2.1
  · exact b.2.2.2

omit h

/-- The sums the kernel leaves. -/
theorem arr_grad : (dats m (ok m) 0 c).arrAt 5 (cfgM m (ok m)).N = Shard.grad (P m c) := by
  refine (dats m (ok m) 0 c).arrAt_eq_of_covers 5 _ (covers _ (adm_eq m)).1 fun t _ (y : S64x2048.Idx) => ?_
  blk_simp
  rw [after0_5]
  exact (block m c t y _ (Shard.lies _ _ rfl (places _ (adm_eq m) t).1.2.2 y _ ((win0 (adm m (ok m)) 5).rect_emb_val t _ 0) ((win0 (adm m (ok m)) 5).rect_emb_val t _ 1))).1

/-- The changes the kernel leaves. -/
theorem arr_change : (dats m (ok m) 0 c).arrAt 6 (cfgM m (ok m)).N = Shard.change (P m c) (W m c) (M m c) (N m c) := by
  refine (dats m (ok m) 0 c).arrAt_eq_of_covers 6 _ (covers _ (adm_eq m)).2.1 fun t _ (y : S64x2048.Idx) => ?_
  blk_simp
  rw [after0_6]
  exact (block m c t y _ (Shard.lies _ _ (places _ (adm_eq m) t).2.2.1 (places _ (adm_eq m) t).1.2.2 y _ ((win0 (adm m (ok m)) 6).rect_emb_val t _ 0) ((win0 (adm m (ok m)) 6).rect_emb_val t _ 1))).2.1

/-- The first moments the kernel leaves. -/
theorem arr_first : (dats m (ok m) 0 c).arrAt 7 (cfgM m (ok m)).N = Shard.first (P m c) (M m c) := by
  refine (dats m (ok m) 0 c).arrAt_eq_of_covers 7 _ (covers _ (adm_eq m)).2.2.1 fun t _ (y : S64x2048.Idx) => ?_
  blk_simp
  rw [after0_7]
  exact (block m c t y _ (Shard.lies _ _ (places _ (adm_eq m) t).2.2.2.1 (places _ (adm_eq m) t).1.2.2 y _ ((win0 (adm m (ok m)) 7).rect_emb_val t _ 0) ((win0 (adm m (ok m)) 7).rect_emb_val t _ 1))).2.2.1

/-- The second moments the kernel leaves. -/
theorem arr_second : (dats m (ok m) 0 c).arrAt 8 (cfgM m (ok m)).N = Shard.second (P m c) (N m c) := by
  refine (dats m (ok m) 0 c).arrAt_eq_of_covers 8 _ (covers _ (adm_eq m)).2.2.2 fun t _ (y : S64x2048.Idx) => ?_
  blk_simp
  rw [after0_8]
  exact (block m c t y _ (Shard.lies _ _ (places _ (adm_eq m) t).2.2.2.2 (places _ (adm_eq m) t).1.2.2 y _ ((win0 (adm m (ok m)) 8).rect_emb_val t _ 0) ((win0 (adm m (ok m)) 8).rect_emb_val t _ 1))).2.2.2

/-- The kernel runs, and leaves these. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v5_0) = Shard.grad (P m c) ∧ r.2.mem ((c.tc : Thread nD τ).loc main_v5_1) = Shard.change (P m c) (W m c) (M m c) (N m c)
    ∧ r.2.mem ((c.tc : Thread nD τ).loc main_v5_2) = Shard.first (P m c) (M m c) ∧ r.2.mem ((c.tc : Thread nD τ).loc main_v5_3) = Shard.second (P m c) (N m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 5).trans (arr_grad m c), ((h.2 c).1 6).trans (arr_change m c),
    ((h.2 c).1 7).trans (arr_first m c), ((h.2 c).1 8).trans (arr_second m c), h.1 c⟩)
    (θ_run_and (unchanged m g (ok m)) (run_main m g (ok m)))

open Cert.Reference15Ideal.Read in
/-- The reference's sum, entry by entry. -/
theorem ref_grad (x0 : Vec Ideal S8x704x2048 .f32) (i : S704x2048.Idx) : val_main_v0 (F := Ideal) x0 i = Shard.grad x0 i := by
  rw [val_main_v0_apply]
  rw [show val_main_cst (F := Ideal) (Shape.Idx.first Cert.Reference15Ideal.Gen.h_S_) = 0 from Ideal.ofBits_zero_f32, zero_add]
  exact Finset.sum_congr rfl fun _ _ => congrArg x0 (eq_ix3 _)

open Cert.Reference15Ideal.Read in
/-- The reference's first moments. -/
theorem ref_first (x0 : Vec Ideal S8x704x2048 .f32) (x2 : Vec Ideal S704x2048 .f32) (i : S704x2048.Idx) :
    val_main_v5 (F := Ideal) x0 x2 i = Shard.first x0 x2 i :=
  congrArg (Adam.first (x2 i)) (ref_grad x0 i)

open Cert.Reference15Ideal.Read in
/-- The reference's second moments. -/
theorem ref_second (x0 : Vec Ideal S8x704x2048 .f32) (x3 : Vec Ideal S704x2048 .f32) (i : S704x2048.Idx) :
    val_main_v11 (F := Ideal) x0 x3 i = Shard.second x0 x3 i :=
  congrArg (Adam.second (x3 i)) (ref_grad x0 i)

open Cert.Reference15Ideal.Read in
/-- The reference's changes. -/
theorem ref_change (x0 : Vec Ideal S8x704x2048 .f32) (x1 x2 x3 : Vec Ideal S704x2048 .f32) (i : S704x2048.Idx) :
    val_main_v24 (F := Ideal) x0 x1 x2 x3 i = Shard.change x0 x1 x2 x3 i :=
  congrArg (fun g => Adam.change (x1 i) g (x2 i) (x3 i)) (ref_grad x0 i)

/-- The kernel's results are the reference's. -/
theorem algebraic : Cert.algebraic_Kernel15Ideal_Reference15Ideal := by
  intro m g m' g' _ hagree
  refine ⟨_, _, _, _, run m g, ?_⟩
  refine (θ_run Cert.Reference15Ideal.defs _ _).mono
    (fun _ h c => ⟨(h c).1.trans ?_, (h c).2.1.trans ?_, (h c).2.2.1.trans ?_, (h c).2.2.2.1.trans ?_, (h c).2.2.2.2⟩)
    (Cert.Reference15Ideal.Value.run (F := Ideal) m' g')
  · rw [(hagree c).1]
    exact funext (ref_grad _)
  · rw [(hagree c).1, (hagree c).2.1, (hagree c).2.2.1, (hagree c).2.2.2]
    exact funext (ref_change _ _ _ _)
  · rw [(hagree c).1, (hagree c).2.2.1]
    exact funext (ref_first _ _)
  · rw [(hagree c).1, (hagree c).2.2.2]
    exact funext (ref_second _ _)

end ShardFfnDown

end

end
-- ==== Proof.ShardIn.lean ====
module

public import proofs.«01_k».proof.Defs
public import proofs.«01_k».proof.Proof.Shard
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pipeline.ValueKit

/-! The optimiser's step of the joint input projection's weight, with the sum of its gradient over the devices. -/

@[expose] public section

set_option maxRecDepth 16384

noncomputable section

namespace ShardIn

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel16Ideal Cert.Kernel16Ideal.Gen

section

variable {F : FTy → Type} [FloatOps F] (m : (ℓ : Loc nD τ sig) → Buf (Elt F) ℓ)

/-- The table of places: the device is the first, and so is its own part. -/
theorem table : tbl m 0 = fun _ => 0#32 := by
  unfold tbl V
  show (StableHlo.after hostOps0 (fun b => m (0, b)) main_v5 : S2.Idx → BitVec 32) = _
  after_results
  exact Shard.pair _ _ (fun _ => rfl) (fun _ => rfl) _

/-- The table whose entries are all zero. -/
def zeros : pre0.Contents (Elt F) := fun j => match j with
  | 0 => fun _ => 0#32

/-- That is the table. -/
theorem table_eq : tbl m = zeros := funext fun j => match j with
  | 0 => table m

/-- With this table every block lies in its array. -/
theorem ok_zeros : ok0 (F := F) zeros := by
  unfold ok0
  intro i
  have h : ∀ k : Fin 16, ∀ a : Fin 3,
      ((![0, (BitVec.ofNat 32 k.val).toNat, 0] : Fin 3 → ℕ) a + 1) * S1x128x800.size a ≤ S1x2048x800.size a := by decide
  exact ⟨fun a => h (i 0) a, .inl rfl⟩

/-- So it does with the program's own. -/
theorem ok : Ok m := (congrArg ok0 (table_eq m)).mpr ok_zeros

end

/-- The table, and that its blocks lie in their arrays. -/
def Z : (pcfg0 (F := Ideal)).Adm := ⟨zeros, ok_zeros⟩

/-- The windows of the gradient and of the results go through all of their arrays. -/
theorem covers (a : (pcfg0 (F := Ideal)).Adm) (e : a = Z) :
    (win0 a 5).Covers ∧ (win0 a 6).Covers ∧ (win0 a 7).Covers ∧ (win0 a 8).Covers := by
  subst e
  exact ⟨by decide +kernel, by decide +kernel, by decide +kernel, by decide +kernel⟩

/-- All windows walk down the rows together. -/
theorem places (a : (pcfg0 (F := Ideal)).Adm) (e : a = Z) : ∀ t : Fin (cfg0 a).N,
    ((win0 a 0).index t = ![0, (win0 a 5).index t 0, 0] ∧ (win0 a 1).index t = ![0, (win0 a 5).index t 0, 0] ∧ (win0 a 5).index t 1 = 0)
    ∧ ((win0 a 2).index t = (win0 a 5).index t ∧ (win0 a 3).index t = (win0 a 5).index t ∧ (win0 a 4).index t = (win0 a 5).index t)
    ∧ (win0 a 6).index t = (win0 a 5).index t ∧ (win0 a 7).index t = (win0 a 5).index t ∧ (win0 a 8).index t = (win0 a 5).index t := by
  subst e
  decide +kernel

section

variable (c : Dev nD) (i : grid0.Coords) (a2) (h2) (a3) (h3) (a4) (h4) (a5) (h5) (a6) (h6) (a7) (h7) (a8) (h8) (a9) (h9) (a10) (h10)
  (x0 : Vec Ideal S8x128x800 .bf16) (x1 : Vec Ideal S1x128x800 .f32) (x2 x3 x4 : Vec Ideal S128x800 .f32) (y : S128x800.Idx)

/-- The sum of the gradient's parts that a point makes. -/
abbrev added : EReal := Shard.sum (r := 128) (n := 800) x0 x1 shapeCasts_S1x128x800_S128x800 (by decide) y

/-- What a point leaves: the sum, the changes and the new moments. -/
theorem out : out0_A_5 (F := Ideal) c i a2 h2 a3 h3 a4 h4 a5 h5 a6 h6 a7 h7 a8 h8 a9 h9 a10 h10 x0 x1 x2 x3 x4 (fun _ => 0#32) y = added x0 x1 y
    ∧ out0_A_6 (F := Ideal) c i a2 h2 a3 h3 a4 h4 a5 h5 a6 h6 a7 h7 a8 h8 a9 h9 a10 h10 x0 x1 x2 x3 x4 (fun _ => 0#32) y
      = Adam.change (x2 y) (added x0 x1 y) (x3 y) (x4 y)
    ∧ out0_A_7 (F := Ideal) c i a2 h2 a3 h3 a4 h4 a5 h5 a6 h6 a7 h7 a8 h8 a9 h9 a10 h10 x0 x1 x2 x3 x4 (fun _ => 0#32) y = Adam.first (x3 y) (added x0 x1 y)
    ∧ out0_A_8 (F := Ideal) c i a2 h2 a3 h3 a4 h4 a5 h5 a6 h6 a7 h7 a8 h8 a9 h9 a10 h10 x0 x1 x2 x3 x4 (fun _ => 0#32) y = Adam.second (x4 y) (added x0 x1 y) := by
  refine ⟨?_, ?_, ?_, ?_⟩ <;> frame_out <;> rfl

end

variable (m : (ℓ : Loc nD τ sig) → Buf (Elt Ideal) ℓ) (c : Dev nD)

/-- The program's own table is that of zeros. -/
theorem adm_eq : adm m (ok m) = Z := Subtype.ext (table_eq m)

/-- What the call is given: the parts of the gradient. -/
abbrev P : S8x2048x800.Idx → EReal := m ((c : Thread nD τ).loc main_arg0)

/-- The weights. -/
abbrev W : S2048x800.Idx → EReal := m ((c : Thread nD τ).loc main_arg1)

/-- The first moments. -/
abbrev M : S2048x800.Idx → EReal := m ((c : Thread nD τ).loc main_arg2)

/-- The second moments. -/
abbrev N : S2048x800.Idx → EReal := m ((c : Thread nD τ).loc main_arg3)

/-- The stack that the call reads is the parts themselves. -/
theorem stack : V m c main_v1 = P m c := by
  unfold V
  after_results
  rfl

/-- The array of one part that the call reads is the first of them. -/
theorem first_part (a : Fin 2048) (b : Fin 800) : V m c main_v0 (ix3 (0 : Fin 1) a b) = m ((c : Thread nD τ).loc main_arg0) (ix3 (0 : Fin 8) a b) := by
  unfold V
  after_results
  refine congrArg (m ((c : Thread nD τ).loc main_arg0)) (Shard.place3 (p := 8) _ _ rfl ?_ ?_)
  · exact Nat.zero_add _
  · exact Nat.zero_add _

variable (t : Fin (cfgM m (ok m)).N) (y : S128x800.Idx) (i : S2048x800.Idx) (h : Shard.Lies (((win0 (adm m (ok m)) 5).index t : Fin 2 → ℕ)) y i)

include h

/-- The parts that a point reads. -/
theorem at_parts (k : Fin 8) : iblk m (ok m) c 0 t (ix3 k (y 0) (y 1)) = P m c (ix3 k (i 0) (i 1)) :=
  (congrFun (stack m c) _).trans (congrArg (P m c) (Shard.one_stack _ _ (places _ (adm_eq m) t).1.1 k k rfl y _ i
    ((win0 (adm m (ok m)) 0).rect_emb_val t _ 0) ((win0 (adm m (ok m)) 0).rect_emb_val t _ 1) ((win0 (adm m (ok m)) 0).rect_emb_val t _ 2) h))

/-- The device's own part that a point reads. -/
theorem at_own : iblk m (ok m) c 1 t (ix3 (0 : Fin 1) (y 0) (y 1)) = P m c (ix3 (0 : Fin 8) (i 0) (i 1)) :=
  (congrArg (V m c main_v0)
    (Shard.one_stack _ _ (places _ (adm_eq m) t).1.2.1 (0 : Fin 1) (0 : Fin 1) rfl y _ i ((win0 (adm m (ok m)) 1).rect_emb_val t _ 0) ((win0 (adm m (ok m)) 1).rect_emb_val t _ 1) ((win0 (adm m (ok m)) 1).rect_emb_val t _ 2) h)).trans (first_part m c (i 0) (i 1))

/-- The weights that a point reads. -/
theorem at_w : iblk m (ok m) c 2 t y = W m c i :=
  (congrFun (V_main_arg1 m c) _).trans (congrArg (W m c) (Shard.one _ y _ i (Shard.lies _ _ (places _ (adm_eq m) t).2.1.1 (places _ (adm_eq m) t).1.2.2 y _
    ((win0 (adm m (ok m)) 2).rect_emb_val t _ 0) ((win0 (adm m (ok m)) 2).rect_emb_val t _ 1)) h))

/-- The first moments that a point reads. -/
theorem at_m : iblk m (ok m) c 3 t y = M m c i :=
  (congrFun (V_main_arg2 m c) _).trans (congrArg (M m c) (Shard.one _ y _ i (Shard.lies _ _ (places _ (adm_eq m) t).2.1.2.1 (places _ (adm_eq m) t).1.2.2 y _
    ((win0 (adm m (ok m)) 3).rect_emb_val t _ 0) ((win0 (adm m (ok m)) 3).rect_emb_val t _ 1)) h))

/-- The second moments that a point reads. -/
theorem at_v : iblk m (ok m) c 4 t y = N m c i :=
  (congrFun (V_main_arg3 m c) _).trans (congrArg (N m c) (Shard.one _ y _ i (Shard.lies _ _ (places _ (adm_eq m) t).2.1.2.2 (places _ (adm_eq m) t).1.2.2 y _
    ((win0 (adm m (ok m)) 4).rect_emb_val t _ 0) ((win0 (adm m (ok m)) 4).rect_emb_val t _ 1)) h))

/-- What a point leaves in the four results. -/
theorem block : (outsAt0 m (ok m) c t).1 y = Shard.grad (P m c) i ∧ (outsAt0 m (ok m) c t).2.1 y = Shard.change (P m c) (W m c) (M m c) (N m c) i
    ∧ (outsAt0 m (ok m) c t).2.2.1 y = Shard.first (P m c) (M m c) i ∧ (outsAt0 m (ok m) c t).2.2.2 y = Shard.second (P m c) (N m c) i := by
  dsimp only [outsAt0]
  rw [table m]
  have b := Shard.block _ _ shapeCasts_S1x128x800_S128x800 (by decide) _ _ _ y (P m c) (W m c) (M m c) (N m c) i (at_own m c t y i h) (at_parts m c t y i h)
    (at_w m c t y i h) (at_m m c t y i h) (at_v m c t y i h)
  refine ⟨(out ..).1.trans ?_, (out ..).2.1.trans ?_, (out ..).2.2.1.trans ?_, (out ..).2.2.2.trans ?_⟩
  · exact b.1
  · exact b.2.1
  · exact b.2.2.1
  · exact b.2.2.2

omit h

/-- The sums the kernel leaves. -/
theorem arr_grad : (dats m (ok m) 0 c).arrAt 5 (cfgM m (ok m)).N = Shard.grad (P m c) := by
  refine (dats m (ok m) 0 c).arrAt_eq_of_covers 5 _ (covers _ (adm_eq m)).1 fun t _ (y : S128x800.Idx) => ?_
  blk_simp
  rw [after0_5]
  exact (block m c t y _ (Shard.lies _ _ rfl (places _ (adm_eq m) t).1.2.2 y _ ((win0 (adm m (ok m)) 5).rect_emb_val t _ 0) ((win0 (adm m (ok m)) 5).rect_emb_val t _ 1))).1

/-- The changes the kernel leaves. -/
theorem arr_change : (dats m (ok m) 0 c).arrAt 6 (cfgM m (ok m)).N = Shard.change (P m c) (W m c) (M m c) (N m c) := by
  refine (dats m (ok m) 0 c).arrAt_eq_of_covers 6 _ (covers _ (adm_eq m)).2.1 fun t _ (y : S128x800.Idx) => ?_
  blk_simp
  rw [after0_6]
  exact (block m c t y _ (Shard.lies _ _ (places _ (adm_eq m) t).2.2.1 (places _ (adm_eq m) t).1.2.2 y _ ((win0 (adm m (ok m)) 6).rect_emb_val t _ 0) ((win0 (adm m (ok m)) 6).rect_emb_val t _ 1))).2.1

/-- The first moments the kernel leaves. -/
theorem arr_first : (dats m (ok m) 0 c).arrAt 7 (cfgM m (ok m)).N = Shard.first (P m c) (M m c) := by
  refine (dats m (ok m) 0 c).arrAt_eq_of_covers 7 _ (covers _ (adm_eq m)).2.2.1 fun t _ (y : S128x800.Idx) => ?_
  blk_simp
  rw [after0_7]
  exact (block m c t y _ (Shard.lies _ _ (places _ (adm_eq m) t).2.2.2.1 (places _ (adm_eq m) t).1.2.2 y _ ((win0 (adm m (ok m)) 7).rect_emb_val t _ 0) ((win0 (adm m (ok m)) 7).rect_emb_val t _ 1))).2.2.1

/-- The second moments the kernel leaves. -/
theorem arr_second : (dats m (ok m) 0 c).arrAt 8 (cfgM m (ok m)).N = Shard.second (P m c) (N m c) := by
  refine (dats m (ok m) 0 c).arrAt_eq_of_covers 8 _ (covers _ (adm_eq m)).2.2.2 fun t _ (y : S128x800.Idx) => ?_
  blk_simp
  rw [after0_8]
  exact (block m c t y _ (Shard.lies _ _ (places _ (adm_eq m) t).2.2.2.2 (places _ (adm_eq m) t).1.2.2 y _ ((win0 (adm m (ok m)) 8).rect_emb_val t _ 0) ((win0 (adm m (ok m)) 8).rect_emb_val t _ 1))).2.2.2

/-- The kernel runs, and leaves these. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v6_0) = Shard.grad (P m c) ∧ r.2.mem ((c.tc : Thread nD τ).loc main_v6_1) = Shard.change (P m c) (W m c) (M m c) (N m c)
    ∧ r.2.mem ((c.tc : Thread nD τ).loc main_v6_2) = Shard.first (P m c) (M m c) ∧ r.2.mem ((c.tc : Thread nD τ).loc main_v6_3) = Shard.second (P m c) (N m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 5).trans (arr_grad m c), ((h.2 c).1 6).trans (arr_change m c),
    ((h.2 c).1 7).trans (arr_first m c), ((h.2 c).1 8).trans (arr_second m c), h.1 c⟩)
    (θ_run_and (unchanged m g (ok m)) (run_main m g (ok m)))

open Cert.Reference16Ideal.Read in
/-- The reference's sum, entry by entry. -/
theorem ref_grad (x0 : Vec Ideal S8x2048x800 .f32) (i : S2048x800.Idx) : val_main_v0 (F := Ideal) x0 i = Shard.grad x0 i := by
  rw [val_main_v0_apply]
  rw [show val_main_cst (F := Ideal) (Shape.Idx.first Cert.Reference16Ideal.Gen.h_S_) = 0 from Ideal.ofBits_zero_f32, zero_add]
  exact Finset.sum_congr rfl fun _ _ => congrArg x0 (eq_ix3 _)

open Cert.Reference16Ideal.Read in
/-- The reference's first moments. -/
theorem ref_first (x0 : Vec Ideal S8x2048x800 .f32) (x2 : Vec Ideal S2048x800 .f32) (i : S2048x800.Idx) :
    val_main_v5 (F := Ideal) x0 x2 i = Shard.first x0 x2 i :=
  congrArg (Adam.first (x2 i)) (ref_grad x0 i)

open Cert.Reference16Ideal.Read in
/-- The reference's second moments. -/
theorem ref_second (x0 : Vec Ideal S8x2048x800 .f32) (x3 : Vec Ideal S2048x800 .f32) (i : S2048x800.Idx) :
    val_main_v11 (F := Ideal) x0 x3 i = Shard.second x0 x3 i :=
  congrArg (Adam.second (x3 i)) (ref_grad x0 i)

open Cert.Reference16Ideal.Read in
/-- The reference's changes. -/
theorem ref_change (x0 : Vec Ideal S8x2048x800 .f32) (x1 x2 x3 : Vec Ideal S2048x800 .f32) (i : S2048x800.Idx) :
    val_main_v24 (F := Ideal) x0 x1 x2 x3 i = Shard.change x0 x1 x2 x3 i :=
  congrArg (fun g => Adam.change (x1 i) g (x2 i) (x3 i)) (ref_grad x0 i)

/-- The kernel's results are the reference's. -/
theorem algebraic : Cert.algebraic_Kernel16Ideal_Reference16Ideal := by
  intro m g m' g' _ hagree
  refine ⟨_, _, _, _, run m g, ?_⟩
  refine (θ_run Cert.Reference16Ideal.defs _ _).mono
    (fun _ h c => ⟨(h c).1.trans ?_, (h c).2.1.trans ?_, (h c).2.2.1.trans ?_, (h c).2.2.2.1.trans ?_, (h c).2.2.2.2⟩)
    (Cert.Reference16Ideal.Value.run (F := Ideal) m' g')
  · rw [(hagree c).1]
    exact funext (ref_grad _)
  · rw [(hagree c).1, (hagree c).2.1, (hagree c).2.2.1, (hagree c).2.2.2]
    exact funext (ref_change _ _ _ _)
  · rw [(hagree c).1, (hagree c).2.2.1]
    exact funext (ref_first _ _)
  · rw [(hagree c).1, (hagree c).2.2.2]
    exact funext (ref_second _ _)

end ShardIn

end

end
-- ==== Proof.ShardOut.lean ====
module

public import proofs.«01_k».proof.Defs
public import proofs.«01_k».proof.Proof.Shard
public import proofs.«01_k».proof.Proof.Gen.Kernel17Ideal.Frame
public import proofs.«01_k».proof.Proof.Gen.Reference17Ideal.Run
public import proofs.«01_k».proof.Proof.Gen.Reference17Ideal.Read
public import Idealize.ShloMosaic.Lib.Pipeline.ValueKit

/-! The optimiser's step of the output projection's weight, with the sum of its gradient over the devices. -/

@[expose] public section

set_option maxRecDepth 16384

noncomputable section

namespace ShardOut

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel17Ideal Cert.Kernel17Ideal.Gen

section

variable {F : FTy → Type} [FloatOps F] (m : (ℓ : Loc nD τ sig) → Buf (Elt F) ℓ)

/-- The table of places: the device is the first, and so is its own part. -/
theorem table : tbl m 0 = fun _ => 0#32 := by
  unfold tbl V
  show (StableHlo.after hostOps0 (fun b => m (0, b)) main_v4 : S2.Idx → BitVec 32) = _
  after_results
  exact Shard.pair _ _ (fun _ => rfl) (fun _ => rfl) _

/-- The table whose entries are all zero. -/
def zeros : pre0.Contents (Elt F) := fun j => match j with
  | 0 => fun _ => 0#32

/-- That is the table. -/
theorem table_eq : tbl m = zeros := funext fun j => match j with
  | 0 => table m

/-- With this table every block lies in its array. -/
theorem ok_zeros : ok0 (F := F) zeros := by
  unfold ok0
  intro i
  have h : ∀ k : Fin 4, ∀ a : Fin 3,
      ((![0, (BitVec.ofNat 32 k.val).toNat, 0] : Fin 3 → ℕ) a + 1) * S1x64x2048.size a ≤ S8x256x2048.size a := by decide
  exact ⟨fun a => h (i 0) a, .inl rfl⟩

/-- So it does with the program's own. -/
theorem ok : Ok m := (congrArg ok0 (table_eq m)).mpr ok_zeros

end

/-- The table, and that its blocks lie in their arrays. -/
def Z : (pcfg0 (F := Ideal)).Adm := ⟨zeros, ok_zeros⟩

/-- The windows of the gradient and of the results go through all of their arrays. -/
theorem covers (a : (pcfg0 (F := Ideal)).Adm) (e : a = Z) :
    (win0 a 5).Covers ∧ (win0 a 6).Covers ∧ (win0 a 7).Covers ∧ (win0 a 8).Covers := by
  subst e
  exact ⟨by decide +kernel, by decide +kernel, by decide +kernel, by decide +kernel⟩

/-- All windows walk down the rows together. -/
theorem places (a : (pcfg0 (F := Ideal)).Adm) (e : a = Z) : ∀ t : Fin (cfg0 a).N,
    ((win0 a 0).index t = ![0, (win0 a 5).index t 0, 0] ∧ (win0 a 1).index t = ![0, (win0 a 5).index t 0, 0] ∧ (win0 a 5).index t 1 = 0)
    ∧ ((win0 a 2).index t = (win0 a 5).index t ∧ (win0 a 3).index t = (win0 a 5).index t ∧ (win0 a 4).index t = (win0 a 5).index t)
    ∧ (win0 a 6).index t = (win0 a 5).index t ∧ (win0 a 7).index t = (win0 a 5).index t ∧ (win0 a 8).index t = (win0 a 5).index t := by
  subst e
  decide +kernel

section

variable (c : Dev nD) (i : grid0.Coords) (a2) (h2) (a3) (h3) (a4) (h4) (a5) (h5) (a6) (h6) (a7) (h7) (a8) (h8) (a9) (h9) (a10) (h10)
  (x0 : Vec Ideal S8x64x2048 .bf16) (x1 : Vec Ideal S1x64x2048 .f32) (x2 x3 x4 : Vec Ideal S64x2048 .f32) (y : S64x2048.Idx)

/-- The sum of the gradient's parts that a point makes. -/
abbrev added : EReal := Shard.sum (r := 64) (n := 2048) x0 x1 shapeCasts_S1x64x2048_S64x2048 (by decide) y

/-- What a point leaves: the sum, the changes and the new moments. -/
theorem out : out0_A_5 (F := Ideal) c i a2 h2 a3 h3 a4 h4 a5 h5 a6 h6 a7 h7 a8 h8 a9 h9 a10 h10 x0 x1 x2 x3 x4 (fun _ => 0#32) y = added x0 x1 y
    ∧ out0_A_6 (F := Ideal) c i a2 h2 a3 h3 a4 h4 a5 h5 a6 h6 a7 h7 a8 h8 a9 h9 a10 h10 x0 x1 x2 x3 x4 (fun _ => 0#32) y
      = Adam.change (x2 y) (added x0 x1 y) (x3 y) (x4 y)
    ∧ out0_A_7 (F := Ideal) c i a2 h2 a3 h3 a4 h4 a5 h5 a6 h6 a7 h7 a8 h8 a9 h9 a10 h10 x0 x1 x2 x3 x4 (fun _ => 0#32) y = Adam.first (x3 y) (added x0 x1 y)
    ∧ out0_A_8 (F := Ideal) c i a2 h2 a3 h3 a4 h4 a5 h5 a6 h6 a7 h7 a8 h8 a9 h9 a10 h10 x0 x1 x2 x3 x4 (fun _ => 0#32) y = Adam.second (x4 y) (added x0 x1 y) := by
  refine ⟨?_, ?_, ?_, ?_⟩ <;> frame_out <;> rfl

end

variable (m : (ℓ : Loc nD τ sig) → Buf (Elt Ideal) ℓ) (c : Dev nD)

/-- The program's own table is that of zeros. -/
theorem adm_eq : adm m (ok m) = Z := Subtype.ext (table_eq m)

/-- What the call is given: the parts of the gradient. -/
abbrev P : S8x256x2048.Idx → EReal := m ((c : Thread nD τ).loc main_arg0)

/-- The weights. -/
abbrev W : S256x2048.Idx → EReal := m ((c : Thread nD τ).loc main_arg1)

/-- The first moments. -/
abbrev M : S256x2048.Idx → EReal := m ((c : Thread nD τ).loc main_arg2)

/-- The second moments. -/
abbrev N : S256x2048.Idx → EReal := m ((c : Thread nD τ).loc main_arg3)

/-- The stack that the call reads is the parts themselves. -/
theorem stack : V m c main_v0 = P m c := by
  unfold V
  after_results
  rfl

variable (t : Fin (cfgM m (ok m)).N) (y : S64x2048.Idx) (i : S256x2048.Idx) (h : Shard.Lies (((win0 (adm m (ok m)) 5).index t : Fin 2 → ℕ)) y i)

include h

/-- The parts that a point reads. -/
theorem at_parts (k : Fin 8) : iblk m (ok m) c 0 t (ix3 k (y 0) (y 1)) = P m c (ix3 k (i 0) (i 1)) :=
  (congrFun (stack m c) _).trans (congrArg (P m c) (Shard.one_stack _ _ (places _ (adm_eq m) t).1.1 k k rfl y _ i
    ((win0 (adm m (ok m)) 0).rect_emb_val t _ 0) ((win0 (adm m (ok m)) 0).rect_emb_val t _ 1) ((win0 (adm m (ok m)) 0).rect_emb_val t _ 2) h))

/-- The device's own part that a point reads. -/
theorem at_own : iblk m (ok m) c 1 t (ix3 (0 : Fin 1) (y 0) (y 1)) = P m c (ix3 (0 : Fin 8) (i 0) (i 1)) :=
  (congrFun (V_main_arg0 m c) _).trans (congrArg (P m c)
    (Shard.one_stack _ _ (places _ (adm_eq m) t).1.2.1 (0 : Fin 1) (0 : Fin 8) rfl y _ i ((win0 (adm m (ok m)) 1).rect_emb_val t _ 0) ((win0 (adm m (ok m)) 1).rect_emb_val t _ 1) ((win0 (adm m (ok m)) 1).rect_emb_val t _ 2) h))

/-- The weights that a point reads. -/
theorem at_w : iblk m (ok m) c 2 t y = W m c i :=
  (congrFun (V_main_arg1 m c) _).trans (congrArg (W m c) (Shard.one _ y _ i (Shard.lies _ _ (places _ (adm_eq m) t).2.1.1 (places _ (adm_eq m) t).1.2.2 y _
    ((win0 (adm m (ok m)) 2).rect_emb_val t _ 0) ((win0 (adm m (ok m)) 2).rect_emb_val t _ 1)) h))

/-- The first moments that a point reads. -/
theorem at_m : iblk m (ok m) c 3 t y = M m c i :=
  (congrFun (V_main_arg2 m c) _).trans (congrArg (M m c) (Shard.one _ y _ i (Shard.lies _ _ (places _ (adm_eq m) t).2.1.2.1 (places _ (adm_eq m) t).1.2.2 y _
    ((win0 (adm m (ok m)) 3).rect_emb_val t _ 0) ((win0 (adm m (ok m)) 3).rect_emb_val t _ 1)) h))

/-- The second moments that a point reads. -/
theorem at_v : iblk m (ok m) c 4 t y = N m c i :=
  (congrFun (V_main_arg3 m c) _).trans (congrArg (N m c) (Shard.one _ y _ i (Shard.lies _ _ (places _ (adm_eq m) t).2.1.2.2 (places _ (adm_eq m) t).1.2.2 y _
    ((win0 (adm m (ok m)) 4).rect_emb_val t _ 0) ((win0 (adm m (ok m)) 4).rect_emb_val t _ 1)) h))

/-- What a point leaves in the four results. -/
theorem block : (outsAt0 m (ok m) c t).1 y = Shard.grad (P m c) i ∧ (outsAt0 m (ok m) c t).2.1 y = Shard.change (P m c) (W m c) (M m c) (N m c) i
    ∧ (outsAt0 m (ok m) c t).2.2.1 y = Shard.first (P m c) (M m c) i ∧ (outsAt0 m (ok m) c t).2.2.2 y = Shard.second (P m c) (N m c) i := by
  dsimp only [outsAt0]
  rw [table m]
  have b := Shard.block _ _ shapeCasts_S1x64x2048_S64x2048 (by decide) _ _ _ y (P m c) (W m c) (M m c) (N m c) i (at_own m c t y i h) (at_parts m c t y i h)
    (at_w m c t y i h) (at_m m c t y i h) (at_v m c t y i h)
  refine ⟨(out ..).1.trans ?_, (out ..).2.1.trans ?_, (out ..).2.2.1.trans ?_, (out ..).2.2.2.trans ?_⟩
  · exact b.1
  · exact b.2.1
  · exact b.2.2.1
  · exact b.2.2.2

omit h

/-- The sums the kernel leaves. -/
theorem arr_grad : (dats m (ok m) 0 c).arrAt 5 (cfgM m (ok m)).N = Shard.grad (P m c) := by
  refine (dats m (ok m) 0 c).arrAt_eq_of_covers 5 _ (covers _ (adm_eq m)).1 fun t _ (y : S64x2048.Idx) => ?_
  blk_simp
  rw [after0_5]
  exact (block m c t y _ (Shard.lies _ _ rfl (places _ (adm_eq m) t).1.2.2 y _ ((win0 (adm m (ok m)) 5).rect_emb_val t _ 0) ((win0 (adm m (ok m)) 5).rect_emb_val t _ 1))).1

/-- The changes the kernel leaves. -/
theorem arr_change : (dats m (ok m) 0 c).arrAt 6 (cfgM m (ok m)).N = Shard.change (P m c) (W m c) (M m c) (N m c) := by
  refine (dats m (ok m) 0 c).arrAt_eq_of_covers 6 _ (covers _ (adm_eq m)).2.1 fun t _ (y : S64x2048.Idx) => ?_
  blk_simp
  rw [after0_6]
  exact (block m c t y _ (Shard.lies _ _ (places _ (adm_eq m) t).2.2.1 (places _ (adm_eq m) t).1.2.2 y _ ((win0 (adm m (ok m)) 6).rect_emb_val t _ 0) ((win0 (adm m (ok m)) 6).rect_emb_val t _ 1))).2.1

/-- The first moments the kernel leaves. -/
theorem arr_first : (dats m (ok m) 0 c).arrAt 7 (cfgM m (ok m)).N = Shard.first (P m c) (M m c) := by
  refine (dats m (ok m) 0 c).arrAt_eq_of_covers 7 _ (covers _ (adm_eq m)).2.2.1 fun t _ (y : S64x2048.Idx) => ?_
  blk_simp
  rw [after0_7]
  exact (block m c t y _ (Shard.lies _ _ (places _ (adm_eq m) t).2.2.2.1 (places _ (adm_eq m) t).1.2.2 y _ ((win0 (adm m (ok m)) 7).rect_emb_val t _ 0) ((win0 (adm m (ok m)) 7).rect_emb_val t _ 1))).2.2.1

/-- The second moments the kernel leaves. -/
theorem arr_second : (dats m (ok m) 0 c).arrAt 8 (cfgM m (ok m)).N = Shard.second (P m c) (N m c) := by
  refine (dats m (ok m) 0 c).arrAt_eq_of_covers 8 _ (covers _ (adm_eq m)).2.2.2 fun t _ (y : S64x2048.Idx) => ?_
  blk_simp
  rw [after0_8]
  exact (block m c t y _ (Shard.lies _ _ (places _ (adm_eq m) t).2.2.2.2 (places _ (adm_eq m) t).1.2.2 y _ ((win0 (adm m (ok m)) 8).rect_emb_val t _ 0) ((win0 (adm m (ok m)) 8).rect_emb_val t _ 1))).2.2.2

/-- The kernel runs, and leaves these. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v5_0) = Shard.grad (P m c) ∧ r.2.mem ((c.tc : Thread nD τ).loc main_v5_1) = Shard.change (P m c) (W m c) (M m c) (N m c)
    ∧ r.2.mem ((c.tc : Thread nD τ).loc main_v5_2) = Shard.first (P m c) (M m c) ∧ r.2.mem ((c.tc : Thread nD τ).loc main_v5_3) = Shard.second (P m c) (N m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 5).trans (arr_grad m c), ((h.2 c).1 6).trans (arr_change m c),
    ((h.2 c).1 7).trans (arr_first m c), ((h.2 c).1 8).trans (arr_second m c), h.1 c⟩)
    (θ_run_and (unchanged m g (ok m)) (run_main m g (ok m)))

open Cert.Reference17Ideal.Read in
/-- The reference's sum, entry by entry. -/
theorem ref_grad (x0 : Vec Ideal S8x256x2048 .f32) (i : S256x2048.Idx) : val_main_v0 (F := Ideal) x0 i = Shard.grad x0 i := by
  rw [val_main_v0_apply]
  rw [show val_main_cst (F := Ideal) (Shape.Idx.first Cert.Reference17Ideal.Gen.h_S_) = 0 from Ideal.ofBits_zero_f32, zero_add]
  exact Finset.sum_congr rfl fun _ _ => congrArg x0 (eq_ix3 _)

open Cert.Reference17Ideal.Read in
/-- The reference's first moments. -/
theorem ref_first (x0 : Vec Ideal S8x256x2048 .f32) (x2 : Vec Ideal S256x2048 .f32) (i : S256x2048.Idx) :
    val_main_v5 (F := Ideal) x0 x2 i = Shard.first x0 x2 i :=
  congrArg (Adam.first (x2 i)) (ref_grad x0 i)

open Cert.Reference17Ideal.Read in
/-- The reference's second moments. -/
theorem ref_second (x0 : Vec Ideal S8x256x2048 .f32) (x3 : Vec Ideal S256x2048 .f32) (i : S256x2048.Idx) :
    val_main_v11 (F := Ideal) x0 x3 i = Shard.second x0 x3 i :=
  congrArg (Adam.second (x3 i)) (ref_grad x0 i)

open Cert.Reference17Ideal.Read in
/-- The reference's changes. -/
theorem ref_change (x0 : Vec Ideal S8x256x2048 .f32) (x1 x2 x3 : Vec Ideal S256x2048 .f32) (i : S256x2048.Idx) :
    val_main_v24 (F := Ideal) x0 x1 x2 x3 i = Shard.change x0 x1 x2 x3 i :=
  congrArg (fun g => Adam.change (x1 i) g (x2 i) (x3 i)) (ref_grad x0 i)

/-- The kernel's results are the reference's. -/
theorem algebraic : Cert.algebraic_Kernel17Ideal_Reference17Ideal := by
  intro m g m' g' _ hagree
  refine ⟨_, _, _, _, run m g, ?_⟩
  refine (θ_run Cert.Reference17Ideal.defs _ _).mono
    (fun _ h c => ⟨(h c).1.trans ?_, (h c).2.1.trans ?_, (h c).2.2.1.trans ?_, (h c).2.2.2.1.trans ?_, (h c).2.2.2.2⟩)
    (Cert.Reference17Ideal.Value.run (F := Ideal) m' g')
  · rw [(hagree c).1]
    exact funext (ref_grad _)
  · rw [(hagree c).1, (hagree c).2.1, (hagree c).2.2.1, (hagree c).2.2.2]
    exact funext (ref_change _ _ _ _)
  · rw [(hagree c).1, (hagree c).2.2.1]
    exact funext (ref_first _ _)
  · rw [(hagree c).1, (hagree c).2.2.2]
    exact funext (ref_second _ _)

end ShardOut

end

end
-- ==== Proof.ShardGlu.lean ====
module

public import proofs.«01_k».proof.Defs
public import proofs.«01_k».proof.Proof.Shard
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Pipeline.ValueKit

/-! The optimiser's step of the state space gate's weight, with the sum of its gradient over the devices. -/

@[expose] public section

set_option maxRecDepth 16384

noncomputable section

namespace ShardGlu

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel18Ideal Cert.Kernel18Ideal.Gen

section

variable {F : FTy → Type} [FloatOps F] (m : (ℓ : Loc nD τ sig) → Buf (Elt F) ℓ)

/-- The table of places: the device is the first, and so is its own part. -/
theorem table : tbl m 0 = fun _ => 0#32 := by
  unfold tbl V
  show (StableHlo.after hostOps0 (fun b => m (0, b)) main_v4 : S2.Idx → BitVec 32) = _
  after_results
  exact Shard.pair _ _ (fun _ => rfl) (fun _ => rfl) _

/-- The table whose entries are all zero. -/
def zeros : pre0.Contents (Elt F) := fun j => match j with
  | 0 => fun _ => 0#32

/-- That is the table. -/
theorem table_eq : tbl m = zeros := funext fun j => match j with
  | 0 => table m

/-- With this table every block lies in its array. -/
theorem ok_zeros : ok0 (F := F) zeros := by
  unfold ok0
  intro i
  have h : ∀ k : Fin 4, ∀ a : Fin 3,
      ((![0, (BitVec.ofNat 32 k.val).toNat, 0] : Fin 3 → ℕ) a + 1) * S1x256x512.size a ≤ S8x1024x512.size a := by decide
  exact ⟨fun a => h (i 0) a, .inl rfl⟩

/-- So it does with the program's own. -/
theorem ok : Ok m := (congrArg ok0 (table_eq m)).mpr ok_zeros

end

/-- The table, and that its blocks lie in their arrays. -/
def Z : (pcfg0 (F := Ideal)).Adm := ⟨zeros, ok_zeros⟩

/-- The windows of the gradient and of the results go through all of their arrays. -/
theorem covers (a : (pcfg0 (F := Ideal)).Adm) (e : a = Z) :
    (win0 a 5).Covers ∧ (win0 a 6).Covers ∧ (win0 a 7).Covers ∧ (win0 a 8).Covers := by
  subst e
  exact ⟨by decide +kernel, by decide +kernel, by decide +kernel, by decide +kernel⟩

/-- All windows walk down the rows together. -/
theorem places (a : (pcfg0 (F := Ideal)).Adm) (e : a = Z) : ∀ t : Fin (cfg0 a).N,
    ((win0 a 0).index t = ![0, (win0 a 5).index t 0, 0] ∧ (win0 a 1).index t = ![0, (win0 a 5).index t 0, 0] ∧ (win0 a 5).index t 1 = 0)
    ∧ ((win0 a 2).index t = (win0 a 5).index t ∧ (win0 a 3).index t = (win0 a 5).index t ∧ (win0 a 4).index t = (win0 a 5).index t)
    ∧ (win0 a 6).index t = (win0 a 5).index t ∧ (win0 a 7).index t = (win0 a 5).index t ∧ (win0 a 8).index t = (win0 a 5).index t := by
  subst e
  decide +kernel

section

variable (c : Dev nD) (i : grid0.Coords) (a2) (h2) (a3) (h3) (a4) (h4) (a5) (h5) (a6) (h6) (a7) (h7) (a8) (h8) (a9) (h9) (a10) (h10)
  (x0 : Vec Ideal S8x256x512 .bf16) (x1 : Vec Ideal S1x256x512 .f32) (x2 x3 x4 : Vec Ideal S256x512 .f32) (y : S256x512.Idx)

/-- The sum of the gradient's parts that a point makes. -/
abbrev added : EReal := Shard.sum (r := 256) (n := 512) x0 x1 shapeCasts_S1x256x512_S256x512 (by decide) y

/-- What a point leaves: the sum, the changes and the new moments. -/
theorem out : out0_A_5 (F := Ideal) c i a2 h2 a3 h3 a4 h4 a5 h5 a6 h6 a7 h7 a8 h8 a9 h9 a10 h10 x0 x1 x2 x3 x4 (fun _ => 0#32) y = added x0 x1 y
    ∧ out0_A_6 (F := Ideal) c i a2 h2 a3 h3 a4 h4 a5 h5 a6 h6 a7 h7 a8 h8 a9 h9 a10 h10 x0 x1 x2 x3 x4 (fun _ => 0#32) y
      = Adam.change (x2 y) (added x0 x1 y) (x3 y) (x4 y)
    ∧ out0_A_7 (F := Ideal) c i a2 h2 a3 h3 a4 h4 a5 h5 a6 h6 a7 h7 a8 h8 a9 h9 a10 h10 x0 x1 x2 x3 x4 (fun _ => 0#32) y = Adam.first (x3 y) (added x0 x1 y)
    ∧ out0_A_8 (F := Ideal) c i a2 h2 a3 h3 a4 h4 a5 h5 a6 h6 a7 h7 a8 h8 a9 h9 a10 h10 x0 x1 x2 x3 x4 (fun _ => 0#32) y = Adam.second (x4 y) (added x0 x1 y) := by
  refine ⟨?_, ?_, ?_, ?_⟩ <;> frame_out <;> rfl

end

variable (m : (ℓ : Loc nD τ sig) → Buf (Elt Ideal) ℓ) (c : Dev nD)

/-- The program's own table is that of zeros. -/
theorem adm_eq : adm m (ok m) = Z := Subtype.ext (table_eq m)

/-- What the call is given: the parts of the gradient. -/
abbrev P : S8x1024x512.Idx → EReal := m ((c : Thread nD τ).loc main_arg0)

/-- The weights. -/
abbrev W : S1024x512.Idx → EReal := m ((c : Thread nD τ).loc main_arg1)

/-- The first moments. -/
abbrev M : S1024x512.Idx → EReal := m ((c : Thread nD τ).loc main_arg2)

/-- The second moments. -/
abbrev N : S1024x512.Idx → EReal := m ((c : Thread nD τ).loc main_arg3)

/-- The stack that the call reads is the parts themselves. -/
theorem stack : V m c main_v0 = P m c := by
  unfold V
  after_results
  rfl

variable (t : Fin (cfgM m (ok m)).N) (y : S256x512.Idx) (i : S1024x512.Idx) (h : Shard.Lies (((win0 (adm m (ok m)) 5).index t : Fin 2 → ℕ)) y i)

include h

/-- The parts that a point reads. -/
theorem at_parts (k : Fin 8) : iblk m (ok m) c 0 t (ix3 k (y 0) (y 1)) = P m c (ix3 k (i 0) (i 1)) :=
  (congrFun (stack m c) _).trans (congrArg (P m c) (Shard.one_stack _ _ (places _ (adm_eq m) t).1.1 k k rfl y _ i
    ((win0 (adm m (ok m)) 0).rect_emb_val t _ 0) ((win0 (adm m (ok m)) 0).rect_emb_val t _ 1) ((win0 (adm m (ok m)) 0).rect_emb_val t _ 2) h))

/-- The device's own part that a point reads. -/
theorem at_own : iblk m (ok m) c 1 t (ix3 (0 : Fin 1) (y 0) (y 1)) = P m c (ix3 (0 : Fin 8) (i 0) (i 1)) :=
  (congrFun (V_main_arg0 m c) _).trans (congrArg (P m c)
    (Shard.one_stack _ _ (places _ (adm_eq m) t).1.2.1 (0 : Fin 1) (0 : Fin 8) rfl y _ i ((win0 (adm m (ok m)) 1).rect_emb_val t _ 0) ((win0 (adm m (ok m)) 1).rect_emb_val t _ 1) ((win0 (adm m (ok m)) 1).rect_emb_val t _ 2) h))

/-- The weights that a point reads. -/
theorem at_w : iblk m (ok m) c 2 t y = W m c i :=
  (congrFun (V_main_arg1 m c) _).trans (congrArg (W m c) (Shard.one _ y _ i (Shard.lies _ _ (places _ (adm_eq m) t).2.1.1 (places _ (adm_eq m) t).1.2.2 y _
    ((win0 (adm m (ok m)) 2).rect_emb_val t _ 0) ((win0 (adm m (ok m)) 2).rect_emb_val t _ 1)) h))

/-- The first moments that a point reads. -/
theorem at_m : iblk m (ok m) c 3 t y = M m c i :=
  (congrFun (V_main_arg2 m c) _).trans (congrArg (M m c) (Shard.one _ y _ i (Shard.lies _ _ (places _ (adm_eq m) t).2.1.2.1 (places _ (adm_eq m) t).1.2.2 y _
    ((win0 (adm m (ok m)) 3).rect_emb_val t _ 0) ((win0 (adm m (ok m)) 3).rect_emb_val t _ 1)) h))

/-- The second moments that a point reads. -/
theorem at_v : iblk m (ok m) c 4 t y = N m c i :=
  (congrFun (V_main_arg3 m c) _).trans (congrArg (N m c) (Shard.one _ y _ i (Shard.lies _ _ (places _ (adm_eq m) t).2.1.2.2 (places _ (adm_eq m) t).1.2.2 y _
    ((win0 (adm m (ok m)) 4).rect_emb_val t _ 0) ((win0 (adm m (ok m)) 4).rect_emb_val t _ 1)) h))

/-- What a point leaves in the four results. -/
theorem block : (outsAt0 m (ok m) c t).1 y = Shard.grad (P m c) i ∧ (outsAt0 m (ok m) c t).2.1 y = Shard.change (P m c) (W m c) (M m c) (N m c) i
    ∧ (outsAt0 m (ok m) c t).2.2.1 y = Shard.first (P m c) (M m c) i ∧ (outsAt0 m (ok m) c t).2.2.2 y = Shard.second (P m c) (N m c) i := by
  dsimp only [outsAt0]
  rw [table m]
  have b := Shard.block _ _ shapeCasts_S1x256x512_S256x512 (by decide) _ _ _ y (P m c) (W m c) (M m c) (N m c) i (at_own m c t y i h) (at_parts m c t y i h)
    (at_w m c t y i h) (at_m m c t y i h) (at_v m c t y i h)
  refine ⟨(out ..).1.trans ?_, (out ..).2.1.trans ?_, (out ..).2.2.1.trans ?_, (out ..).2.2.2.trans ?_⟩
  · exact b.1
  · exact b.2.1
  · exact b.2.2.1
  · exact b.2.2.2

omit h

/-- The sums the kernel leaves. -/
theorem arr_grad : (dats m (ok m) 0 c).arrAt 5 (cfgM m (ok m)).N = Shard.grad (P m c) := by
  refine (dats m (ok m) 0 c).arrAt_eq_of_covers 5 _ (covers _ (adm_eq m)).1 fun t _ (y : S256x512.Idx) => ?_
  blk_simp
  rw [after0_5]
  exact (block m c t y _ (Shard.lies _ _ rfl (places _ (adm_eq m) t).1.2.2 y _ ((win0 (adm m (ok m)) 5).rect_emb_val t _ 0) ((win0 (adm m (ok m)) 5).rect_emb_val t _ 1))).1

/-- The changes the kernel leaves. -/
theorem arr_change : (dats m (ok m) 0 c).arrAt 6 (cfgM m (ok m)).N = Shard.change (P m c) (W m c) (M m c) (N m c) := by
  refine (dats m (ok m) 0 c).arrAt_eq_of_covers 6 _ (covers _ (adm_eq m)).2.1 fun t _ (y : S256x512.Idx) => ?_
  blk_simp
  rw [after0_6]
  exact (block m c t y _ (Shard.lies _ _ (places _ (adm_eq m) t).2.2.1 (places _ (adm_eq m) t).1.2.2 y _ ((win0 (adm m (ok m)) 6).rect_emb_val t _ 0) ((win0 (adm m (ok m)) 6).rect_emb_val t _ 1))).2.1

/-- The first moments the kernel leaves. -/
theorem arr_first : (dats m (ok m) 0 c).arrAt 7 (cfgM m (ok m)).N = Shard.first (P m c) (M m c) := by
  refine (dats m (ok m) 0 c).arrAt_eq_of_covers 7 _ (covers _ (adm_eq m)).2.2.1 fun t _ (y : S256x512.Idx) => ?_
  blk_simp
  rw [after0_7]
  exact (block m c t y _ (Shard.lies _ _ (places _ (adm_eq m) t).2.2.2.1 (places _ (adm_eq m) t).1.2.2 y _ ((win0 (adm m (ok m)) 7).rect_emb_val t _ 0) ((win0 (adm m (ok m)) 7).rect_emb_val t _ 1))).2.2.1

/-- The second moments the kernel leaves. -/
theorem arr_second : (dats m (ok m) 0 c).arrAt 8 (cfgM m (ok m)).N = Shard.second (P m c) (N m c) := by
  refine (dats m (ok m) 0 c).arrAt_eq_of_covers 8 _ (covers _ (adm_eq m)).2.2.2 fun t _ (y : S256x512.Idx) => ?_
  blk_simp
  rw [after0_8]
  exact (block m c t y _ (Shard.lies _ _ (places _ (adm_eq m) t).2.2.2.2 (places _ (adm_eq m) t).1.2.2 y _ ((win0 (adm m (ok m)) 8).rect_emb_val t _ 0) ((win0 (adm m (ok m)) 8).rect_emb_val t _ 1))).2.2.2

/-- The kernel runs, and leaves these. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v5_0) = Shard.grad (P m c) ∧ r.2.mem ((c.tc : Thread nD τ).loc main_v5_1) = Shard.change (P m c) (W m c) (M m c) (N m c)
    ∧ r.2.mem ((c.tc : Thread nD τ).loc main_v5_2) = Shard.first (P m c) (M m c) ∧ r.2.mem ((c.tc : Thread nD τ).loc main_v5_3) = Shard.second (P m c) (N m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 5).trans (arr_grad m c), ((h.2 c).1 6).trans (arr_change m c),
    ((h.2 c).1 7).trans (arr_first m c), ((h.2 c).1 8).trans (arr_second m c), h.1 c⟩)
    (θ_run_and (unchanged m g (ok m)) (run_main m g (ok m)))

open Cert.Reference18Ideal.Read in
/-- The reference's sum, entry by entry. -/
theorem ref_grad (x0 : Vec Ideal S8x1024x512 .f32) (i : S1024x512.Idx) : val_main_v0 (F := Ideal) x0 i = Shard.grad x0 i := by
  rw [val_main_v0_apply]
  rw [show val_main_cst (F := Ideal) (Shape.Idx.first Cert.Reference18Ideal.Gen.h_S_) = 0 from Ideal.ofBits_zero_f32, zero_add]
  exact Finset.sum_congr rfl fun _ _ => congrArg x0 (eq_ix3 _)

open Cert.Reference18Ideal.Read in
/-- The reference's first moments. -/
theorem ref_first (x0 : Vec Ideal S8x1024x512 .f32) (x2 : Vec Ideal S1024x512 .f32) (i : S1024x512.Idx) :
    val_main_v5 (F := Ideal) x0 x2 i = Shard.first x0 x2 i :=
  congrArg (Adam.first (x2 i)) (ref_grad x0 i)

open Cert.Reference18Ideal.Read in
/-- The reference's second moments. -/
theorem ref_second (x0 : Vec Ideal S8x1024x512 .f32) (x3 : Vec Ideal S1024x512 .f32) (i : S1024x512.Idx) :
    val_main_v11 (F := Ideal) x0 x3 i = Shard.second x0 x3 i :=
  congrArg (Adam.second (x3 i)) (ref_grad x0 i)

open Cert.Reference18Ideal.Read in
/-- The reference's changes. -/
theorem ref_change (x0 : Vec Ideal S8x1024x512 .f32) (x1 x2 x3 : Vec Ideal S1024x512 .f32) (i : S1024x512.Idx) :
    val_main_v24 (F := Ideal) x0 x1 x2 x3 i = Shard.change x0 x1 x2 x3 i :=
  congrArg (fun g => Adam.change (x1 i) g (x2 i) (x3 i)) (ref_grad x0 i)

/-- The kernel's results are the reference's. -/
theorem algebraic : Cert.algebraic_Kernel18Ideal_Reference18Ideal := by
  intro m g m' g' _ hagree
  refine ⟨_, _, _, _, run m g, ?_⟩
  refine (θ_run Cert.Reference18Ideal.defs _ _).mono
    (fun _ h c => ⟨(h c).1.trans ?_, (h c).2.1.trans ?_, (h c).2.2.1.trans ?_, (h c).2.2.2.1.trans ?_, (h c).2.2.2.2⟩)
    (Cert.Reference18Ideal.Value.run (F := Ideal) m' g')
  · rw [(hagree c).1]
    exact funext (ref_grad _)
  · rw [(hagree c).1, (hagree c).2.1, (hagree c).2.2.1, (hagree c).2.2.2]
    exact funext (ref_change _ _ _ _)
  · rw [(hagree c).1, (hagree c).2.2.1]
    exact funext (ref_first _ _)
  · rw [(hagree c).1, (hagree c).2.2.2]
    exact funext (ref_second _ _)

end ShardGlu

end

end
-- ==== Proof.ShardAttn.lean ====
module

public import proofs.«01_k».proof.Defs
public import proofs.«01_k».proof.Proof.Shard
public import proofs.«01_k».proof.Proof.Gen.Kernel19Ideal.Frame
public import proofs.«01_k».proof.Proof.Gen.Reference19Ideal.Run
public import proofs.«01_k».proof.Proof.Gen.Reference19Ideal.Read
public import Idealize.ShloMosaic.Lib.Pipeline.ValueKit

/-! The optimiser's step of the attention projection's weight, with the sum of its gradient over the devices. -/

@[expose] public section

set_option maxRecDepth 16384

noncomputable section

namespace ShardAttn

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel19Ideal Cert.Kernel19Ideal.Gen

section

variable {F : FTy → Type} [FloatOps F] (m : (ℓ : Loc nD τ sig) → Buf (Elt F) ℓ)

/-- The table of places: the device is the first, and so is its own part. -/
theorem table : tbl m 0 = fun _ => 0#32 := by
  unfold tbl V
  show (StableHlo.after hostOps0 (fun b => m (0, b)) main_v4 : S2.Idx → BitVec 32) = _
  after_results
  exact Shard.pair _ _ (fun _ => rfl) (fun _ => rfl) _

/-- The table whose entries are all zero. -/
def zeros : pre0.Contents (Elt F) := fun j => match j with
  | 0 => fun _ => 0#32

/-- That is the table. -/
theorem table_eq : tbl m = zeros := funext fun j => match j with
  | 0 => table m

/-- With this table every block lies in its array. -/
theorem ok_zeros : ok0 (F := F) zeros := by
  unfold ok0
  intro i
  have h : ∀ k : Fin 2, ∀ a : Fin 3,
      ((![0, (BitVec.ofNat 32 k.val).toNat, 0] : Fin 3 → ℕ) a + 1) * S1x512x256.size a ≤ S8x1024x256.size a := by decide
  exact ⟨fun a => h (i 0) a, .inl rfl⟩

/-- So it does with the program's own. -/
theorem ok : Ok m := (congrArg ok0 (table_eq m)).mpr ok_zeros

end

/-- The table, and that its blocks lie in their arrays. -/
def Z : (pcfg0 (F := Ideal)).Adm := ⟨zeros, ok_zeros⟩

/-- The windows of the gradient and of the results go through all of their arrays. -/
theorem covers (a : (pcfg0 (F := Ideal)).Adm) (e : a = Z) :
    (win0 a 5).Covers ∧ (win0 a 6).Covers ∧ (win0 a 7).Covers ∧ (win0 a 8).Covers := by
  subst e
  exact ⟨by decide +kernel, by decide +kernel, by decide +kernel, by decide +kernel⟩

/-- All windows walk down the rows together. -/
theorem places (a : (pcfg0 (F := Ideal)).Adm) (e : a = Z) : ∀ t : Fin (cfg0 a).N,
    ((win0 a 0).index t = ![0, (win0 a 5).index t 0, 0] ∧ (win0 a 1).index t = ![0, (win0 a 5).index t 0, 0] ∧ (win0 a 5).index t 1 = 0)
    ∧ ((win0 a 2).index t = (win0 a 5).index t ∧ (win0 a 3).index t = (win0 a 5).index t ∧ (win0 a 4).index t = (win0 a 5).index t)
    ∧ (win0 a 6).index t = (win0 a 5).index t ∧ (win0 a 7).index t = (win0 a 5).index t ∧ (win0 a 8).index t = (win0 a 5).index t := by
  subst e
  decide +kernel

section

variable (c : Dev nD) (i : grid0.Coords) (a2) (h2) (a3) (h3) (a4) (h4) (a5) (h5) (a6) (h6) (a7) (h7) (a8) (h8) (a9) (h9) (a10) (h10)
  (x0 : Vec Ideal S8x512x256 .bf16) (x1 : Vec Ideal S1x512x256 .f32) (x2 x3 x4 : Vec Ideal S512x256 .f32) (y : S512x256.Idx)

/-- The sum of the gradient's parts that a point makes. -/
abbrev added : EReal := Shard.sum (r := 512) (n := 256) x0 x1 shapeCasts_S1x512x256_S512x256 (by decide) y

/-- What a point leaves: the sum, the changes and the new moments. -/
theorem out : out0_A_5 (F := Ideal) c i a2 h2 a3 h3 a4 h4 a5 h5 a6 h6 a7 h7 a8 h8 a9 h9 a10 h10 x0 x1 x2 x3 x4 (fun _ => 0#32) y = added x0 x1 y
    ∧ out0_A_6 (F := Ideal) c i a2 h2 a3 h3 a4 h4 a5 h5 a6 h6 a7 h7 a8 h8 a9 h9 a10 h10 x0 x1 x2 x3 x4 (fun _ => 0#32) y
      = Adam.change (x2 y) (added x0 x1 y) (x3 y) (x4 y)
    ∧ out0_A_7 (F := Ideal) c i a2 h2 a3 h3 a4 h4 a5 h5 a6 h6 a7 h7 a8 h8 a9 h9 a10 h10 x0 x1 x2 x3 x4 (fun _ => 0#32) y = Adam.first (x3 y) (added x0 x1 y)
    ∧ out0_A_8 (F := Ideal) c i a2 h2 a3 h3 a4 h4 a5 h5 a6 h6 a7 h7 a8 h8 a9 h9 a10 h10 x0 x1 x2 x3 x4 (fun _ => 0#32) y = Adam.second (x4 y) (added x0 x1 y) := by
  refine ⟨?_, ?_, ?_, ?_⟩ <;> frame_out <;> rfl

end

variable (m : (ℓ : Loc nD τ sig) → Buf (Elt Ideal) ℓ) (c : Dev nD)

/-- The program's own table is that of zeros. -/
theorem adm_eq : adm m (ok m) = Z := Subtype.ext (table_eq m)

/-- What the call is given: the parts of the gradient. -/
abbrev P : S8x1024x256.Idx → EReal := m ((c : Thread nD τ).loc main_arg0)

/-- The weights. -/
abbrev W : S1024x256.Idx → EReal := m ((c : Thread nD τ).loc main_arg1)

/-- The first moments. -/
abbrev M : S1024x256.Idx → EReal := m ((c : Thread nD τ).loc main_arg2)

/-- The second moments. -/
abbrev N : S1024x256.Idx → EReal := m ((c : Thread nD τ).loc main_arg3)

/-- The stack that the call reads is the parts themselves. -/
theorem stack : V m c main_v0 = P m c := by
  unfold V
  after_results
  rfl

variable (t : Fin (cfgM m (ok m)).N) (y : S512x256.Idx) (i : S1024x256.Idx) (h : Shard.Lies (((win0 (adm m (ok m)) 5).index t : Fin 2 → ℕ)) y i)

include h

/-- The parts that a point reads. -/
theorem at_parts (k : Fin 8) : iblk m (ok m) c 0 t (ix3 k (y 0) (y 1)) = P m c (ix3 k (i 0) (i 1)) :=
  (congrFun (stack m c) _).trans (congrArg (P m c) (Shard.one_stack _ _ (places _ (adm_eq m) t).1.1 k k rfl y _ i
    ((win0 (adm m (ok m)) 0).rect_emb_val t _ 0) ((win0 (adm m (ok m)) 0).rect_emb_val t _ 1) ((win0 (adm m (ok m)) 0).rect_emb_val t _ 2) h))

/-- The device's own part that a point reads. -/
theorem at_own : iblk m (ok m) c 1 t (ix3 (0 : Fin 1) (y 0) (y 1)) = P m c (ix3 (0 : Fin 8) (i 0) (i 1)) :=
  (congrFun (V_main_arg0 m c) _).trans (congrArg (P m c)
    (Shard.one_stack _ _ (places _ (adm_eq m) t).1.2.1 (0 : Fin 1) (0 : Fin 8) rfl y _ i ((win0 (adm m (ok m)) 1).rect_emb_val t _ 0) ((win0 (adm m (ok m)) 1).rect_emb_val t _ 1) ((win0 (adm m (ok m)) 1).rect_emb_val t _ 2) h))

/-- The weights that a point reads. -/
theorem at_w : iblk m (ok m) c 2 t y = W m c i :=
  (congrFun (V_main_arg1 m c) _).trans (congrArg (W m c) (Shard.one _ y _ i (Shard.lies _ _ (places _ (adm_eq m) t).2.1.1 (places _ (adm_eq m) t).1.2.2 y _
    ((win0 (adm m (ok m)) 2).rect_emb_val t _ 0) ((win0 (adm m (ok m)) 2).rect_emb_val t _ 1)) h))

/-- The first moments that a point reads. -/
theorem at_m : iblk m (ok m) c 3 t y = M m c i :=
  (congrFun (V_main_arg2 m c) _).trans (congrArg (M m c) (Shard.one _ y _ i (Shard.lies _ _ (places _ (adm_eq m) t).2.1.2.1 (places _ (adm_eq m) t).1.2.2 y _
    ((win0 (adm m (ok m)) 3).rect_emb_val t _ 0) ((win0 (adm m (ok m)) 3).rect_emb_val t _ 1)) h))

/-- The second moments that a point reads. -/
theorem at_v : iblk m (ok m) c 4 t y = N m c i :=
  (congrFun (V_main_arg3 m c) _).trans (congrArg (N m c) (Shard.one _ y _ i (Shard.lies _ _ (places _ (adm_eq m) t).2.1.2.2 (places _ (adm_eq m) t).1.2.2 y _
    ((win0 (adm m (ok m)) 4).rect_emb_val t _ 0) ((win0 (adm m (ok m)) 4).rect_emb_val t _ 1)) h))

/-- What a point leaves in the four results. -/
theorem block : (outsAt0 m (ok m) c t).1 y = Shard.grad (P m c) i ∧ (outsAt0 m (ok m) c t).2.1 y = Shard.change (P m c) (W m c) (M m c) (N m c) i
    ∧ (outsAt0 m (ok m) c t).2.2.1 y = Shard.first (P m c) (M m c) i ∧ (outsAt0 m (ok m) c t).2.2.2 y = Shard.second (P m c) (N m c) i := by
  dsimp only [outsAt0]
  rw [table m]
  have b := Shard.block _ _ shapeCasts_S1x512x256_S512x256 (by decide) _ _ _ y (P m c) (W m c) (M m c) (N m c) i (at_own m c t y i h) (at_parts m c t y i h)
    (at_w m c t y i h) (at_m m c t y i h) (at_v m c t y i h)
  refine ⟨(out ..).1.trans ?_, (out ..).2.1.trans ?_, (out ..).2.2.1.trans ?_, (out ..).2.2.2.trans ?_⟩
  · exact b.1
  · exact b.2.1
  · exact b.2.2.1
  · exact b.2.2.2

omit h

/-- The sums the kernel leaves. -/
theorem arr_grad : (dats m (ok m) 0 c).arrAt 5 (cfgM m (ok m)).N = Shard.grad (P m c) := by
  refine (dats m (ok m) 0 c).arrAt_eq_of_covers 5 _ (covers _ (adm_eq m)).1 fun t _ (y : S512x256.Idx) => ?_
  blk_simp
  rw [after0_5]
  exact (block m c t y _ (Shard.lies _ _ rfl (places _ (adm_eq m) t).1.2.2 y _ ((win0 (adm m (ok m)) 5).rect_emb_val t _ 0) ((win0 (adm m (ok m)) 5).rect_emb_val t _ 1))).1

/-- The changes the kernel leaves. -/
theorem arr_change : (dats m (ok m) 0 c).arrAt 6 (cfgM m (ok m)).N = Shard.change (P m c) (W m c) (M m c) (N m c) := by
  refine (dats m (ok m) 0 c).arrAt_eq_of_covers 6 _ (covers _ (adm_eq m)).2.1 fun t _ (y : S512x256.Idx) => ?_
  blk_simp
  rw [after0_6]
  exact (block m c t y _ (Shard.lies _ _ (places _ (adm_eq m) t).2.2.1 (places _ (adm_eq m) t).1.2.2 y _ ((win0 (adm m (ok m)) 6).rect_emb_val t _ 0) ((win0 (adm m (ok m)) 6).rect_emb_val t _ 1))).2.1

/-- The first moments the kernel leaves. -/
theorem arr_first : (dats m (ok m) 0 c).arrAt 7 (cfgM m (ok m)).N = Shard.first (P m c) (M m c) := by
  refine (dats m (ok m) 0 c).arrAt_eq_of_covers 7 _ (covers _ (adm_eq m)).2.2.1 fun t _ (y : S512x256.Idx) => ?_
  blk_simp
  rw [after0_7]
  exact (block m c t y _ (Shard.lies _ _ (places _ (adm_eq m) t).2.2.2.1 (places _ (adm_eq m) t).1.2.2 y _ ((win0 (adm m (ok m)) 7).rect_emb_val t _ 0) ((win0 (adm m (ok m)) 7).rect_emb_val t _ 1))).2.2.1

/-- The second moments the kernel leaves. -/
theorem arr_second : (dats m (ok m) 0 c).arrAt 8 (cfgM m (ok m)).N = Shard.second (P m c) (N m c) := by
  refine (dats m (ok m) 0 c).arrAt_eq_of_covers 8 _ (covers _ (adm_eq m)).2.2.2 fun t _ (y : S512x256.Idx) => ?_
  blk_simp
  rw [after0_8]
  exact (block m c t y _ (Shard.lies _ _ (places _ (adm_eq m) t).2.2.2.2 (places _ (adm_eq m) t).1.2.2 y _ ((win0 (adm m (ok m)) 8).rect_emb_val t _ 0) ((win0 (adm m (ok m)) 8).rect_emb_val t _ 1))).2.2.2

/-- The kernel runs, and leaves these. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v5_0) = Shard.grad (P m c) ∧ r.2.mem ((c.tc : Thread nD τ).loc main_v5_1) = Shard.change (P m c) (W m c) (M m c) (N m c)
    ∧ r.2.mem ((c.tc : Thread nD τ).loc main_v5_2) = Shard.first (P m c) (M m c) ∧ r.2.mem ((c.tc : Thread nD τ).loc main_v5_3) = Shard.second (P m c) (N m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 5).trans (arr_grad m c), ((h.2 c).1 6).trans (arr_change m c),
    ((h.2 c).1 7).trans (arr_first m c), ((h.2 c).1 8).trans (arr_second m c), h.1 c⟩)
    (θ_run_and (unchanged m g (ok m)) (run_main m g (ok m)))

open Cert.Reference19Ideal.Read in
/-- The reference's sum, entry by entry. -/
theorem ref_grad (x0 : Vec Ideal S8x1024x256 .f32) (i : S1024x256.Idx) : val_main_v0 (F := Ideal) x0 i = Shard.grad x0 i := by
  rw [val_main_v0_apply]
  rw [show val_main_cst (F := Ideal) (Shape.Idx.first Cert.Reference19Ideal.Gen.h_S_) = 0 from Ideal.ofBits_zero_f32, zero_add]
  exact Finset.sum_congr rfl fun _ _ => congrArg x0 (eq_ix3 _)

open Cert.Reference19Ideal.Read in
/-- The reference's first moments. -/
theorem ref_first (x0 : Vec Ideal S8x1024x256 .f32) (x2 : Vec Ideal S1024x256 .f32) (i : S1024x256.Idx) :
    val_main_v5 (F := Ideal) x0 x2 i = Shard.first x0 x2 i :=
  congrArg (Adam.first (x2 i)) (ref_grad x0 i)

open Cert.Reference19Ideal.Read in
/-- The reference's second moments. -/
theorem ref_second (x0 : Vec Ideal S8x1024x256 .f32) (x3 : Vec Ideal S1024x256 .f32) (i : S1024x256.Idx) :
    val_main_v11 (F := Ideal) x0 x3 i = Shard.second x0 x3 i :=
  congrArg (Adam.second (x3 i)) (ref_grad x0 i)

open Cert.Reference19Ideal.Read in
/-- The reference's changes. -/
theorem ref_change (x0 : Vec Ideal S8x1024x256 .f32) (x1 x2 x3 : Vec Ideal S1024x256 .f32) (i : S1024x256.Idx) :
    val_main_v24 (F := Ideal) x0 x1 x2 x3 i = Shard.change x0 x1 x2 x3 i :=
  congrArg (fun g => Adam.change (x1 i) g (x2 i) (x3 i)) (ref_grad x0 i)

/-- The kernel's results are the reference's. -/
theorem algebraic : Cert.algebraic_Kernel19Ideal_Reference19Ideal := by
  intro m g m' g' _ hagree
  refine ⟨_, _, _, _, run m g, ?_⟩
  refine (θ_run Cert.Reference19Ideal.defs _ _).mono
    (fun _ h c => ⟨(h c).1.trans ?_, (h c).2.1.trans ?_, (h c).2.2.1.trans ?_, (h c).2.2.2.1.trans ?_, (h c).2.2.2.2⟩)
    (Cert.Reference19Ideal.Value.run (F := Ideal) m' g')
  · rw [(hagree c).1]
    exact funext (ref_grad _)
  · rw [(hagree c).1, (hagree c).2.1, (hagree c).2.2.1, (hagree c).2.2.2]
    exact funext (ref_change _ _ _ _)
  · rw [(hagree c).1, (hagree c).2.2.1]
    exact funext (ref_first _ _)
  · rw [(hagree c).1, (hagree c).2.2.2]
    exact funext (ref_second _ _)

end ShardAttn

end

end
-- ==== Proof.ShardConv.lean ====
module

public import proofs.«01_k».proof.Defs
public import proofs.«01_k».proof.Proof.Shard
public import proofs.«01_k».proof.Proof.Gen.Kernel20Ideal.Frame
public import proofs.«01_k».proof.Proof.Gen.Reference20Ideal.Run
public import proofs.«01_k».proof.Proof.Gen.Reference20Ideal.Read
public import Idealize.ShloMosaic.Lib.Pipeline.ValueKit

/-! The optimiser's step of the convolution's weight, with the sum of its gradient over the devices. -/

@[expose] public section

set_option maxRecDepth 16384

noncomputable section

namespace ShardConv

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel20Ideal Cert.Kernel20Ideal.Gen

section

variable {F : FTy → Type} [FloatOps F] (m : (ℓ : Loc nD τ sig) → Buf (Elt F) ℓ)

/-- The table of places: the device is the first, and so is its own part. -/
theorem table : tbl m 0 = fun _ => 0#32 := by
  unfold tbl V
  show (StableHlo.after hostOps0 (fun b => m (0, b)) main_v4 : S2.Idx → BitVec 32) = _
  after_results
  exact Shard.pair _ _ (fun _ => rfl) (fun _ => rfl) _

/-- The table whose entries are all zero. -/
def zeros : pre0.Contents (Elt F) := fun j => match j with
  | 0 => fun _ => 0#32

/-- That is the table. -/
theorem table_eq : tbl m = zeros := funext fun j => match j with
  | 0 => table m

/-- With this table every block lies in its array. -/
theorem ok_zeros : ok0 (F := F) zeros := by
  unfold ok0
  intro i
  have h : ∀ k : Fin 1, ∀ a : Fin 3,
      ((![0, (BitVec.ofNat 32 k.val).toNat, 0] : Fin 3 → ℕ) a + 1) * S1x3x704.size a ≤ S8x3x704.size a := by decide
  exact ⟨fun a => h (i 0) a, .inl rfl⟩

/-- So it does with the program's own. -/
theorem ok : Ok m := (congrArg ok0 (table_eq m)).mpr ok_zeros

end

/-- The table, and that its blocks lie in their arrays. -/
def Z : (pcfg0 (F := Ideal)).Adm := ⟨zeros, ok_zeros⟩

/-- The windows of the gradient and of the results go through all of their arrays. -/
theorem covers (a : (pcfg0 (F := Ideal)).Adm) (e : a = Z) :
    (win0 a 5).Covers ∧ (win0 a 6).Covers ∧ (win0 a 7).Covers ∧ (win0 a 8).Covers := by
  subst e
  exact ⟨by decide +kernel, by decide +kernel, by decide +kernel, by decide +kernel⟩

/-- All windows walk down the rows together. -/
theorem places (a : (pcfg0 (F := Ideal)).Adm) (e : a = Z) : ∀ t : Fin (cfg0 a).N,
    ((win0 a 0).index t = ![0, (win0 a 5).index t 0, 0] ∧ (win0 a 1).index t = ![0, (win0 a 5).index t 0, 0] ∧ (win0 a 5).index t 1 = 0)
    ∧ ((win0 a 2).index t = (win0 a 5).index t ∧ (win0 a 3).index t = (win0 a 5).index t ∧ (win0 a 4).index t = (win0 a 5).index t)
    ∧ (win0 a 6).index t = (win0 a 5).index t ∧ (win0 a 7).index t = (win0 a 5).index t ∧ (win0 a 8).index t = (win0 a 5).index t := by
  subst e
  decide +kernel

section

variable (c : Dev nD) (i : grid0.Coords) (a2) (h2) (a3) (h3) (a4) (h4) (a5) (h5) (a6) (h6) (a7) (h7) (a8) (h8) (a9) (h9) (a10) (h10)
  (x0 : Vec Ideal S8x3x704 .bf16) (x1 : Vec Ideal S1x3x704 .f32) (x2 x3 x4 : Vec Ideal S3x704 .f32) (y : S3x704.Idx)

/-- The sum of the gradient's parts that a point makes. -/
abbrev added : EReal := Shard.sum (r := 3) (n := 704) x0 x1 shapeCasts_S1x3x704_S3x704 (by decide) y

/-- What a point leaves: the sum, the changes and the new moments. -/
theorem out : out0_A_5 (F := Ideal) c i a2 h2 a3 h3 a4 h4 a5 h5 a6 h6 a7 h7 a8 h8 a9 h9 a10 h10 x0 x1 x2 x3 x4 (fun _ => 0#32) y = added x0 x1 y
    ∧ out0_A_6 (F := Ideal) c i a2 h2 a3 h3 a4 h4 a5 h5 a6 h6 a7 h7 a8 h8 a9 h9 a10 h10 x0 x1 x2 x3 x4 (fun _ => 0#32) y
      = Adam.change (x2 y) (added x0 x1 y) (x3 y) (x4 y)
    ∧ out0_A_7 (F := Ideal) c i a2 h2 a3 h3 a4 h4 a5 h5 a6 h6 a7 h7 a8 h8 a9 h9 a10 h10 x0 x1 x2 x3 x4 (fun _ => 0#32) y = Adam.first (x3 y) (added x0 x1 y)
    ∧ out0_A_8 (F := Ideal) c i a2 h2 a3 h3 a4 h4 a5 h5 a6 h6 a7 h7 a8 h8 a9 h9 a10 h10 x0 x1 x2 x3 x4 (fun _ => 0#32) y = Adam.second (x4 y) (added x0 x1 y) := by
  refine ⟨?_, ?_, ?_, ?_⟩ <;> frame_out <;> rfl

end

variable (m : (ℓ : Loc nD τ sig) → Buf (Elt Ideal) ℓ) (c : Dev nD)

/-- The program's own table is that of zeros. -/
theorem adm_eq : adm m (ok m) = Z := Subtype.ext (table_eq m)

/-- What the call is given: the parts of the gradient. -/
abbrev P : S8x3x704.Idx → EReal := m ((c : Thread nD τ).loc main_arg0)

/-- The weights. -/
abbrev W : S3x704.Idx → EReal := m ((c : Thread nD τ).loc main_arg1)

/-- The first moments. -/
abbrev M : S3x704.Idx → EReal := m ((c : Thread nD τ).loc main_arg2)

/-- The second moments. -/
abbrev N : S3x704.Idx → EReal := m ((c : Thread nD τ).loc main_arg3)

/-- The stack that the call reads is the parts themselves. -/
theorem stack : V m c main_v0 = P m c := by
  unfold V
  after_results
  rfl

variable (t : Fin (cfgM m (ok m)).N) (y : S3x704.Idx) (i : S3x704.Idx) (h : Shard.Lies (((win0 (adm m (ok m)) 5).index t : Fin 2 → ℕ)) y i)

include h

/-- The parts that a point reads. -/
theorem at_parts (k : Fin 8) : iblk m (ok m) c 0 t (ix3 k (y 0) (y 1)) = P m c (ix3 k (i 0) (i 1)) :=
  (congrFun (stack m c) _).trans (congrArg (P m c) (Shard.one_stack _ _ (places _ (adm_eq m) t).1.1 k k rfl y _ i
    ((win0 (adm m (ok m)) 0).rect_emb_val t _ 0) ((win0 (adm m (ok m)) 0).rect_emb_val t _ 1) ((win0 (adm m (ok m)) 0).rect_emb_val t _ 2) h))

/-- The device's own part that a point reads. -/
theorem at_own : iblk m (ok m) c 1 t (ix3 (0 : Fin 1) (y 0) (y 1)) = P m c (ix3 (0 : Fin 8) (i 0) (i 1)) :=
  (congrFun (V_main_arg0 m c) _).trans (congrArg (P m c)
    (Shard.one_stack _ _ (places _ (adm_eq m) t).1.2.1 (0 : Fin 1) (0 : Fin 8) rfl y _ i ((win0 (adm m (ok m)) 1).rect_emb_val t _ 0) ((win0 (adm m (ok m)) 1).rect_emb_val t _ 1) ((win0 (adm m (ok m)) 1).rect_emb_val t _ 2) h))

/-- The weights that a point reads. -/
theorem at_w : iblk m (ok m) c 2 t y = W m c i :=
  (congrFun (V_main_arg1 m c) _).trans (congrArg (W m c) (Shard.one _ y _ i (Shard.lies _ _ (places _ (adm_eq m) t).2.1.1 (places _ (adm_eq m) t).1.2.2 y _
    ((win0 (adm m (ok m)) 2).rect_emb_val t _ 0) ((win0 (adm m (ok m)) 2).rect_emb_val t _ 1)) h))

/-- The first moments that a point reads. -/
theorem at_m : iblk m (ok m) c 3 t y = M m c i :=
  (congrFun (V_main_arg2 m c) _).trans (congrArg (M m c) (Shard.one _ y _ i (Shard.lies _ _ (places _ (adm_eq m) t).2.1.2.1 (places _ (adm_eq m) t).1.2.2 y _
    ((win0 (adm m (ok m)) 3).rect_emb_val t _ 0) ((win0 (adm m (ok m)) 3).rect_emb_val t _ 1)) h))

/-- The second moments that a point reads. -/
theorem at_v : iblk m (ok m) c 4 t y = N m c i :=
  (congrFun (V_main_arg3 m c) _).trans (congrArg (N m c) (Shard.one _ y _ i (Shard.lies _ _ (places _ (adm_eq m) t).2.1.2.2 (places _ (adm_eq m) t).1.2.2 y _
    ((win0 (adm m (ok m)) 4).rect_emb_val t _ 0) ((win0 (adm m (ok m)) 4).rect_emb_val t _ 1)) h))

/-- What a point leaves in the four results. -/
theorem block : (outsAt0 m (ok m) c t).1 y = Shard.grad (P m c) i ∧ (outsAt0 m (ok m) c t).2.1 y = Shard.change (P m c) (W m c) (M m c) (N m c) i
    ∧ (outsAt0 m (ok m) c t).2.2.1 y = Shard.first (P m c) (M m c) i ∧ (outsAt0 m (ok m) c t).2.2.2 y = Shard.second (P m c) (N m c) i := by
  dsimp only [outsAt0]
  rw [table m]
  have b := Shard.block _ _ shapeCasts_S1x3x704_S3x704 (by decide) _ _ _ y (P m c) (W m c) (M m c) (N m c) i (at_own m c t y i h) (at_parts m c t y i h)
    (at_w m c t y i h) (at_m m c t y i h) (at_v m c t y i h)
  refine ⟨(out ..).1.trans ?_, (out ..).2.1.trans ?_, (out ..).2.2.1.trans ?_, (out ..).2.2.2.trans ?_⟩
  · exact b.1
  · exact b.2.1
  · exact b.2.2.1
  · exact b.2.2.2

omit h

/-- The sums the kernel leaves. -/
theorem arr_grad : (dats m (ok m) 0 c).arrAt 5 (cfgM m (ok m)).N = Shard.grad (P m c) := by
  refine (dats m (ok m) 0 c).arrAt_eq_of_covers 5 _ (covers _ (adm_eq m)).1 fun t _ (y : S3x704.Idx) => ?_
  blk_simp
  rw [after0_5]
  exact (block m c t y _ (Shard.lies _ _ rfl (places _ (adm_eq m) t).1.2.2 y _ ((win0 (adm m (ok m)) 5).rect_emb_val t _ 0) ((win0 (adm m (ok m)) 5).rect_emb_val t _ 1))).1

/-- The changes the kernel leaves. -/
theorem arr_change : (dats m (ok m) 0 c).arrAt 6 (cfgM m (ok m)).N = Shard.change (P m c) (W m c) (M m c) (N m c) := by
  refine (dats m (ok m) 0 c).arrAt_eq_of_covers 6 _ (covers _ (adm_eq m)).2.1 fun t _ (y : S3x704.Idx) => ?_
  blk_simp
  rw [after0_6]
  exact (block m c t y _ (Shard.lies _ _ (places _ (adm_eq m) t).2.2.1 (places _ (adm_eq m) t).1.2.2 y _ ((win0 (adm m (ok m)) 6).rect_emb_val t _ 0) ((win0 (adm m (ok m)) 6).rect_emb_val t _ 1))).2.1

/-- The first moments the kernel leaves. -/
theorem arr_first : (dats m (ok m) 0 c).arrAt 7 (cfgM m (ok m)).N = Shard.first (P m c) (M m c) := by
  refine (dats m (ok m) 0 c).arrAt_eq_of_covers 7 _ (covers _ (adm_eq m)).2.2.1 fun t _ (y : S3x704.Idx) => ?_
  blk_simp
  rw [after0_7]
  exact (block m c t y _ (Shard.lies _ _ (places _ (adm_eq m) t).2.2.2.1 (places _ (adm_eq m) t).1.2.2 y _ ((win0 (adm m (ok m)) 7).rect_emb_val t _ 0) ((win0 (adm m (ok m)) 7).rect_emb_val t _ 1))).2.2.1

/-- The second moments the kernel leaves. -/
theorem arr_second : (dats m (ok m) 0 c).arrAt 8 (cfgM m (ok m)).N = Shard.second (P m c) (N m c) := by
  refine (dats m (ok m) 0 c).arrAt_eq_of_covers 8 _ (covers _ (adm_eq m)).2.2.2 fun t _ (y : S3x704.Idx) => ?_
  blk_simp
  rw [after0_8]
  exact (block m c t y _ (Shard.lies _ _ (places _ (adm_eq m) t).2.2.2.2 (places _ (adm_eq m) t).1.2.2 y _ ((win0 (adm m (ok m)) 8).rect_emb_val t _ 0) ((win0 (adm m (ok m)) 8).rect_emb_val t _ 1))).2.2.2

/-- The kernel runs, and leaves these. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v5_0) = Shard.grad (P m c) ∧ r.2.mem ((c.tc : Thread nD τ).loc main_v5_1) = Shard.change (P m c) (W m c) (M m c) (N m c)
    ∧ r.2.mem ((c.tc : Thread nD τ).loc main_v5_2) = Shard.first (P m c) (M m c) ∧ r.2.mem ((c.tc : Thread nD τ).loc main_v5_3) = Shard.second (P m c) (N m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.2 c).1 5).trans (arr_grad m c), ((h.2 c).1 6).trans (arr_change m c),
    ((h.2 c).1 7).trans (arr_first m c), ((h.2 c).1 8).trans (arr_second m c), h.1 c⟩)
    (θ_run_and (unchanged m g (ok m)) (run_main m g (ok m)))

open Cert.Reference20Ideal.Read in
/-- The reference's sum, entry by entry. -/
theorem ref_grad (x0 : Vec Ideal S8x3x704 .f32) (i : S3x704.Idx) : val_main_v0 (F := Ideal) x0 i = Shard.grad x0 i := by
  rw [val_main_v0_apply]
  rw [show val_main_cst (F := Ideal) (Shape.Idx.first Cert.Reference20Ideal.Gen.h_S_) = 0 from Ideal.ofBits_zero_f32, zero_add]
  exact Finset.sum_congr rfl fun _ _ => congrArg x0 (eq_ix3 _)

open Cert.Reference20Ideal.Read in
/-- The reference's first moments. -/
theorem ref_first (x0 : Vec Ideal S8x3x704 .f32) (x2 : Vec Ideal S3x704 .f32) (i : S3x704.Idx) :
    val_main_v5 (F := Ideal) x0 x2 i = Shard.first x0 x2 i :=
  congrArg (Adam.first (x2 i)) (ref_grad x0 i)

open Cert.Reference20Ideal.Read in
/-- The reference's second moments. -/
theorem ref_second (x0 : Vec Ideal S8x3x704 .f32) (x3 : Vec Ideal S3x704 .f32) (i : S3x704.Idx) :
    val_main_v11 (F := Ideal) x0 x3 i = Shard.second x0 x3 i :=
  congrArg (Adam.second (x3 i)) (ref_grad x0 i)

open Cert.Reference20Ideal.Read in
/-- The reference's changes. -/
theorem ref_change (x0 : Vec Ideal S8x3x704 .f32) (x1 x2 x3 : Vec Ideal S3x704 .f32) (i : S3x704.Idx) :
    val_main_v24 (F := Ideal) x0 x1 x2 x3 i = Shard.change x0 x1 x2 x3 i :=
  congrArg (fun g => Adam.change (x1 i) g (x2 i) (x3 i)) (ref_grad x0 i)

/-- The kernel's results are the reference's. -/
theorem algebraic : Cert.algebraic_Kernel20Ideal_Reference20Ideal := by
  intro m g m' g' _ hagree
  refine ⟨_, _, _, _, run m g, ?_⟩
  refine (θ_run Cert.Reference20Ideal.defs _ _).mono
    (fun _ h c => ⟨(h c).1.trans ?_, (h c).2.1.trans ?_, (h c).2.2.1.trans ?_, (h c).2.2.2.1.trans ?_, (h c).2.2.2.2⟩)
    (Cert.Reference20Ideal.Value.run (F := Ideal) m' g')
  · rw [(hagree c).1]
    exact funext (ref_grad _)
  · rw [(hagree c).1, (hagree c).2.1, (hagree c).2.2.1, (hagree c).2.2.2]
    exact funext (ref_change _ _ _ _)
  · rw [(hagree c).1, (hagree c).2.2.1]
    exact funext (ref_first _ _)
  · rw [(hagree c).1, (hagree c).2.2.2]
    exact funext (ref_second _ _)

end ShardConv

end

end
-- ==== Proof.DwAda.lean ====
module

public import proofs.«01_k».proof.Defs
public import proofs.«01_k».proof.Proof.Product
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.KernelVsHost

/-! The gradient of the modulation's weight: the eight rows of the devices, padded by zeros to 128. -/

@[expose] public section

set_option maxRecDepth 16384

noncomputable section

namespace DwAda

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel21Ideal Cert.Kernel21Ideal.Gen

/-- A product in which the last factors on the right are zero is that of the others. -/
theorem padded {K P : ℕ} (x y : Fin (K + P) → EReal) (x' y' : Fin K → EReal) (hx : ∀ k, x (Fin.castAdd P k) = x' k)
    (hy : ∀ k, y (Fin.castAdd P k) = y' k) (hz : ∀ k, y (Fin.natAdd K k) = 0) : Product.dot x y = Product.dot x' y' := by
  refine (Fin.sum_univ_add _).trans ?_
  rw [Finset.sum_congr rfl fun k _ => (congrArg (x (Fin.natAdd K k) * ·) (hz k)).trans (mul_zero _), Finset.sum_const_zero, add_zero]
  exact Product.dot_congr hx hy

variable (m : (ℓ : Loc nD τ sig) → Buf (Elt Ideal) ℓ) (c : Dev nD)

/-- A row of the left operand holds the conditioning rows' entries of one column. -/
theorem left (r : Fin 2048) (k : Fin 8) : V m c main_v1 (ix2 r (Fin.castAdd 120 k)) = m ((c : Thread nD τ).loc main_arg0) (ix2 k r) := by
  simp only [V, hostOps0, hostOps0_1, hostOps0_2, hostOps0_3, List.flatten_cons, List.flatten_nil, List.append_nil, List.cons_append, List.nil_append]
  after_results
  show pad S2048x128 ![0, 0] ![0, 120] ![0, 0] (transpose S2048x8 [1, 0] (fun i => m ((c : Thread nD τ).loc main_arg0) i) transposes_S8x2048_S2048x8_1_0)
    (sitofp (F := Ideal) .f32 (constantI S_ 32 0#32)) pads_S2048x8_S2048x128_000_01200 h_S_ (ix2 r (Fin.castAdd 120 k)) = _
  refine (pad_apply_of_inside _ _ _ _ _ _ _ _ (ix2 r k) fun a => ?_).trans (congrArg (m ((c : Thread nD τ).loc main_arg0)) (eq_ix2 _))
  match a with
  | ⟨0, _⟩ => show r.val = 0 + r.val * 1; omega
  | ⟨1, _⟩ => show k.val = 0 + k.val * 1; omega

/-- The first eight rows of the right operand are the cotangent's. -/
theorem right (k : Fin 8) (w : Fin 1536) : V m c main_v2 (ix2 (Fin.castAdd 120 k) w) = m ((c : Thread nD τ).loc main_arg1) (ix2 k w) := by
  simp only [V, hostOps0, hostOps0_1, hostOps0_2, hostOps0_3, List.flatten_cons, List.flatten_nil, List.append_nil, List.cons_append, List.nil_append]
  after_results
  show pad S128x1536 ![0, 0] ![120, 0] ![0, 0] (fun i => m ((c : Thread nD τ).loc main_arg1) i)
    (sitofp (F := Ideal) .f32 (constantI S_ 32 0#32)) pads_S8x1536_S128x1536_01200_000 h_S_ (ix2 (Fin.castAdd 120 k) w) = _
  refine pad_apply_of_inside _ _ _ _ _ _ _ _ (ix2 k w) fun a => ?_
  match a with
  | ⟨0, _⟩ => show k.val = 0 + k.val * 1; omega
  | ⟨1, _⟩ => show w.val = 0 + w.val * 1; omega

/-- Its other rows are zero. -/
theorem rest (k : Fin 120) (w : Fin 1536) : V m c main_v2 (ix2 (Fin.natAdd 8 k) w) = (0 : EReal) := by
  simp only [V, hostOps0, hostOps0_1, hostOps0_2, hostOps0_3, List.flatten_cons, List.flatten_nil, List.append_nil, List.cons_append, List.nil_append]
  after_results
  show pad S128x1536 ![0, 0] ![120, 0] ![0, 0] (fun i => m ((c : Thread nD τ).loc main_arg1) i)
    (sitofp (F := Ideal) .f32 (constantI S_ 32 0#32)) pads_S8x1536_S128x1536_01200_000 h_S_ (ix2 (Fin.natAdd 8 k) w) = _
  refine (pad_apply_of_not_inside _ _ _ _ _ _ _ _ (0 : Fin 2) fun h => ?_).trans ?_
  · have h2 : (8 + k.val - 0) / 1 < 8 := h.2.2
    omega
  · show (((0#32).toInt : ℝ) : EReal) = 0
    rw [BitVec.toInt_zero, Int.cast_zero, EReal.coe_zero]

/-- The rows and the columns of a point's blocks are those of the block it leaves. -/
theorem places : ∀ t : Fin cfg0.N, win0_0.index t = ![win0_2.index t 0, 0] ∧ win0_1.index t = ![0, win0_2.index t 1] :=
  (by decide +kernel : ∀ t : Fin grid0.N, _)

/-- The gradient the kernel leaves, entry by entry. -/
def prod (i : S2048x1536.Idx) : EReal := Product.dot (fun k : Fin 8 => m ((c : Thread nD τ).loc main_arg0) (ix2 k (i 0))) (fun k => m ((c : Thread nD τ).loc main_arg1) (ix2 k (i 1)))

/-- A point's block is its part of the gradient. -/
theorem block (t : Fin cfg0.N) (y : S1024x768.Idx) (i : S2048x1536.Idx) (h0 : (i 0).val = win0_2.index t 0 * 1024 + (y 0).val)
    (h1 : (i 1).val = win0_2.index t 1 * 768 + (y 1).val) : k0_pay1 (iblk m c 0 t) (iblk m c 1 t) y = prod m c i := by
  have e := places t
  unfold k0_pay1
  refine (Product.plain _ rfl _ _ _ y).trans ((Product.dot_congr (x' := fun k => V m c main_v1 (ix2 (i 0) k)) (y' := fun k => V m c main_v2 (ix2 k (i 1)))
    (fun k => ?_) (fun k => ?_)).trans (padded (K := 8) (P := 120) _ _ _ _ (left m c (i 0)) (fun k => right m c k (i 1)) (fun k => rest m c k (i 1))))
  · refine (congrFun (shapeCast_id (iblk m c 0 t) _) _).trans ?_
    blk_ext [iblk, e.1]
    exact h0.symm
  · refine (congrFun (shapeCast_id (iblk m c 1 t) _) _).trans ?_
    blk_ext [iblk, e.2]
    exact h1.symm

/-- The array the kernel leaves. -/
theorem arr : (dats m 0 c).arrAt 2 cfg0.N = prod m c := by
  refine (dats m 0 c).arrAt_eq_of_covers 2 _ (by decide +kernel) fun t _ y => ?_
  blk_simp
  rw [after0_2]
  frame_out
  exact block m c t y _ (by blk_simp) (by blk_simp)

open Cert.Reference21Ideal.Read in
/-- The reference's array, entry by entry. -/
theorem ref (x0 : Vec Ideal S8x2048 .f32) (x1 : Vec Ideal S8x1536 .f32) (i : S2048x1536.Idx) :
    val_main_v3 (F := Ideal) x0 x1 i = Product.dot (fun k : Fin 8 => x0 (ix2 k (i 0))) (fun k => x1 (ix2 k (i 1))) :=
  (val_main_v3_apply x0 x1 i).trans ((val_main_v2_apply x0 x1 _).trans ((Product.dot_comm _ _).trans
    (Product.dot_congr (fun _ => congrArg x0 (eq_ix2 _)) (fun _ => congrArg x1 (eq_ix2 _)))))

/-- The kernel's result is the reference's. -/
theorem algebraic : Cert.algebraic_Kernel21Ideal_Reference21Ideal := by
  intro m g m' g' _ hagree
  refine ⟨_, Cert.Kernel21Ideal.Value.run_blocks (F := Ideal) m g, ?_⟩
  refine (θ_run Cert.Reference21Ideal.defs _ _).mono (fun _ h c => ⟨(h c).1.trans ?_, (h c).2⟩) (Cert.Reference21Ideal.Value.run (F := Ideal) m' g')
  rw [(hagree c).1, (hagree c).2]
  exact (funext (ref _ _)).trans (arr m c).symm

end DwAda

end

end
-- ==== Proof.NormBwd.lean ====
module

public import proofs.«01_k».proof.Defs
public import proofs.«01_k».proof.Proof.Arith
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ReadBack
public import Idealize.ShloMosaic.Lib.Pipeline.ValueKit
public import Idealize.ShloMosaic.Lib.ValueLayout
public import Idealize.ShloMosaic.Lib.ValueLayoutCasts

/-! The gradients of the norm with its scale and shift: sixteen points of 256 rows, three running sums. -/

@[expose] public section

set_option maxRecDepth 16384

noncomputable section

namespace NormBwd

open Idealize.ShloMosaic hiding ix0 ix1 ix2 ix3 ix4 ix5 ix6 eq_ix1 eq_ix2 eq_ix3 eq_ix4 eq_ix5
open Idealize.ShloMosaic.TcCoe Idealize.ShloMosaic.Tactic Idealize.ShloMosaic.ValueIdx
open Cert.Kernel11Ideal Cert.Kernel11Ideal.Gen

/-! ## A row -/

/-- The bits of zero are zero. -/
theorem zero_bits : FloatOps.ofBits (F := Ideal) .f32 0x00000000#32 = (0 : EReal) := Ideal.ofBits_zero_f32

/-- A row's mean square, with the small constant. -/
def var (x : Fin 2048 → EReal) : EReal :=
  Ideal.div (∑ k, x k * x k) (Ideal.ofBits .f32 0x45000000#32) + Ideal.ofBits .f32 0x358637BD#32

/-- Its inverse root. -/
def inv (x : Fin 2048 → EReal) : EReal := Ideal.rsqrt (var x)

/-- The cotangent of the norm's output before the scale of the modulation. -/
def pre (s h : Fin 2048 → EReal) (j : Fin 2048) : EReal := h j * (Ideal.ofBits .f32 0x3F800000#32 + s j)

/-- A row's part of the gain's gradient. -/
def gain (x s h : Fin 2048 → EReal) (j : Fin 2048) : EReal := x j * inv x * pre s h j

/-- A row's part of the scale's gradient. -/
def scale (x g h : Fin 2048 → EReal) (j : Fin 2048) : EReal := x j * inv x * g j * h j

/-- What the mean square's own gradient gives each entry of the row, once. -/
def mean (x g s h : Fin 2048 → EReal) : EReal :=
  Ideal.div ((∑ k, x k * (pre s h k * g k)) * (Ideal.ofBits .f32 0xBF000000#32 * Ideal.div (inv x) (var x)))
    (Ideal.ofBits .f32 0x45000000#32)

/-- A row's gradient, with the cotangent that is carried past the norm. -/
def whole (x g s h d : Fin 2048 → EReal) (j : Fin 2048) : EReal := d j + pre s h j * g j * inv x + x j * mean x g s h + mean x g s h * x j

/-! ## A point of the kernel -/

section Point

variable (x h d : Vec Ideal S256x2048 .f32) (g s : Vec Ideal S1x2048 .f32) (r : Fin 256) (j : Fin 2048)

/-- A column spread over the row. -/
theorem spread (v : FVec Ideal S256x1 .f32) (hb : S256x1.Broadcasts S256x2048) : broadcastTo S256x2048 v hb (ix2 r j) = v (ix2 r 0) :=
  broadcastTo_apply _ hb _ _ fun a => by match a with | ⟨0, _⟩ => rfl | ⟨1, _⟩ => rfl

/-- A row spread over the column. -/
theorem repeated (v : FVec Ideal S1x2048 .f32) (hs : S1x2048.ShapeCasts S1x2048) (hb : S1x2048.Broadcasts S256x2048) :
    broadcastTo S256x2048 (shapeCast S1x2048 v hs) hb (ix2 r j) = v (ix2 0 j) := by
  rw [shapeCast_id]
  exact broadcastTo_apply _ hb _ _ fun a => by match a with | ⟨0, _⟩ => rfl | ⟨1, _⟩ => rfl

/-- A row's sum, as a column. -/
theorem summed (v : FVec Ideal S256x2048 .f32) (hr : S256x2048.Reduces [1] S256) (hφ : FKind.Formats .f32) (ha : 0x00000000#32 = FKind.add.neutral .f32 hφ)
    (hs : S256.ShapeCasts S256x1) : shapeCast S256x1 (multiReduction .add [1] S256 v 0x00000000#32 hr hφ ha) hs (ix2 r 0) = ∑ k, v (ix2 r k) :=
  (shapeCast_a_a1_apply _ hs r 0).trans (Attn.rowSum_apply v _ hr hφ ha r)

/-- The row's mean square. -/
theorem var_at : k0_pay9 x (ix2 r 0) = var fun k => x (ix2 r k) :=
  congrArg (fun u : EReal => Ideal.div u (Ideal.ofBits .f32 0x45000000#32) + Ideal.ofBits .f32 0x358637BD#32) (summed r _ _ _ _ _)

/-- Its inverse root. -/
theorem inv_at : k0_pay10 x (ix2 r 0) = inv fun k => x (ix2 r k) := congrArg (Ideal.rsqrt) (var_at x r)

/-- The normed entry. -/
theorem normed_at : k0_pay11 x (ix2 r j) = x (ix2 r j) * inv fun k => x (ix2 r k) :=
  congrArg (fun u : EReal => x (ix2 r j) * u) ((spread r j _ _).trans (inv_at x r))

/-- The cotangent before the scale. -/
theorem pre_at : k0_pay15 s h (ix2 r j) = pre (fun k => s (ix2 0 k)) (fun k => h (ix2 r k)) j :=
  congrArg₂ (fun u v : EReal => u * (Ideal.ofBits .f32 0x3F800000#32 + v)) (congrFun (shapeCast_id _ _) _) (repeated r j _ _ _)

/-- The gain's part. -/
theorem gain_at : k0_pay16 x s h (ix2 r j) = gain (fun k => x (ix2 r k)) (fun k => s (ix2 0 k)) (fun k => h (ix2 r k)) j :=
  congrArg₂ (fun u v : EReal => u * v) (normed_at x r j) (pre_at h s r j)

/-- The scale's part. -/
theorem scale_at : k0_pay14 x g h (ix2 r j) = scale (fun k => x (ix2 r k)) (fun k => g (ix2 0 k)) (fun k => h (ix2 r k)) j :=
  congrArg₂ (fun u v : EReal => u * v) (congrArg₂ (fun u v : EReal => u * v) (normed_at x r j) (repeated r j _ _ broadcasts_S1x2048_S256x2048)) (congrFun (shapeCast_id _ _) _)

/-- The shift's part. -/
theorem shift_at : k0_pay13 h (ix2 r j) = h (ix2 r j) := congrFun (shapeCast_id _ _) _

/-- The cotangent of the normed row. -/
theorem scaled_at : k0_pay17 g s h (ix2 r j) = pre (fun k => s (ix2 0 k)) (fun k => h (ix2 r k)) j * g (ix2 0 j) :=
  congrArg₂ (fun u v : EReal => u * v) (pre_at h s r j) (repeated r j _ _ broadcasts_S1x2048_S256x2048)

/-- What the mean square gives each entry. -/
theorem mean_at : k0_pay19 x g s h (ix1 r) = mean (fun k => x (ix2 r k)) (fun k => g (ix2 0 k)) (fun k => s (ix2 0 k)) (fun k => h (ix2 r k)) := by
  unfold k0_pay19
  refine (Attn.rowSum_apply _ _ _ _ _ r).trans ((Fin.sum_univ_one _).trans ?_)
  refine congrArg₂ (fun u v : EReal => Ideal.div (u * (Ideal.ofBits .f32 0xBF000000#32 * v)) (Ideal.ofBits .f32 0x45000000#32))
    ((summed r _ _ _ _ _).trans (Finset.sum_congr rfl fun k _ => congrArg (fun u : EReal => x (ix2 r k) * u) (scaled_at h g s r k)))
    (congrArg₂ (Ideal.div) (inv_at x r) (var_at x r))

/-- The row's gradient. -/
theorem whole_at : k0_pay1 x d (k0_pay18 x g s h) (k0_pay19 x g s h) (ix2 r j) =
    whole (fun k => x (ix2 r k)) (fun k => g (ix2 0 k)) (fun k => s (ix2 0 k)) (fun k => h (ix2 r k)) (fun k => d (ix2 r k)) j := by
  have hm : broadcastTo S256x2048 (shapeCast S256x1 (k0_pay19 x g s h) shapeCasts_S256_S256x1) broadcasts_S256x1_S256x2048 (ix2 r j) = _ :=
    (spread r j _ _).trans ((shapeCast_a_a1_apply _ _ r 0).trans (mean_at x h g s r))
  have hp : k0_pay18 x g s h (ix2 r j) = _ := congrArg₂ (fun u v : EReal => u * v) (scaled_at h g s r j) ((spread r j _ _).trans (inv_at x r))
  refine (congrArg₂ (fun u v : EReal => u + x (ix2 r j) * v + v * x (ix2 r j) + d (ix2 r j)) hp hm).trans ?_
  unfold whole
  rw [add_comm _ (d (ix2 r j)), ← add_assoc, ← add_assoc]

end Point

/-- The sum of a matrix's column, as a row. -/
theorem column (v : FVec Ideal S256x2048 .f32) (hr : S256x2048.Reduces [0] S2048) (hφ : FKind.Formats .f32) (ha : 0x00000000#32 = FKind.add.neutral .f32 hφ)
    (hs : S2048.ShapeCasts S1x2048) (j : Fin 2048) : shapeCast S1x2048 (multiReduction .add [0] S2048 v 0x00000000#32 hr hφ ha) hs (ix2 0 j) = ∑ r, v (ix2 r j) := by
  refine (shapeCast_a_1a_apply _ hs 0 j).trans ((Ideal.multiReduction_add_single v _ hr hφ ha (ix1 j)).trans (Finset.sum_congr rfl fun r _ => congrArg v ?_))
  funext a
  match a with
  | ⟨0, _⟩ => rfl
  | ⟨1, _⟩ => rfl

/-! ## The arrays -/

section Arrays

variable (m : (ℓ : Loc nD τ sig) → Buf (Elt Ideal) ℓ) (c : Dev nD)

/-- A row of the matrix the norm is taken of. -/
def rowX (i : Fin 4096) (k : Fin 2048) : EReal := m ((c : Thread nD τ).loc main_arg0) (ix2 i k)
/-- The gain. -/
def rowG (k : Fin 2048) : EReal := m ((c : Thread nD τ).loc main_arg1) (ix2 0 k)
/-- The scale. -/
def rowS (k : Fin 2048) : EReal := m ((c : Thread nD τ).loc main_arg2) (ix2 0 k)
/-- A row of the cotangent. -/
def rowH (i : Fin 4096) (k : Fin 2048) : EReal := m ((c : Thread nD τ).loc main_arg4) (ix2 i k)
/-- A row of the cotangent that is carried past the norm. -/
def rowD (i : Fin 4096) (k : Fin 2048) : EReal := m ((c : Thread nD τ).loc main_arg5) (ix2 i k)

/-- A row by its point and its place there. -/
def at_ (k : Fin 16) (r : Fin 256) : Fin 4096 := ⟨k.val * 256 + r.val, by omega⟩

/-- The blocks a point is given. -/
theorem places : ∀ t : Fin cfg0.N, win0_0.index t = ![t.val, 0] ∧ win0_1.index t = ![0, 0] ∧ win0_2.index t = ![0, 0] ∧ win0_4.index t = ![t.val, 0]
    ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

/-- The arguments as the call is given them. -/
theorem given : V m c main_arg0 = m ((c : Thread nD τ).loc main_arg0) ∧ V m c main_arg1 = m ((c : Thread nD τ).loc main_arg1)
    ∧ V m c main_arg2 = m ((c : Thread nD τ).loc main_arg2) ∧ V m c main_arg4 = m ((c : Thread nD τ).loc main_arg4)
    ∧ V m c main_arg5 = m ((c : Thread nD τ).loc main_arg5) :=
  ⟨V_main_arg0 m c, V_main_arg1 m c, V_main_arg2 m c, V_main_arg4 m c, V_main_arg5 m c⟩

variable (t : Fin cfg0.N)

/-- A point's rows are rows of the arrays. -/
theorem rows (k : Fin 16) (hk : t.val = k.val) (r : Fin 256) (j : Fin 2048) :
    iblk m c 0 t (ix2 r j) = rowX m c (at_ k r) j ∧ iblk m c 1 t (ix2 0 j) = rowG m c j ∧ iblk m c 2 t (ix2 0 j) = rowS m c j
      ∧ iblk m c 4 t (ix2 r j) = rowH m c (at_ k r) j ∧ iblk m c 5 t (ix2 r j) = rowD m c (at_ k r) j := by
  obtain ⟨e0, e1, e2, e4, e5, -⟩ := places t
  obtain ⟨v0, v1, v2, v4, v5⟩ := given m c
  refine ⟨Eq.trans ?_ (congrFun v0 (ix2 (at_ k r) j)), Eq.trans ?_ (congrFun v1 (ix2 0 j)), Eq.trans ?_ (congrFun v2 (ix2 0 j)),
    Eq.trans ?_ (congrFun v4 (ix2 (at_ k r) j)), Eq.trans ?_ (congrFun v5 (ix2 (at_ k r) j))⟩
  · blk_ext [iblk, e0, hk]
    rfl
  · blk_ext [iblk, e1]
  · blk_ext [iblk, e2]
  · blk_ext [iblk, e4, hk]
    rfl
  · blk_ext [iblk, e5, hk]
    rfl

/-- What a row adds to the gain's gradient, the scale's and the shift's. -/
def term (w : Fin 3) (j : Fin 2048) (i : Fin 4096) : EReal :=
  match w with
  | 0 => gain (rowX m c i) (rowS m c) (rowH m c i) j
  | 1 => scale (rowX m c i) (rowG m c) (rowH m c i) j
  | 2 => rowH m c i j

/-- What a point adds to them. -/
def added (w : Fin 3) : FVec Ideal S1x2048 .f32 :=
  match w with
  | 0 => k0_pay2 (k0_pay16 (iblk m c 0 t) (iblk m c 2 t) (iblk m c 4 t))
  | 1 => k0_pay3 (k0_pay14 (iblk m c 0 t) (iblk m c 1 t) (iblk m c 4 t))
  | 2 => k0_pay4 (k0_pay13 (iblk m c 4 t))

/-- What they are after a point. -/
def kept (n : ℕ) (h : n < cfg0.N) (w : Fin 3) : Vec Ideal S1x2048 .f32 :=
  match w with
  | 0 => (outsAt0 m c n h).2.1
  | 1 => (outsAt0 m c n h).2.2.1
  | 2 => (outsAt0 m c n h).2.2.2

/-- There are sixteen points. -/
theorem t_lt : t.val < 16 := lt_of_lt_of_eq t.isLt N_0

/-- A point adds its rows. -/
theorem added_at (k : Fin 16) (hk : t.val = k.val) (w : Fin 3) (j : Fin 2048) : added m c t w (ix2 0 j) = ∑ r, term m c w j (at_ k r) := by
  have hx : ∀ r, (fun j => iblk m c 0 t (ix2 r j)) = rowX m c (at_ k r) := fun r => funext fun j => (rows m c t k hk r j).1
  have hg : (fun j => iblk m c 1 t (ix2 0 j)) = rowG m c := funext fun j => (rows m c t k hk 0 j).2.1
  have hs : (fun j => iblk m c 2 t (ix2 0 j)) = rowS m c := funext fun j => (rows m c t k hk 0 j).2.2.1
  have hh : ∀ r, (fun j => iblk m c 4 t (ix2 r j)) = rowH m c (at_ k r) := fun r => funext fun j => (rows m c t k hk r j).2.2.2.1
  match w with
  | 0 =>
    unfold added k0_pay2
    refine (column _ _ _ _ _ j).trans (Finset.sum_congr rfl fun r _ => (gain_at _ _ _ r j).trans ?_)
    rw [hx, hs, hh]
    rfl
  | 1 =>
    unfold added k0_pay3
    refine (column _ _ _ _ _ j).trans (Finset.sum_congr rfl fun r _ => (scale_at _ _ _ r j).trans ?_)
    rw [hx, hg, hh]
    rfl
  | 2 =>
    unfold added k0_pay4
    exact (column _ _ _ _ _ j).trans (Finset.sum_congr rfl fun r _ => (shift_at _ r j).trans (congrFun (hh r) j))

/-- The first point sets the sums. -/
theorem kept_first (h : t.val % 16 = 0) (w : Fin 3) : kept m c t.val t.isLt w = added m c t w := by
  have h1 : ¬1 ≤ t.val := by have := t_lt t; omega
  match w with
  | 0 | 1 | 2 =>
    unfold kept added
    dsimp only
    rw [outsAt0_A m c t h h1 h h1 h h1]
    frame_out

/-- Every later point adds to them. -/
theorem kept_next (h : ¬t.val % 16 = 0) (w : Fin 3) (j : Fin 2048) : kept m c t.val t.isLt w (ix2 0 j) =
    kept m c (t.val - 1) (Nat.lt_of_le_of_lt (Nat.sub_le _ _) t.isLt) w (ix2 0 j) + added m c t w (ix2 0 j) := by
  have h1 : 1 ≤ t.val := by omega
  match w with
  | 0 | 1 | 2 =>
    unfold kept added
    dsimp only
    rw [outsAt0_B m c t h h1 h h1 h h1]
    frame_out
    exact congrArg (fun u : EReal => u + _) (congrFun (shapeCast_id _ _) _)

/-- After the last point the sums are those over all the rows. -/
theorem total (h : t.val % 16 = 15) (w : Fin 3) (j : Fin 2048) : kept m c t.val t.isLt w (ix2 0 j) = ∑ i, term m c w j i := by
  have hs := Pipeline.eq_sum_of_reset_step_of_mod (fun n h => kept m c n h w (ix2 0 j)) 16 (0 : EReal)
    (fun n => ∑ r, term m c w j (at_ ⟨n % 16, Nat.mod_lt _ (by decide)⟩ r))
    (fun t h => by rw [zero_add, ← added_at m c t _ (Nat.mod_eq_of_lt (t_lt t)).symm w j, kept_first m c t h w])
    (fun t h => by rw [← added_at m c t _ (Nat.mod_eq_of_lt (t_lt t)).symm w j]; exact kept_next m c t h w j) t h
  refine hs.trans ?_
  rw [zero_add, Finset.sum_range]
  refine Fin.sum_mul_add_congr fun k r _ => congrArg (term m c w j) (Fin.ext ?_)
  show (16 * (t.val / 16) + k.val) % 16 * 256 + r.val = k.val * 256 + r.val
  have := t_lt t
  omega

/-- A sum the kernel leaves. -/
theorem sum_at (h : t.val % 16 = 15) (w : Fin 3) (y : S1x2048.Idx) (i : S1x2048.Idx) (h1 : (i 1).val = (y 1).val) :
    kept m c t.val t.isLt w y = ∑ l, term m c w (i 1) l := by
  have e : y = ix2 0 (i 1) := by
    funext a
    match a with
    | ⟨0, _⟩ => exact Fin.ext (Nat.lt_one_iff.mp (y 0).isLt)
    | ⟨1, _⟩ => exact Fin.ext h1.symm
  rw [e]
  exact total m c t h w (i 1)

/-- The array of the gain's gradient. -/
theorem arr_gain : (dats m 0 c).arrAt 7 cfg0.N = fun i => ∑ l, term m c 0 (i 1) l := by
  refine (dats m 0 c).arrAt_eq_of_covers 7 _ (by decide +kernel) fun t hf y => ?_
  have e := (places t).2.2.2.2.2.2.1
  blk_simp
  rw [after0_7]
  exact sum_at m c t ((flush0_7 t).mp hf) 0 _ _ (by blk_simp [e])

/-- The array of the scale's gradient. -/
theorem arr_scale : (dats m 0 c).arrAt 8 cfg0.N = fun i => ∑ l, term m c 1 (i 1) l := by
  refine (dats m 0 c).arrAt_eq_of_covers 8 _ (by decide +kernel) fun t hf y => ?_
  have e := (places t).2.2.2.2.2.2.2.1
  blk_simp
  rw [after0_8]
  exact sum_at m c t ((flush0_8 t).mp hf) 1 _ _ (by blk_simp [e])

/-- The array of the shift's gradient. -/
theorem arr_shift : (dats m 0 c).arrAt 9 cfg0.N = fun i => ∑ l, term m c 2 (i 1) l := by
  refine (dats m 0 c).arrAt_eq_of_covers 9 _ (by decide +kernel) fun t hf y => ?_
  have e := (places t).2.2.2.2.2.2.2.2
  blk_simp
  rw [after0_9]
  exact sum_at m c t ((flush0_9 t).mp hf) 2 _ _ (by blk_simp [e])

/-- The block of the gradient a point leaves. -/
theorem out_whole : (outsAt0 m c t.val t.isLt).1 = k0_pay1 (iblk m c 0 t) (iblk m c 5 t) (k0_pay18 (iblk m c 0 t) (iblk m c 1 t) (iblk m c 2 t) (iblk m c 4 t))
    (k0_pay19 (iblk m c 0 t) (iblk m c 1 t) (iblk m c 2 t) (iblk m c 4 t)) := by
  have ht := t_lt t
  by_cases h : t.val % 16 = 0
  · have h1 : ¬1 ≤ t.val := by omega
    rw [outsAt0_A m c t h h1 h h1 h h1]
    dsimp only
    frame_out
  · have h1 : 1 ≤ t.val := by omega
    rw [outsAt0_B m c t h h1 h h1 h h1]
    dsimp only
    frame_out

/-- The array of the gradient. -/
theorem arr_whole : (dats m 0 c).arrAt 6 cfg0.N = fun i => whole (rowX m c (i 0)) (rowG m c) (rowS m c) (rowH m c (i 0)) (rowD m c (i 0)) (i 1) := by
  refine (dats m 0 c).arrAt_eq_of_covers 6 _ (by decide +kernel) fun t _ y => ?_
  have e := (places t).2.2.2.2.2.1
  have e0 : (((win0_6.blk t).view.emb y) 0 : ℕ) = t.val * 256 + (y 0).val := by blk_simp [e]
  have e1 : (((win0_6.blk t).view.emb y) 1 : ℕ) = (y 1).val := by blk_simp [e]
  blk_simp
  rw [after0_6, out_whole]
  have ht := t_lt t
  have hr := fun j => rows m c t ⟨t.val, ht⟩ rfl (⟨(y 0).val, (y 0).isLt⟩ : Fin 256) j
  have hi : at_ ⟨t.val, ht⟩ (⟨(y 0).val, (y 0).isLt⟩ : Fin 256) = (win0_6.blk t).view.emb y 0 := Fin.ext e0.symm
  rw [hi] at hr
  have hj : (⟨(y 1).val, (y 1).isLt⟩ : Fin 2048) = (win0_6.blk t).view.emb y 1 := Fin.ext e1.symm
  refine Eq.trans (congrArg _ ?_) ((whole_at _ _ _ _ _ (⟨(y 0).val, (y 0).isLt⟩ : Fin 256) ((win0_6.blk t).view.emb y 1)).trans ?_)
  · rw [← hj]
    exact eq_ix2 _
  · rw [funext fun j => (hr j).1, funext fun j => (hr j).2.1, funext fun j => (hr j).2.2.1, funext fun j => (hr j).2.2.2.1, funext fun j => (hr j).2.2.2.2]

end Arrays

/-! ## The reference -/

section Ref

open Cert.Reference11Ideal.Read

variable (x0 x4 x5 : Vec Ideal S4096x2048 .f32) (x1 x2 : Vec Ideal S1x2048 .f32) (r : Fin 4096) (j : Fin 2048)

/-- The row's mean square. -/
theorem ref_var : val_main_v6 (F := Ideal) x0 (ix2 r 0) = var fun k => x0 (ix2 r k) := by
  rw [val_main_v6_apply, val_main_v4_apply, val_main_v2_apply, val_main_v1_apply, val_main_cst_apply, zero_bits, zero_add]
  exact congrArg (fun u : EReal => Ideal.div u (Ideal.ofBits .f32 0x45000000#32) + Ideal.ofBits .f32 0x358637BD#32)
    (Finset.sum_congr rfl fun k _ => congrArg (fun i => x0 i * x0 i) (eq_ix2 _))

/-- Its inverse root. -/
theorem ref_inv : val_main_v7 (F := Ideal) x0 (ix2 r 0) = inv fun k => x0 (ix2 r k) := congrArg Ideal.rsqrt (ref_var x0 r)

/-- The normed entry. -/
theorem ref_normed : val_main_v12 (F := Ideal) x0 (ix2 r j) = x0 (ix2 r j) * inv fun k => x0 (ix2 r k) := by
  rw [val_main_v12_apply, val_main_v11_apply]
  exact congrArg (fun u : EReal => x0 (ix2 r j) * u) ((congrArg _ (eq_ix2 _)).trans (ref_inv x0 r))

/-- The cotangent, reshaped to the shape it has. -/
theorem ref_same : val_main_v21 (F := Ideal) x4 = x4 := shapeCast_id _ _

/-- The cotangent before the scale. -/
theorem ref_pre : val_main_v28 (F := Ideal) x2 x4 (ix2 r j) = pre (fun k => x2 (ix2 0 k)) (fun k => x4 (ix2 r k)) j := by
  rw [val_main_v28_apply, ref_same, val_main_v27_apply, val_main_v16_apply, val_main_v15_apply, val_main_cst_3_apply]
  exact congrArg (fun i => x4 (ix2 r j) * (Ideal.ofBits .f32 0x3F800000#32 + x2 i)) (eq_ix2 _)

/-- The gain's part. -/
theorem ref_gain : val_main_v29 (F := Ideal) x0 x2 x4 (ix2 r j) = gain (fun k => x0 (ix2 r k)) (fun k => x2 (ix2 0 k)) (fun k => x4 (ix2 r k)) j :=
  congrArg₂ (fun u v : EReal => u * v) (ref_normed x0 r j) (ref_pre x4 x2 r j)

/-- The scale's part. -/
theorem ref_scale : val_main_v24 (F := Ideal) x0 x1 x4 (ix2 r j) = scale (fun k => x0 (ix2 r k)) (fun k => x1 (ix2 0 k)) (fun k => x4 (ix2 r k)) j := by
  rw [val_main_v24_apply, ref_same, val_main_v14_apply, val_main_v13_apply, ref_normed]
  exact congrArg (fun i => x0 (ix2 r j) * inv (fun k => x0 (ix2 r k)) * x1 i * x4 (ix2 r j)) (eq_ix2 _)

/-- The cotangent of the normed row. -/
theorem ref_scaled : val_main_v33 (F := Ideal) x1 x2 x4 (ix2 r j) = pre (fun k => x2 (ix2 0 k)) (fun k => x4 (ix2 r k)) j * x1 (ix2 0 j) := by
  rw [val_main_v33_apply, val_main_v32_apply, ref_pre]
  exact congrArg (fun i => pre (fun k => x2 (ix2 0 k)) (fun k => x4 (ix2 r k)) j * x1 i) (eq_ix2 _)

/-- What the mean square gives each entry. -/
theorem ref_mean : val_main_v44 (F := Ideal) x0 x1 x2 x4 (ix2 r j) =
    mean (fun k => x0 (ix2 r k)) (fun k => x1 (ix2 0 k)) (fun k => x2 (ix2 0 k)) (fun k => x4 (ix2 r k)) := by
  rw [val_main_v44_apply, val_main_v43_apply, val_main_cst_9_apply, zero_bits, zero_add, Fin.sum_univ_one,
    (show idx_main_v43 (idx_main_v44 (ix2 r j)) 0 = ix2 r 0 from eq_ix2 _), val_main_v42_apply, val_main_v40_apply, val_main_v36_apply, val_main_v35_apply,
    val_main_cst_7_apply, zero_bits, zero_add]
  refine congrArg₂ (fun u v : EReal => Ideal.div (u * (Ideal.ofBits .f32 0xBF000000#32 * v)) (Ideal.ofBits .f32 0x45000000#32))
    (Finset.sum_congr rfl fun k _ => ?_) (congrArg₂ Ideal.div (ref_inv x0 r) (ref_var x0 r))
  rw [(show idx_main_v35 (idx_main_v36 (ix2 r 0)) k = ix2 r k from funext fun a => by
    match a with
    | ⟨0, _⟩ => exact Fin.ext (show r.val * 1 + 0 = r.val from by omega)
    | ⟨1, _⟩ => rfl), val_main_v34_apply, ref_scaled]
  rfl

/-- The row's gradient. -/
theorem ref_whole (i : S4096x2048.Idx) : val_main_v48 (F := Ideal) x0 x1 x2 x4 x5 i =
    whole (fun k => x0 (ix2 (i 0) k)) (fun k => x1 (ix2 0 k)) (fun k => x2 (ix2 0 k)) (fun k => x4 (ix2 (i 0) k)) (fun k => x5 (ix2 (i 0) k)) (i 1) := by
  obtain ⟨r, j, rfl⟩ : ∃ r j, i = ix2 r j := ⟨i 0, i 1, eq_ix2 i⟩
  rw [val_main_v48_apply, val_main_v46_apply, val_main_v47_apply, val_main_v45_apply, val_main_v39_apply, val_main_v38_apply, val_main_v37_apply, ref_mean,
    ref_scaled, (show idx_main_v37 (ix2 r j) = ix2 r 0 from eq_ix2 _), ref_inv]
  rfl

/-- A sum down a column. -/
theorem ref_sum (f : FVec Ideal S4096x2048 .f32) (idx : Fin 4096 → S4096x2048.Idx) (h0 : ∀ k, idx k 0 = k) (h1 : ∀ k, idx k 1 = j) (z : EReal) (hz : z = 0)
    (g : Fin 4096 → EReal) (hg : ∀ k, f (ix2 k j) = g k) : z + ∑ k, f (idx k) = ∑ k, g k := by
  rw [hz, zero_add]
  refine Finset.sum_congr rfl fun k _ => (congrArg f (funext fun a => ?_)).trans (hg k)
  match a with
  | ⟨0, _⟩ => exact h0 k
  | ⟨1, _⟩ => exact h1 k

/-- The place in the only row is the column. -/
theorem flat (i : S1x2048.Idx) : (i 0).val * 2048 + (i 1).val = (i 1).val := by
  have h : (i 0).val < 1 := (i 0).isLt
  omega

/-- The gain's gradient. -/
theorem ref_dgain (i : S1x2048.Idx) : val_main_v31 (F := Ideal) x0 x2 x4 i =
    ∑ l, gain (fun k => x0 (ix2 l k)) (fun k => x2 (ix2 0 k)) (fun k => x4 (ix2 l k)) (i 1) := by
  rw [val_main_v31_apply, val_main_v30_apply]
  exact ref_sum (i 1) _ _ (fun _ => rfl) (fun _ => Fin.ext (flat i)) _ zero_bits _ fun k => ref_gain x0 x4 x2 k (i 1)

/-- The scale's gradient. -/
theorem ref_dscale (i : S1x2048.Idx) : val_main_v26 (F := Ideal) x0 x1 x4 i =
    ∑ l, scale (fun k => x0 (ix2 l k)) (fun k => x1 (ix2 0 k)) (fun k => x4 (ix2 l k)) (i 1) := by
  rw [val_main_v26_apply, val_main_v25_apply]
  exact ref_sum (i 1) _ _ (fun _ => rfl) (fun _ => Fin.ext (flat i)) _ zero_bits _ fun k => ref_scale x0 x4 x1 k (i 1)

/-- The shift's gradient. -/
theorem ref_dshift (i : S1x2048.Idx) : val_main_v23 (F := Ideal) x4 i = ∑ l : Fin 4096, x4 (ix2 l (i 1)) := by
  rw [val_main_v23_apply, val_main_v22_apply]
  exact ref_sum (i 1) _ _ (fun _ => rfl) (fun _ => Fin.ext (flat i)) _ zero_bits _ fun _ => rfl

end Ref

/-- The kernel's results are the reference's. -/
theorem algebraic : Cert.algebraic_Kernel11Ideal_Reference11Ideal := by
  intro m g m' g' _ hagree
  refine ⟨_, _, _, _, Cert.Kernel11Ideal.Value.run_blocks (F := Ideal) m g, ?_⟩
  refine (θ_run Cert.Reference11Ideal.defs _ _).mono
    (fun _ h c => ⟨(h c).1.trans ?_, (h c).2.1.trans ?_, (h c).2.2.1.trans ?_, (h c).2.2.2.1.trans ?_, (h c).2.2.2.2⟩)
    (Cert.Reference11Ideal.Value.run (F := Ideal) m' g')
  · rw [Cert.Reference11Ideal.Read.val_main_v48_eq, (hagree c).1, (hagree c).2.1, (hagree c).2.2.1, (hagree c).2.2.2.2.1, (hagree c).2.2.2.2.2]
    exact (funext (ref_whole _ _ _ _ _)).trans (arr_whole m c).symm
  · rw [(hagree c).1, (hagree c).2.2.1, (hagree c).2.2.2.2.1]
    exact (funext fun i => ref_dgain _ _ _ i).trans (arr_gain m c).symm
  · rw [(hagree c).1, (hagree c).2.1, (hagree c).2.2.2.2.1]
    exact (funext fun i => ref_dscale _ _ _ i).trans (arr_scale m c).symm
  · rw [(hagree c).2.2.2.2.1]
    exact (funext fun i => ref_dshift _ i).trans (arr_shift m c).symm

end NormBwd

end

end
-- ==== Proof.lean ====
/-
  The gradient of the windowed attention with sinks, and the products of the feed-forward layer and of the joint input
  projection with their gradients, and steps of the optimiser, each as one of the kernel's calls computes it: the claims about them, and their
  conjunction.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Join
public import proofs.«01_k».proof.Proof.Gen.Kernel2
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnUp
public import proofs.«01_k».proof.Proof.Gen.Kernel3
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.DwFfnUp
public import proofs.«01_k».proof.Proof.Gen.Kernel4
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.DH2
public import proofs.«01_k».proof.Proof.Gen.Kernel5
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.FfnDown
public import proofs.«01_k».proof.Proof.Gen.Kernel6
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.DwFfnDown
public import proofs.«01_k».proof.Proof.Gen.Kernel7
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.DAct
public import proofs.«01_k».proof.Proof.Gen.Kernel8
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.ProjIn
public import proofs.«01_k».proof.Proof.Gen.Kernel9
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.DwIn
public import proofs.«01_k».proof.Proof.Gen.Kernel10
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.DH1
public import proofs.«01_k».proof.Proof.Gen.Kernel12
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Packed
public import proofs.«01_k».proof.Proof.Gen.Kernel13
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.AdaW
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.ShardFfnUp
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.ShardFfnDown
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.ShardIn
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import proofs.«01_k».proof.Proof.ShardOut
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import proofs.«01_k».proof.Proof.ShardGlu
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import proofs.«01_k».proof.Proof.ShardAttn
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.ShardConv
public import proofs.«01_k».proof.Proof.Gen.Kernel21
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.DwAda
public import proofs.«01_k».proof.Proof.Gen.Kernel11
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.NormBwd
public import Idealize.ShloMosaic.Adequacy
public import Idealize.ShloMosaic.Init

@[expose] public section

noncomputable section

namespace Cert.Proof

open Idealize.ShloMosaic Idealize.ShloMosaic.StableHlo Idealize.SL.Sem

/-- The kernel's side conditions, and those of the others, found as instances below. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Kernel3.Facts := Cert.Kernel3.Gen.facts
local instance : Cert.Kernel3Ideal.Facts := Cert.Kernel3Ideal.Gen.facts
local instance : Cert.Reference3Ideal.Facts := Cert.Reference3Ideal.Gen.facts
local instance : Cert.Kernel4.Facts := Cert.Kernel4.Gen.facts
local instance : Cert.Kernel4Ideal.Facts := Cert.Kernel4Ideal.Gen.facts
local instance : Cert.Reference4Ideal.Facts := Cert.Reference4Ideal.Gen.facts
local instance : Cert.Kernel5.Facts := Cert.Kernel5.Gen.facts
local instance : Cert.Kernel5Ideal.Facts := Cert.Kernel5Ideal.Gen.facts
local instance : Cert.Reference5Ideal.Facts := Cert.Reference5Ideal.Gen.facts
local instance : Cert.Kernel6.Facts := Cert.Kernel6.Gen.facts
local instance : Cert.Kernel6Ideal.Facts := Cert.Kernel6Ideal.Gen.facts
local instance : Cert.Reference6Ideal.Facts := Cert.Reference6Ideal.Gen.facts
local instance : Cert.Kernel7.Facts := Cert.Kernel7.Gen.facts
local instance : Cert.Kernel7Ideal.Facts := Cert.Kernel7Ideal.Gen.facts
local instance : Cert.Reference7Ideal.Facts := Cert.Reference7Ideal.Gen.facts
local instance : Cert.Kernel8.Facts := Cert.Kernel8.Gen.facts
local instance : Cert.Kernel8Ideal.Facts := Cert.Kernel8Ideal.Gen.facts
local instance : Cert.Reference8Ideal.Facts := Cert.Reference8Ideal.Gen.facts
local instance : Cert.Kernel9.Facts := Cert.Kernel9.Gen.facts
local instance : Cert.Kernel9Ideal.Facts := Cert.Kernel9Ideal.Gen.facts
local instance : Cert.Reference9Ideal.Facts := Cert.Reference9Ideal.Gen.facts
local instance : Cert.Kernel10.Facts := Cert.Kernel10.Gen.facts
local instance : Cert.Kernel10Ideal.Facts := Cert.Kernel10Ideal.Gen.facts
local instance : Cert.Reference10Ideal.Facts := Cert.Reference10Ideal.Gen.facts
local instance : Cert.Kernel12.Facts := Cert.Kernel12.Gen.facts
local instance : Cert.Kernel12Ideal.Facts := Cert.Kernel12Ideal.Gen.facts
local instance : Cert.Reference12Ideal.Facts := Cert.Reference12Ideal.Gen.facts
local instance : Cert.Kernel13.Facts := Cert.Kernel13.Gen.facts
local instance : Cert.Kernel13Ideal.Facts := Cert.Kernel13Ideal.Gen.facts
local instance : Cert.Reference13Ideal.Facts := Cert.Reference13Ideal.Gen.facts
local instance : Cert.Kernel14.Facts := Cert.Kernel14.Gen.facts
local instance : Cert.Kernel14Ideal.Facts := Cert.Kernel14Ideal.Gen.facts
local instance : Cert.Reference14Ideal.Facts := Cert.Reference14Ideal.Gen.facts
local instance : Cert.Kernel15.Facts := Cert.Kernel15.Gen.facts
local instance : Cert.Kernel15Ideal.Facts := Cert.Kernel15Ideal.Gen.facts
local instance : Cert.Reference15Ideal.Facts := Cert.Reference15Ideal.Gen.facts
local instance : Cert.Kernel16.Facts := Cert.Kernel16.Gen.facts
local instance : Cert.Kernel16Ideal.Facts := Cert.Kernel16Ideal.Gen.facts
local instance : Cert.Reference16Ideal.Facts := Cert.Reference16Ideal.Gen.facts
local instance : Cert.Kernel17.Facts := Cert.Kernel17.Gen.facts
local instance : Cert.Kernel17Ideal.Facts := Cert.Kernel17Ideal.Gen.facts
local instance : Cert.Reference17Ideal.Facts := Cert.Reference17Ideal.Gen.facts
local instance : Cert.Kernel18.Facts := Cert.Kernel18.Gen.facts
local instance : Cert.Kernel18Ideal.Facts := Cert.Kernel18Ideal.Gen.facts
local instance : Cert.Reference18Ideal.Facts := Cert.Reference18Ideal.Gen.facts
local instance : Cert.Kernel19.Facts := Cert.Kernel19.Gen.facts
local instance : Cert.Kernel19Ideal.Facts := Cert.Kernel19Ideal.Gen.facts
local instance : Cert.Reference19Ideal.Facts := Cert.Reference19Ideal.Gen.facts
local instance : Cert.Kernel20.Facts := Cert.Kernel20.Gen.facts
local instance : Cert.Kernel20Ideal.Facts := Cert.Kernel20Ideal.Gen.facts
local instance : Cert.Reference20Ideal.Facts := Cert.Reference20Ideal.Gen.facts
local instance : Cert.Kernel21.Facts := Cert.Kernel21.Gen.facts
local instance : Cert.Kernel21Ideal.Facts := Cert.Kernel21Ideal.Gen.facts
local instance : Cert.Reference21Ideal.Facts := Cert.Reference21Ideal.Gen.facts
local instance : Cert.Kernel11.Facts := Cert.Kernel11.Gen.facts
local instance : Cert.Kernel11Ideal.Facts := Cert.Kernel11Ideal.Gen.facts
local instance : Cert.Reference11Ideal.Facts := Cert.Reference11Ideal.Gen.facts
local instance : Cert.Pre_finite.Facts := Attn.pre_facts

/-- The kernel runs, faults nowhere and keeps its arguments. -/
theorem frame_kernel : Cert.quiescent_Kernel := fun m ρ _ => Cert.Kernel.Gen.frame m ρ

/-- The same of the idealized kernel. -/
theorem frame_kernel_ideal : Cert.quiescent_KernelIdeal := fun m ρ _ => Cert.KernelIdeal.Gen.frame m ρ

/-- The same of the reference. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The mask's constant is −∞ in the idealized kernel. -/
theorem preserves : Cert.preserves_Kernel_KernelIdeal :=
  IdealRules.named_const.statement Cert.KernelIdeal.κ "mask" .f32 0xF149F2CA#32 ⊥ rfl

/-- On finite arguments the kernel's four gradients are the reference's. -/
theorem algebraic : Cert.algebraic_KernelIdeal_ReferenceIdeal_pre_finite := by
  intro m g m' g' hpre hagree
  refine ⟨_, _, _, _, Cert.KernelIdeal.Value.run_blocks (F := Ideal) m g, ?_⟩
  refine (θ_run Cert.ReferenceIdeal.defs _ _).mono (fun _ h c => ?_) (Cert.ReferenceIdeal.Value.run (F := Ideal) m' g')
  have H := Attn.holds_of_pre _ _ _ _ _ (hpre c).1 (hpre c).2.1 (hpre c).2.2.1 (hpre c).2.2.2.1 (hpre c).2.2.2.2
  have e0 : launchContents m' c (Proc.devRef .tc Cert.ReferenceIdeal.main_arg0) = _ := (launchContents_devRef ..).trans (hagree c).1
  have e1 : launchContents m' c (Proc.devRef .tc Cert.ReferenceIdeal.main_arg1) = _ := (launchContents_devRef ..).trans (hagree c).2.1
  have e2 : launchContents m' c (Proc.devRef .tc Cert.ReferenceIdeal.main_arg2) = _ := (launchContents_devRef ..).trans (hagree c).2.2.1
  have e3 : launchContents m' c (Proc.devRef .tc Cert.ReferenceIdeal.main_arg3) = _ := (launchContents_devRef ..).trans (hagree c).2.2.2.1
  have e4 : launchContents m' c (Proc.devRef .tc Cert.ReferenceIdeal.main_arg4) = _ := (launchContents_devRef ..).trans (hagree c).2.2.2.2
  refine ⟨(h c).1.trans ?_, (h c).2.1.trans ?_, (h c).2.2.1.trans ?_, (h c).2.2.2.1.trans ?_, (h c).2.2.2.2⟩
  · refine (Cert.ReferenceIdeal.Read.val_main_v145_eq (launchContents m' c)).trans ?_
    rw [e0, e1, e2, e3, e4]
    exact (Attn.join_dq H).trans (Attn.arr_dq m c _ H).symm
  · refine (Cert.ReferenceIdeal.Read.val_main_v147_eq (launchContents m' c)).trans ?_
    rw [e0, e1, e2, e3, e4]
    exact (Attn.join_dk H).trans (Attn.arr_dk m c _ H).symm
  · refine (Cert.ReferenceIdeal.Read.val_main_v149_eq (launchContents m' c)).trans ?_
    rw [e0, e1, e3, e4]
    exact (Attn.join_dv H).trans (Attn.arr_dv m c _ H).symm
  · refine (Cert.ReferenceIdeal.Read.val_main_v151_eq (launchContents m' c)).trans ?_
    rw [e0, e1, e2, e3, e4]
    exact (Attn.join_ds H).trans (Attn.arr_ds m c _ H).symm

/-- The call of the feed-forward layer's first product is the same program before and after it is idealized. -/
theorem defs_kernel2 : Cert.Kernel2.defs (F := Bits) = Cert.Kernel2Ideal.defs (F := Bits) :=
  congrArg (Pipeline.defs Cert.Kernel2Ideal.pcfgs) (congrArg (Defs.onTc (sig := Cert.Kernel2Ideal.sig) (Λ := Cert.Kernel2Ideal.Λ₀))
    (funext fun l => funext fun x => match l, x with | 0, (_, _) => rfl))

/-- That call runs, faults nowhere and keeps its arguments. -/
theorem frame_kernel2 : Cert.quiescent_Kernel2 := fun m ρ _ =>
  (congrArg (fun d => θ_run d _ _ _) defs_kernel2).mpr (Cert.Kernel2Ideal.Gen.frame (F := Bits) m ρ)

/-- The same of the idealized one. -/
theorem frame_kernel2_ideal : Cert.quiescent_Kernel2Ideal := fun m ρ _ => Cert.Kernel2Ideal.Gen.frame (F := Ideal) m ρ

/-- The same of its reference. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The call of that layer's first weight's gradient is the same program before and after it is idealized. -/
theorem defs_kernel3 : Cert.Kernel3.defs (F := Bits) = Cert.Kernel3Ideal.defs (F := Bits) :=
  congrArg (Pipeline.defs Cert.Kernel3Ideal.pcfgs) (congrArg (Defs.onTc (sig := Cert.Kernel3Ideal.sig) (Λ := Cert.Kernel3Ideal.Λ₀))
    (funext fun l => funext fun x => match l, x with | 0, (_, _) => rfl))

/-- That call runs, faults nowhere and keeps its arguments. -/
theorem frame_kernel3 : Cert.quiescent_Kernel3 := fun m ρ _ =>
  (congrArg (fun d => θ_run d _ _ _) defs_kernel3).mpr (Cert.Kernel3Ideal.Gen.frame (F := Bits) m ρ)

/-- The same of the idealized one. -/
theorem frame_kernel3_ideal : Cert.quiescent_Kernel3Ideal := fun m ρ _ => Cert.Kernel3Ideal.Gen.frame (F := Ideal) m ρ

/-- The same of its reference. -/
theorem frame_reference3 : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The call of the cotangent of the second norm's rows is the same program before and after it is idealized. -/
theorem defs_kernel4 : Cert.Kernel4.defs (F := Bits) = Cert.Kernel4Ideal.defs (F := Bits) :=
  congrArg (Pipeline.defs Cert.Kernel4Ideal.pcfgs) (congrArg (Defs.onTc (sig := Cert.Kernel4Ideal.sig) (Λ := Cert.Kernel4Ideal.Λ₀))
    (funext fun l => funext fun x => match l, x with | 0, (_, _) => rfl))

/-- That call runs, faults nowhere and keeps its arguments. -/
theorem frame_kernel4 : Cert.quiescent_Kernel4 := fun m ρ _ =>
  (congrArg (fun d => θ_run d _ _ _) defs_kernel4).mpr (Cert.Kernel4Ideal.Gen.frame (F := Bits) m ρ)

/-- The same of the idealized one. -/
theorem frame_kernel4_ideal : Cert.quiescent_Kernel4Ideal := fun m ρ _ => Cert.Kernel4Ideal.Gen.frame (F := Ideal) m ρ

/-- The same of its reference. -/
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The call of the feed-forward layer's second product is the same program before and after it is idealized. -/
theorem defs_kernel5 : Cert.Kernel5.defs (F := Bits) = Cert.Kernel5Ideal.defs (F := Bits) :=
  congrArg (Pipeline.defs Cert.Kernel5Ideal.pcfgs) (congrArg (Defs.onTc (sig := Cert.Kernel5Ideal.sig) (Λ := Cert.Kernel5Ideal.Λ₀))
    (funext fun l => funext fun x => match l, x with | 0, (_, _) => rfl))

/-- That call runs, faults nowhere and keeps its arguments. -/
theorem frame_kernel5 : Cert.quiescent_Kernel5 := fun m ρ _ =>
  (congrArg (fun d => θ_run d _ _ _) defs_kernel5).mpr (Cert.Kernel5Ideal.Gen.frame (F := Bits) m ρ)

/-- The same of the idealized one. -/
theorem frame_kernel5_ideal : Cert.quiescent_Kernel5Ideal := fun m ρ _ => Cert.Kernel5Ideal.Gen.frame (F := Ideal) m ρ

/-- The same of its reference. -/
theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The call of that layer's second weight's gradient is the same program before and after it is idealized. -/
theorem defs_kernel6 : Cert.Kernel6.defs (F := Bits) = Cert.Kernel6Ideal.defs (F := Bits) :=
  congrArg (Pipeline.defs Cert.Kernel6Ideal.pcfgs) (congrArg (Defs.onTc (sig := Cert.Kernel6Ideal.sig) (Λ := Cert.Kernel6Ideal.Λ₀))
    (funext fun l => funext fun x => match l, x with | 0, (_, _) => rfl))

/-- That call runs, faults nowhere and keeps its arguments. -/
theorem frame_kernel6 : Cert.quiescent_Kernel6 := fun m ρ _ =>
  (congrArg (fun d => θ_run d _ _ _) defs_kernel6).mpr (Cert.Kernel6Ideal.Gen.frame (F := Bits) m ρ)

/-- The same of the idealized one. -/
theorem frame_kernel6_ideal : Cert.quiescent_Kernel6Ideal := fun m ρ _ => Cert.Kernel6Ideal.Gen.frame (F := Ideal) m ρ

/-- The same of its reference. -/
theorem frame_reference6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- The call of the cotangent of the gated activations is the same program before and after it is idealized. -/
theorem defs_kernel7 : Cert.Kernel7.defs (F := Bits) = Cert.Kernel7Ideal.defs (F := Bits) :=
  congrArg (Pipeline.defs Cert.Kernel7Ideal.pcfgs) (congrArg (Defs.onTc (sig := Cert.Kernel7Ideal.sig) (Λ := Cert.Kernel7Ideal.Λ₀))
    (funext fun l => funext fun x => match l, x with | 0, (_, _) => rfl))

/-- That call runs, faults nowhere and keeps its arguments. -/
theorem frame_kernel7 : Cert.quiescent_Kernel7 := fun m ρ _ =>
  (congrArg (fun d => θ_run d _ _ _) defs_kernel7).mpr (Cert.Kernel7Ideal.Gen.frame (F := Bits) m ρ)

/-- The same of the idealized one. -/
theorem frame_kernel7_ideal : Cert.quiescent_Kernel7Ideal := fun m ρ _ => Cert.Kernel7Ideal.Gen.frame (F := Ideal) m ρ

/-- The same of its reference. -/
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The call of the joint input projection is the same program before and after it is idealized. -/
theorem defs_kernel8 : Cert.Kernel8.defs (F := Bits) = Cert.Kernel8Ideal.defs (F := Bits) :=
  congrArg (Pipeline.defs Cert.Kernel8Ideal.pcfgs) (congrArg (Defs.onTc (sig := Cert.Kernel8Ideal.sig) (Λ := Cert.Kernel8Ideal.Λ₀))
    (funext fun l => funext fun x => match l, x with | 0, (_, _) => rfl))

/-- That call runs, faults nowhere and keeps its arguments. -/
theorem frame_kernel8 : Cert.quiescent_Kernel8 := fun m ρ _ =>
  (congrArg (fun d => θ_run d _ _ _) defs_kernel8).mpr (Cert.Kernel8Ideal.Gen.frame (F := Bits) m ρ)

/-- The same of the idealized one. -/
theorem frame_kernel8_ideal : Cert.quiescent_Kernel8Ideal := fun m ρ _ => Cert.Kernel8Ideal.Gen.frame (F := Ideal) m ρ

/-- The same of its reference. -/
theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The call of that projection's weight's gradient is the same program before and after it is idealized. -/
theorem defs_kernel9 : Cert.Kernel9.defs (F := Bits) = Cert.Kernel9Ideal.defs (F := Bits) :=
  congrArg (Pipeline.defs Cert.Kernel9Ideal.pcfgs) (congrArg (Defs.onTc (sig := Cert.Kernel9Ideal.sig) (Λ := Cert.Kernel9Ideal.Λ₀))
    (funext fun l => funext fun x => match l, x with | 0, (_, _) => rfl))

/-- That call runs, faults nowhere and keeps its arguments. -/
theorem frame_kernel9 : Cert.quiescent_Kernel9 := fun m ρ _ =>
  (congrArg (fun d => θ_run d _ _ _) defs_kernel9).mpr (Cert.Kernel9Ideal.Gen.frame (F := Bits) m ρ)

/-- The same of the idealized one. -/
theorem frame_kernel9_ideal : Cert.quiescent_Kernel9Ideal := fun m ρ _ => Cert.Kernel9Ideal.Gen.frame (F := Ideal) m ρ

/-- The same of its reference. -/
theorem frame_reference9 : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

/-- The call of the cotangent of the first norm's rows is the same program before and after it is idealized. -/
theorem defs_kernel10 : Cert.Kernel10.defs (F := Bits) = Cert.Kernel10Ideal.defs (F := Bits) :=
  congrArg (Pipeline.defs Cert.Kernel10Ideal.pcfgs) (congrArg (Defs.onTc (sig := Cert.Kernel10Ideal.sig) (Λ := Cert.Kernel10Ideal.Λ₀))
    (funext fun l => funext fun x => match l, x with | 0, (_, _) => rfl))

/-- That call runs, faults nowhere and keeps its arguments. -/
theorem frame_kernel10 : Cert.quiescent_Kernel10 := fun m ρ _ =>
  (congrArg (fun d => θ_run d _ _ _) defs_kernel10).mpr (Cert.Kernel10Ideal.Gen.frame (F := Bits) m ρ)

/-- The same of the idealized one. -/
theorem frame_kernel10_ideal : Cert.quiescent_Kernel10Ideal := fun m ρ _ => Cert.Kernel10Ideal.Gen.frame (F := Ideal) m ρ

/-- The same of its reference. -/
theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The call of the optimiser's step of the packed weights is the same program before and after it is idealized. -/
theorem defs_kernel12 : Cert.Kernel12.defs (F := Bits) = Cert.Kernel12Ideal.defs (F := Bits) :=
  congrArg (Pipeline.defs Cert.Kernel12Ideal.pcfgs) (congrArg (Defs.onTc (sig := Cert.Kernel12Ideal.sig) (Λ := Cert.Kernel12Ideal.Λ₀))
    (funext fun l => funext fun x => match l, x with | 0, (_, _) => rfl))

/-- That call runs, faults nowhere and keeps its arguments. -/
theorem frame_kernel12 : Cert.quiescent_Kernel12 := fun m ρ _ =>
  (congrArg (fun d => θ_run d _ _ _) defs_kernel12).mpr (Cert.Kernel12Ideal.Gen.frame (F := Bits) m ρ)

/-- The same of the idealized one. -/
theorem frame_kernel12_ideal : Cert.quiescent_Kernel12Ideal := fun m ρ _ => Cert.Kernel12Ideal.Gen.frame (F := Ideal) m ρ

/-- The same of its reference. -/
theorem frame_reference12 : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

/-- The call of the optimiser's step of the conditioning's weight is the same program before and after it is idealized. -/
theorem defs_kernel13 : Cert.Kernel13.defs (F := Bits) = Cert.Kernel13Ideal.defs (F := Bits) :=
  congrArg (Pipeline.defs Cert.Kernel13Ideal.pcfgs) (congrArg (Defs.onTc (sig := Cert.Kernel13Ideal.sig) (Λ := Cert.Kernel13Ideal.Λ₀))
    (funext fun l => funext fun x => match l, x with | 0, (_, _) => rfl))

/-- That call runs, faults nowhere and keeps its arguments. -/
theorem frame_kernel13 : Cert.quiescent_Kernel13 := fun m ρ _ =>
  (congrArg (fun d => θ_run d _ _ _) defs_kernel13).mpr (Cert.Kernel13Ideal.Gen.frame (F := Bits) m ρ)

/-- The same of the idealized one. -/
theorem frame_kernel13_ideal : Cert.quiescent_Kernel13Ideal := fun m ρ _ => Cert.Kernel13Ideal.Gen.frame (F := Ideal) m ρ

/-- The same of its reference. -/
theorem frame_reference13 : Cert.quiescent_Reference13Ideal := fun m ρ _ =>
  (θ_run Cert.Reference13Ideal.defs _ _).mono (fun r h => ⟨fun c => (h c).2.2.2.2, Idealize.ShloMosaic.sem_eq_zero_of_no_sems (by decide) r.2⟩)
    (Cert.Reference13Ideal.Value.run (F := Ideal) m ρ)

/-- The call of the optimiser's step of the feed-forward layer's first weight runs, faults nowhere and keeps its arguments. -/
theorem frame_kernel14 : Cert.quiescent_Kernel14 := fun m ρ _ => Cert.Kernel14.Gen.frame m ρ (show Cert.Kernel14Ideal.Gen.Ok m from ShardFfnUp.ok m)

/-- The same of the idealized one. -/
theorem frame_kernel14_ideal : Cert.quiescent_Kernel14Ideal := fun m ρ _ => Cert.Kernel14Ideal.Gen.frame (F := Ideal) m ρ (ShardFfnUp.ok m)

/-- The same of its reference. -/
theorem frame_reference14 : Cert.quiescent_Reference14Ideal := fun m ρ _ =>
  (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

/-- The call of the optimiser's step of the feed-forward layer's second weight runs, faults nowhere and keeps its arguments. -/
theorem frame_kernel15 : Cert.quiescent_Kernel15 := fun m ρ _ => Cert.Kernel15.Gen.frame m ρ (show Cert.Kernel15Ideal.Gen.Ok m from ShardFfnDown.ok m)

/-- The same of the idealized one. -/
theorem frame_kernel15_ideal : Cert.quiescent_Kernel15Ideal := fun m ρ _ => Cert.Kernel15Ideal.Gen.frame (F := Ideal) m ρ (ShardFfnDown.ok m)

/-- The same of its reference. -/
theorem frame_reference15 : Cert.quiescent_Reference15Ideal := fun m ρ _ =>
  (θ_run Cert.Reference15Ideal.defs _ _).mono (fun r h => ⟨fun c => (h c).2.2.2.2, Idealize.ShloMosaic.sem_eq_zero_of_no_sems (by decide) r.2⟩)
    (Cert.Reference15Ideal.Value.run (F := Ideal) m ρ)

/-- The call of the optimiser's step of the joint input projection's weight runs, faults nowhere and keeps its arguments. -/
theorem frame_kernel16 : Cert.quiescent_Kernel16 := fun m ρ _ => Cert.Kernel16.Gen.frame m ρ (show Cert.Kernel16Ideal.Gen.Ok m from ShardIn.ok m)

/-- The same of the idealized one. -/
theorem frame_kernel16_ideal : Cert.quiescent_Kernel16Ideal := fun m ρ _ => Cert.Kernel16Ideal.Gen.frame (F := Ideal) m ρ (ShardIn.ok m)

/-- The same of its reference. -/
theorem frame_reference16 : Cert.quiescent_Reference16Ideal := fun m ρ _ =>
  (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)

/-- The call of the optimiser's step of the output projection's weight runs, faults nowhere and keeps its arguments. -/
theorem frame_kernel17 : Cert.quiescent_Kernel17 := fun m ρ _ => Cert.Kernel17.Gen.frame m ρ (show Cert.Kernel17Ideal.Gen.Ok m from ShardOut.ok m)

/-- The same of the idealized one. -/
theorem frame_kernel17_ideal : Cert.quiescent_Kernel17Ideal := fun m ρ _ => Cert.Kernel17Ideal.Gen.frame (F := Ideal) m ρ (ShardOut.ok m)

/-- The same of its reference. -/
theorem frame_reference17 : Cert.quiescent_Reference17Ideal := fun m ρ _ =>
  (θ_run Cert.Reference17Ideal.defs _ _).mono (fun r h => ⟨fun c => (h c).2.2.2.2, Idealize.ShloMosaic.sem_eq_zero_of_no_sems (by decide) r.2⟩)
    (Cert.Reference17Ideal.Value.run (F := Ideal) m ρ)

/-- The call of the optimiser's step of the state space gate's weight runs, faults nowhere and keeps its arguments. -/
theorem frame_kernel18 : Cert.quiescent_Kernel18 := fun m ρ _ => Cert.Kernel18.Gen.frame m ρ (show Cert.Kernel18Ideal.Gen.Ok m from ShardGlu.ok m)

/-- The same of the idealized one. -/
theorem frame_kernel18_ideal : Cert.quiescent_Kernel18Ideal := fun m ρ _ => Cert.Kernel18Ideal.Gen.frame (F := Ideal) m ρ (ShardGlu.ok m)

/-- The same of its reference. -/
theorem frame_reference18 : Cert.quiescent_Reference18Ideal := fun m ρ _ =>
  (θ_run Cert.Reference18Ideal.defs _ _).mono (fun r h => ⟨fun c => (h c).2.2.2.2, Idealize.ShloMosaic.sem_eq_zero_of_no_sems (by decide) r.2⟩)
    (Cert.Reference18Ideal.Value.run (F := Ideal) m ρ)

/-- The call of the optimiser's step of the attention projection's weight runs, faults nowhere and keeps its arguments. -/
theorem frame_kernel19 : Cert.quiescent_Kernel19 := fun m ρ _ => Cert.Kernel19.Gen.frame m ρ (show Cert.Kernel19Ideal.Gen.Ok m from ShardAttn.ok m)

/-- The same of the idealized one. -/
theorem frame_kernel19_ideal : Cert.quiescent_Kernel19Ideal := fun m ρ _ => Cert.Kernel19Ideal.Gen.frame (F := Ideal) m ρ (ShardAttn.ok m)

/-- The same of its reference. -/
theorem frame_reference19 : Cert.quiescent_Reference19Ideal := fun m ρ _ =>
  (θ_run Cert.Reference19Ideal.defs _ _).mono (fun r h => ⟨fun c => (h c).2.2.2.2, Idealize.ShloMosaic.sem_eq_zero_of_no_sems (by decide) r.2⟩)
    (Cert.Reference19Ideal.Value.run (F := Ideal) m ρ)

/-- The call of the optimiser's step of the convolution's weight runs, faults nowhere and keeps its arguments. -/
theorem frame_kernel20 : Cert.quiescent_Kernel20 := fun m ρ _ => Cert.Kernel20.Gen.frame m ρ (show Cert.Kernel20Ideal.Gen.Ok m from ShardConv.ok m)

/-- The same of the idealized one. -/
theorem frame_kernel20_ideal : Cert.quiescent_Kernel20Ideal := fun m ρ _ => Cert.Kernel20Ideal.Gen.frame (F := Ideal) m ρ (ShardConv.ok m)

/-- The same of its reference. -/
theorem frame_reference20 : Cert.quiescent_Reference20Ideal := fun m ρ _ =>
  (θ_run Cert.Reference20Ideal.defs _ _).mono (fun r h => ⟨fun c => (h c).2.2.2.2, Idealize.ShloMosaic.sem_eq_zero_of_no_sems (by decide) r.2⟩)
    (Cert.Reference20Ideal.Value.run (F := Ideal) m ρ)

/-- The call of the conditioning's weight's gradient is the same program before and after it is idealized. -/
theorem defs_kernel21 : Cert.Kernel21.defs (F := Bits) = Cert.Kernel21Ideal.defs (F := Bits) :=
  congrArg (Pipeline.defs Cert.Kernel21Ideal.pcfgs) (congrArg (Defs.onTc (sig := Cert.Kernel21Ideal.sig) (Λ := Cert.Kernel21Ideal.Λ₀))
    (funext fun l => funext fun x => match l, x with | 0, (_, _) => rfl))

/-- That call runs, faults nowhere and keeps its arguments. -/
theorem frame_kernel21 : Cert.quiescent_Kernel21 := fun m ρ _ =>
  (congrArg (fun d => θ_run d _ _ _) defs_kernel21).mpr (Cert.Kernel21Ideal.Gen.frame (F := Bits) m ρ)

/-- The same of the idealized one. -/
theorem frame_kernel21_ideal : Cert.quiescent_Kernel21Ideal := fun m ρ _ => Cert.Kernel21Ideal.Gen.frame (F := Ideal) m ρ

/-- The same of its reference. -/
theorem frame_reference21 : Cert.quiescent_Reference21Ideal := fun m ρ _ =>
  (θ_run Cert.Reference21Ideal.defs _ _).mono (fun r h => ⟨fun c => (h c).2, Idealize.ShloMosaic.sem_eq_zero_of_no_sems (by decide) r.2⟩)
    (Cert.Reference21Ideal.Value.run (F := Ideal) m ρ)

/-- The call of the first norm's gradient is the same program before and after it is idealized. -/
theorem defs_kernel11 : Cert.Kernel11.defs (F := Bits) = Cert.Kernel11Ideal.defs (F := Bits) :=
  congrArg (Pipeline.defs Cert.Kernel11Ideal.pcfgs) (congrArg (Defs.onTc (sig := Cert.Kernel11Ideal.sig) (Λ := Cert.Kernel11Ideal.Λ₀))
    (funext fun l => funext fun x => match l, x with | 0, (_, _) => rfl))

/-- That call runs, faults nowhere and keeps its arguments. -/
theorem frame_kernel11 : Cert.quiescent_Kernel11 := fun m ρ _ =>
  (congrArg (fun d => θ_run d _ _ _) defs_kernel11).mpr (Cert.Kernel11Ideal.Gen.frame (F := Bits) m ρ)

/-- The same of the idealized one. -/
theorem frame_kernel11_ideal : Cert.quiescent_Kernel11Ideal := fun m ρ _ => Cert.Kernel11Ideal.Gen.frame (F := Ideal) m ρ

/-- The same of its reference. -/
theorem frame_reference11 : Cert.quiescent_Reference11Ideal := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)

/-- The claims, together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
    Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel11.Gen.facts, Cert.Kernel11Ideal.Gen.facts, Cert.Reference11Ideal.Gen.facts,
    Attn.pre_facts,
    frame_kernel, frame_kernel_ideal, fun m ρ _ => frame_kernel_ideal m ρ trivial, frame_reference, fun m ρ _ => frame_reference m ρ trivial,
    frame_kernel2, frame_kernel2_ideal, frame_reference2, frame_kernel3, frame_kernel3_ideal, frame_reference3, frame_kernel4, frame_kernel4_ideal, frame_reference4, frame_kernel5, frame_kernel5_ideal, frame_reference5, frame_kernel6, frame_kernel6_ideal, frame_reference6, frame_kernel7, frame_kernel7_ideal, frame_reference7, frame_kernel8, frame_kernel8_ideal, frame_reference8, frame_kernel9, frame_kernel9_ideal, frame_reference9, frame_kernel10, frame_kernel10_ideal, frame_reference10,
    frame_kernel12, frame_kernel12_ideal, frame_reference12, frame_kernel13, frame_kernel13_ideal, frame_reference13, frame_kernel14, frame_kernel14_ideal, frame_reference14, frame_kernel15, frame_kernel15_ideal, frame_reference15, frame_kernel16, frame_kernel16_ideal, frame_reference16, frame_kernel17, frame_kernel17_ideal, frame_reference17, frame_kernel18, frame_kernel18_ideal, frame_reference18, frame_kernel19, frame_kernel19_ideal, frame_reference19, frame_kernel20, frame_kernel20_ideal, frame_reference20, frame_kernel21, frame_kernel21_ideal, frame_reference21, frame_kernel11, frame_kernel11_ideal, frame_reference11,
    preserves, algebraic,
    trivial, FfnUp.algebraic, trivial, DwFfnUp.algebraic, trivial, DH2.algebraic, trivial, FfnDown.algebraic, trivial, DwFfnDown.algebraic, trivial, DAct.algebraic, trivial, ProjIn.algebraic, trivial, DwIn.algebraic, trivial, DH1.algebraic,
    trivial, Packed.algebraic, trivial, AdaW.algebraic, trivial, ShardFfnUp.algebraic, trivial, ShardFfnDown.algebraic, trivial, ShardIn.algebraic, trivial, ShardOut.algebraic, trivial, ShardGlu.algebraic, trivial, ShardAttn.algebraic, trivial, ShardConv.algebraic, trivial, DwAda.algebraic, trivial, NormBwd.algebraic⟩

end Cert.Proof

end
